-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstReferenceIdeal (m : (ℓ : Loc Cert.FfnFirstReferenceIdeal.nD Cert.FfnFirstReferenceIdeal.τ Cert.FfnFirstReferenceIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastReferenceIdeal (m : (ℓ : Loc Cert.FfnLastReferenceIdeal.nD Cert.FfnLastReferenceIdeal.τ Cert.FfnLastReferenceIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_GdnInReferenceIdeal (m : (ℓ : Loc Cert.GdnInReferenceIdeal.nD Cert.GdnInReferenceIdeal.τ Cert.GdnInReferenceIdeal.sig) → Buf (Elt Ideal) ℓ) : Prop :=
  True

def Pre_GdnOut (m : (ℓ : Loc Cert.GdnOut.nD Cert.GdnOut.τ Cert.GdnOut.sig) → Buf (Elt Bits) ℓ) : Prop :=
  True

def Pre_GdnOutIdeal (m : (ℓ : Loc Cert.GdnOutIdeal.nD Cert.GdnOutIdeal.τ Cert.GdnOutIdeal.sig) → Buf (Elt Ideal) ℓ) : Prop :=
  True

def Pre_GdnOutReferenceIdeal (m : (ℓ : Loc Cert.GdnOutReferenceIdeal.nD Cert.GdnOutReferenceIdeal.τ Cert.GdnOutReferenceIdeal.sig) → Buf (Elt Ideal) ℓ) : Prop :=
  True

def Pre_MobaOut (m : (ℓ : Loc Cert.MobaOut.nD Cert.MobaOut.τ Cert.MobaOut.sig) → Buf (Elt Bits) ℓ) : Prop :=
  True

def Pre_MobaOutIdeal (m : (ℓ : Loc Cert.MobaOutIdeal.nD Cert.MobaOutIdeal.τ Cert.MobaOutIdeal.sig) → Buf (Elt Ideal) ℓ) : Prop :=
  True

def Pre_MobaOutReferenceIdeal (m : (ℓ : Loc Cert.MobaOutReferenceIdeal.nD Cert.MobaOutReferenceIdeal.τ Cert.MobaOutReferenceIdeal.sig) → Buf (Elt Ideal) ℓ) : Prop :=
  True

def Pre_SharedKv (m : (ℓ : Loc Cert.SharedKv.nD Cert.SharedKv.τ Cert.SharedKv.sig) → Buf (Elt Bits) ℓ) : Prop :=
  True

def Pre_SharedKvIdeal (m : (ℓ : Loc Cert.SharedKvIdeal.nD Cert.SharedKvIdeal.τ Cert.SharedKvIdeal.sig) → Buf (Elt Ideal) ℓ) : Prop :=
  True

def Pre_SharedKvReferenceIdeal (m : (ℓ : Loc Cert.SharedKvReferenceIdeal.nD Cert.SharedKvReferenceIdeal.τ Cert.SharedKvReferenceIdeal.sig) → Buf (Elt Ideal) ℓ) : Prop :=
  True

def Pre_MobaQ (m : (ℓ : Loc Cert.MobaQ.nD Cert.MobaQ.τ Cert.MobaQ.sig) → Buf (Elt Bits) ℓ) : Prop :=
  True

def Pre_MobaQIdeal (m : (ℓ : Loc Cert.MobaQIdeal.nD Cert.MobaQIdeal.τ Cert.MobaQIdeal.sig) → Buf (Elt Ideal) ℓ) : Prop :=
  True

def Pre_MobaQReferenceIdeal (m : (ℓ : Loc Cert.MobaQReferenceIdeal.nD Cert.MobaQReferenceIdeal.τ Cert.MobaQReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3))
      ∧ r.2.sem = fun _ => 0)

def quiescent_FfnFirstReferenceIdeal [hFfnFirstReferenceIdeal : Cert.FfnFirstReferenceIdeal.Facts] : Prop :=
  ∀ (m : (ℓ : Loc Cert.FfnFirstReferenceIdeal.nD Cert.FfnFirstReferenceIdeal.τ Cert.FfnFirstReferenceIdeal.sig) → Buf (Elt Ideal) ℓ) (g : Dev Cert.FfnFirstReferenceIdeal.nD → PrngReg), Pre_FfnFirstReferenceIdeal m →
    θ_run (Cert.FfnFirstReferenceIdeal.defs (F := Ideal)) (onTc (τ := Cert.FfnFirstReferenceIdeal.τ) (Cert.FfnFirstReferenceIdeal.main (F := Ideal))) ⟨m, fun _ => 0, g⟩ (fun r => (∀ c : Dev Cert.FfnFirstReferenceIdeal.nD,
      r.2.mem ((c.tc : Thread Cert.FfnFirstReferenceIdeal.nD Cert.FfnFirstReferenceIdeal.τ).loc Cert.FfnFirstReferenceIdeal.main_arg0) = m ((c.tc : Thread Cert.FfnFirstReferenceIdeal.nD Cert.FfnFirstReferenceIdeal.τ).loc Cert.FfnFirstReferenceIdeal.main_arg0)
      ∧ r.2.mem ((c.tc : Thread Cert.FfnFirstReferenceIdeal.nD Cert.FfnFirstReferenceIdeal.τ).loc Cert.FfnFirstReferenceIdeal.main_arg1) = m ((c.tc : Thread Cert.FfnFirstReferenceIdeal.nD Cert.FfnFirstReferenceIdeal.τ).loc Cert.FfnFirstReferenceIdeal.main_arg1)
      ∧ r.2.mem ((c.tc : Thread Cert.FfnFirstReferenceIdeal.nD Cert.FfnFirstReferenceIdeal.τ).loc Cert.FfnFirstReferenceIdeal.main_arg2) = m ((c.tc : Thread Cert.FfnFirstReferenceIdeal.nD Cert.FfnFirstReferenceIdeal.τ).loc Cert.FfnFirstReferenceIdeal.main_arg2)
      ∧ r.2.mem ((c.tc : Thread Cert.FfnFirstReferenceIdeal.nD Cert.FfnFirstReferenceIdeal.τ).loc Cert.FfnFirstReferenceIdeal.main_arg3) = m ((c.tc : Thread Cert.FfnFirstReferenceIdeal.nD Cert.FfnFirstReferenceIdeal.τ).loc Cert.FfnFirstReferenceIdeal.main_arg3))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ r.2.sem = fun _ => 0)

def quiescent_FfnLastReferenceIdeal [hFfnLastReferenceIdeal : Cert.FfnLastReferenceIdeal.Facts] : Prop :=
  ∀ (m : (ℓ : Loc Cert.FfnLastReferenceIdeal.nD Cert.FfnLastReferenceIdeal.τ Cert.FfnLastReferenceIdeal.sig) → Buf (Elt Ideal) ℓ) (g : Dev Cert.FfnLastReferenceIdeal.nD → PrngReg), Pre_FfnLastReferenceIdeal m →
    θ_run (Cert.FfnLastReferenceIdeal.defs (F := Ideal)) (onTc (τ := Cert.FfnLastReferenceIdeal.τ) (Cert.FfnLastReferenceIdeal.main (F := Ideal))) ⟨m, fun _ => 0, g⟩ (fun r => (∀ c : Dev Cert.FfnLastReferenceIdeal.nD,
      r.2.mem ((c.tc : Thread Cert.FfnLastReferenceIdeal.nD Cert.FfnLastReferenceIdeal.τ).loc Cert.FfnLastReferenceIdeal.main_arg0) = m ((c.tc : Thread Cert.FfnLastReferenceIdeal.nD Cert.FfnLastReferenceIdeal.τ).loc Cert.FfnLastReferenceIdeal.main_arg0)
      ∧ r.2.mem ((c.tc : Thread Cert.FfnLastReferenceIdeal.nD Cert.FfnLastReferenceIdeal.τ).loc Cert.FfnLastReferenceIdeal.main_arg1) = m ((c.tc : Thread Cert.FfnLastReferenceIdeal.nD Cert.FfnLastReferenceIdeal.τ).loc Cert.FfnLastReferenceIdeal.main_arg1)
      ∧ r.2.mem ((c.tc : Thread Cert.FfnLastReferenceIdeal.nD Cert.FfnLastReferenceIdeal.τ).loc Cert.FfnLastReferenceIdeal.main_arg2) = m ((c.tc : Thread Cert.FfnLastReferenceIdeal.nD Cert.FfnLastReferenceIdeal.τ).loc Cert.FfnLastReferenceIdeal.main_arg2)
      ∧ r.2.mem ((c.tc : Thread Cert.FfnLastReferenceIdeal.nD Cert.FfnLastReferenceIdeal.τ).loc Cert.FfnLastReferenceIdeal.main_arg3) = m ((c.tc : Thread Cert.FfnLastReferenceIdeal.nD Cert.FfnLastReferenceIdeal.τ).loc Cert.FfnLastReferenceIdeal.main_arg3)
      ∧ r.2.mem ((c.tc : Thread Cert.FfnLastReferenceIdeal.nD Cert.FfnLastReferenceIdeal.τ).loc Cert.FfnLastReferenceIdeal.main_arg4) = m ((c.tc : Thread Cert.FfnLastReferenceIdeal.nD Cert.FfnLastReferenceIdeal.τ).loc Cert.FfnLastReferenceIdeal.main_arg4))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1)
      ∧ r.2.mem ((c.tc : Thread Cert.GdnIn.nD Cert.GdnIn.τ).loc Cert.GdnIn.main_arg2) = m ((c.tc : Thread Cert.GdnIn.nD Cert.GdnIn.τ).loc Cert.GdnIn.main_arg2))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
      ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ r.2.sem = fun _ => 0)

def quiescent_GdnInReferenceIdeal [hGdnInReferenceIdeal : Cert.GdnInReferenceIdeal.Facts] : Prop :=
  ∀ (m : (ℓ : Loc Cert.GdnInReferenceIdeal.nD Cert.GdnInReferenceIdeal.τ Cert.GdnInReferenceIdeal.sig) → Buf (Elt Ideal) ℓ) (g : Dev Cert.GdnInReferenceIdeal.nD → PrngReg), Pre_GdnInReferenceIdeal m →
    θ_run (Cert.GdnInReferenceIdeal.defs (F := Ideal)) (onTc (τ := Cert.GdnInReferenceIdeal.τ) (Cert.GdnInReferenceIdeal.main (F := Ideal))) ⟨m, fun _ => 0, g⟩ (fun r => (∀ c : Dev Cert.GdnInReferenceIdeal.nD,
      r.2.mem ((c.tc : Thread Cert.GdnInReferenceIdeal.nD Cert.GdnInReferenceIdeal.τ).loc Cert.GdnInReferenceIdeal.main_arg0) = m ((c.tc : Thread Cert.GdnInReferenceIdeal.nD Cert.GdnInReferenceIdeal.τ).loc Cert.GdnInReferenceIdeal.main_arg0)
      ∧ r.2.mem ((c.tc : Thread Cert.GdnInReferenceIdeal.nD Cert.GdnInReferenceIdeal.τ).loc Cert.GdnInReferenceIdeal.main_arg1) = m ((c.tc : Thread Cert.GdnInReferenceIdeal.nD Cert.GdnInReferenceIdeal.τ).loc Cert.GdnInReferenceIdeal.main_arg1)
      ∧ r.2.mem ((c.tc : Thread Cert.GdnInReferenceIdeal.nD Cert.GdnInReferenceIdeal.τ).loc Cert.GdnInReferenceIdeal.main_arg2) = m ((c.tc : Thread Cert.GdnInReferenceIdeal.nD Cert.GdnInReferenceIdeal.τ).loc Cert.GdnInReferenceIdeal.main_arg2))
      ∧ r.2.sem = fun _ => 0)

def quiescent_GdnOut [hGdnOut : Cert.GdnOut.Facts] : Prop :=
  ∀ (m : (ℓ : Loc Cert.GdnOut.nD Cert.GdnOut.τ Cert.GdnOut.sig) → Buf (Elt Bits) ℓ) (g : Dev Cert.GdnOut.nD → PrngReg), Pre_GdnOut m →
    θ_run (Cert.GdnOut.defs (F := Bits)) (onTc (τ := Cert.GdnOut.τ) (Cert.GdnOut.main (F := Bits))) ⟨m, fun _ => 0, g⟩ (fun r => (∀ c : Dev Cert.GdnOut.nD,
      r.2.mem ((c.tc : Thread Cert.GdnOut.nD Cert.GdnOut.τ).loc Cert.GdnOut.main_arg0) = m ((c.tc : Thread Cert.GdnOut.nD Cert.GdnOut.τ).loc Cert.GdnOut.main_arg0)
      ∧ r.2.mem ((c.tc : Thread Cert.GdnOut.nD Cert.GdnOut.τ).loc Cert.GdnOut.main_arg1) = m ((c.tc : Thread Cert.GdnOut.nD Cert.GdnOut.τ).loc Cert.GdnOut.main_arg1)
      ∧ r.2.mem ((c.tc : Thread Cert.GdnOut.nD Cert.GdnOut.τ).loc Cert.GdnOut.main_arg2) = m ((c.tc : Thread Cert.GdnOut.nD Cert.GdnOut.τ).loc Cert.GdnOut.main_arg2))
      ∧ r.2.sem = fun _ => 0)

def quiescent_GdnOutIdeal [hGdnOutIdeal : Cert.GdnOutIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg), Pre_GdnOutIdeal m →
    θ_run (Cert.GdnOutIdeal.defs (F := Ideal)) (onTc (τ := Cert.GdnOutIdeal.τ) (Cert.GdnOutIdeal.main (F := Ideal))) ⟨m, fun _ => 0, g⟩ (fun r => (∀ c : Dev Cert.GdnOutIdeal.nD,
      r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
      ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
      ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2))
      ∧ r.2.sem = fun _ => 0)

def quiescent_GdnOutReferenceIdeal [hGdnOutReferenceIdeal : Cert.GdnOutReferenceIdeal.Facts] : Prop :=
  ∀ (m : (ℓ : Loc Cert.GdnOutReferenceIdeal.nD Cert.GdnOutReferenceIdeal.τ Cert.GdnOutReferenceIdeal.sig) → Buf (Elt Ideal) ℓ) (g : Dev Cert.GdnOutReferenceIdeal.nD → PrngReg), Pre_GdnOutReferenceIdeal m →
    θ_run (Cert.GdnOutReferenceIdeal.defs (F := Ideal)) (onTc (τ := Cert.GdnOutReferenceIdeal.τ) (Cert.GdnOutReferenceIdeal.main (F := Ideal))) ⟨m, fun _ => 0, g⟩ (fun r => (∀ c : Dev Cert.GdnOutReferenceIdeal.nD,
      r.2.mem ((c.tc : Thread Cert.GdnOutReferenceIdeal.nD Cert.GdnOutReferenceIdeal.τ).loc Cert.GdnOutReferenceIdeal.main_arg0) = m ((c.tc : Thread Cert.GdnOutReferenceIdeal.nD Cert.GdnOutReferenceIdeal.τ).loc Cert.GdnOutReferenceIdeal.main_arg0)
      ∧ r.2.mem ((c.tc : Thread Cert.GdnOutReferenceIdeal.nD Cert.GdnOutReferenceIdeal.τ).loc Cert.GdnOutReferenceIdeal.main_arg1) = m ((c.tc : Thread Cert.GdnOutReferenceIdeal.nD Cert.GdnOutReferenceIdeal.τ).loc Cert.GdnOutReferenceIdeal.main_arg1)
      ∧ r.2.mem ((c.tc : Thread Cert.GdnOutReferenceIdeal.nD Cert.GdnOutReferenceIdeal.τ).loc Cert.GdnOutReferenceIdeal.main_arg2) = m ((c.tc : Thread Cert.GdnOutReferenceIdeal.nD Cert.GdnOutReferenceIdeal.τ).loc Cert.GdnOutReferenceIdeal.main_arg2))
      ∧ r.2.sem = fun _ => 0)

def quiescent_MobaOut [hMobaOut : Cert.MobaOut.Facts] : Prop :=
  ∀ (m : (ℓ : Loc Cert.MobaOut.nD Cert.MobaOut.τ Cert.MobaOut.sig) → Buf (Elt Bits) ℓ) (g : Dev Cert.MobaOut.nD → PrngReg), Pre_MobaOut m →
    θ_run (Cert.MobaOut.defs (F := Bits)) (onTc (τ := Cert.MobaOut.τ) (Cert.MobaOut.main (F := Bits))) ⟨m, fun _ => 0, g⟩ (fun r => (∀ c : Dev Cert.MobaOut.nD,
      r.2.mem ((c.tc : Thread Cert.MobaOut.nD Cert.MobaOut.τ).loc Cert.MobaOut.main_arg0) = m ((c.tc : Thread Cert.MobaOut.nD Cert.MobaOut.τ).loc Cert.MobaOut.main_arg0)
      ∧ r.2.mem ((c.tc : Thread Cert.MobaOut.nD Cert.MobaOut.τ).loc Cert.MobaOut.main_arg1) = m ((c.tc : Thread Cert.MobaOut.nD Cert.MobaOut.τ).loc Cert.MobaOut.main_arg1)
      ∧ r.2.mem ((c.tc : Thread Cert.MobaOut.nD Cert.MobaOut.τ).loc Cert.MobaOut.main_arg2) = m ((c.tc : Thread Cert.MobaOut.nD Cert.MobaOut.τ).loc Cert.MobaOut.main_arg2))
      ∧ r.2.sem = fun _ => 0)

def quiescent_MobaOutIdeal [hMobaOutIdeal : Cert.MobaOutIdeal.Facts] : Prop :=
  ∀ (m : (ℓ : Loc Cert.MobaOutIdeal.nD Cert.MobaOutIdeal.τ Cert.MobaOutIdeal.sig) → Buf (Elt Ideal) ℓ) (g : Dev Cert.MobaOutIdeal.nD → PrngReg), Pre_MobaOutIdeal m →
    θ_run (Cert.MobaOutIdeal.defs (F := Ideal)) (onTc (τ := Cert.MobaOutIdeal.τ) (Cert.MobaOutIdeal.main (F := Ideal))) ⟨m, fun _ => 0, g⟩ (fun r => (∀ c : Dev Cert.MobaOutIdeal.nD,
      r.2.mem ((c.tc : Thread Cert.MobaOutIdeal.nD Cert.MobaOutIdeal.τ).loc Cert.MobaOutIdeal.main_arg0) = m ((c.tc : Thread Cert.MobaOutIdeal.nD Cert.MobaOutIdeal.τ).loc Cert.MobaOutIdeal.main_arg0)
      ∧ r.2.mem ((c.tc : Thread Cert.MobaOutIdeal.nD Cert.MobaOutIdeal.τ).loc Cert.MobaOutIdeal.main_arg1) = m ((c.tc : Thread Cert.MobaOutIdeal.nD Cert.MobaOutIdeal.τ).loc Cert.MobaOutIdeal.main_arg1)
      ∧ r.2.mem ((c.tc : Thread Cert.MobaOutIdeal.nD Cert.MobaOutIdeal.τ).loc Cert.MobaOutIdeal.main_arg2) = m ((c.tc : Thread Cert.MobaOutIdeal.nD Cert.MobaOutIdeal.τ).loc Cert.MobaOutIdeal.main_arg2))
      ∧ r.2.sem = fun _ => 0)

def quiescent_MobaOutReferenceIdeal [hMobaOutReferenceIdeal : Cert.MobaOutReferenceIdeal.Facts] : Prop :=
  ∀ (m : (ℓ : Loc Cert.MobaOutReferenceIdeal.nD Cert.MobaOutReferenceIdeal.τ Cert.MobaOutReferenceIdeal.sig) → Buf (Elt Ideal) ℓ) (g : Dev Cert.MobaOutReferenceIdeal.nD → PrngReg), Pre_MobaOutReferenceIdeal m →
    θ_run (Cert.MobaOutReferenceIdeal.defs (F := Ideal)) (onTc (τ := Cert.MobaOutReferenceIdeal.τ) (Cert.MobaOutReferenceIdeal.main (F := Ideal))) ⟨m, fun _ => 0, g⟩ (fun r => (∀ c : Dev Cert.MobaOutReferenceIdeal.nD,
      r.2.mem ((c.tc : Thread Cert.MobaOutReferenceIdeal.nD Cert.MobaOutReferenceIdeal.τ).loc Cert.MobaOutReferenceIdeal.main_arg0) = m ((c.tc : Thread Cert.MobaOutReferenceIdeal.nD Cert.MobaOutReferenceIdeal.τ).loc Cert.MobaOutReferenceIdeal.main_arg0)
      ∧ r.2.mem ((c.tc : Thread Cert.MobaOutReferenceIdeal.nD Cert.MobaOutReferenceIdeal.τ).loc Cert.MobaOutReferenceIdeal.main_arg1) = m ((c.tc : Thread Cert.MobaOutReferenceIdeal.nD Cert.MobaOutReferenceIdeal.τ).loc Cert.MobaOutReferenceIdeal.main_arg1)
      ∧ r.2.mem ((c.tc : Thread Cert.MobaOutReferenceIdeal.nD Cert.MobaOutReferenceIdeal.τ).loc Cert.MobaOutReferenceIdeal.main_arg2) = m ((c.tc : Thread Cert.MobaOutReferenceIdeal.nD Cert.MobaOutReferenceIdeal.τ).loc Cert.MobaOutReferenceIdeal.main_arg2))
      ∧ r.2.sem = fun _ => 0)

def quiescent_SharedKv [hSharedKv : Cert.SharedKv.Facts] : Prop :=
  ∀ (m : (ℓ : Loc Cert.SharedKv.nD Cert.SharedKv.τ Cert.SharedKv.sig) → Buf (Elt Bits) ℓ) (g : Dev Cert.SharedKv.nD → PrngReg), Pre_SharedKv m →
    θ_run (Cert.SharedKv.defs (F := Bits)) (onTc (τ := Cert.SharedKv.τ) (Cert.SharedKv.main (F := Bits))) ⟨m, fun _ => 0, g⟩ (fun r => (∀ c : Dev Cert.SharedKv.nD,
      r.2.mem ((c.tc : Thread Cert.SharedKv.nD Cert.SharedKv.τ).loc Cert.SharedKv.main_arg0) = m ((c.tc : Thread Cert.SharedKv.nD Cert.SharedKv.τ).loc Cert.SharedKv.main_arg0)
      ∧ r.2.mem ((c.tc : Thread Cert.SharedKv.nD Cert.SharedKv.τ).loc Cert.SharedKv.main_arg1) = m ((c.tc : Thread Cert.SharedKv.nD Cert.SharedKv.τ).loc Cert.SharedKv.main_arg1)
      ∧ r.2.mem ((c.tc : Thread Cert.SharedKv.nD Cert.SharedKv.τ).loc Cert.SharedKv.main_arg2) = m ((c.tc : Thread Cert.SharedKv.nD Cert.SharedKv.τ).loc Cert.SharedKv.main_arg2))
      ∧ r.2.sem = fun _ => 0)

def quiescent_SharedKvIdeal [hSharedKvIdeal : Cert.SharedKvIdeal.Facts] : Prop :=
  ∀ (m : (ℓ : Loc Cert.SharedKvIdeal.nD Cert.SharedKvIdeal.τ Cert.SharedKvIdeal.sig) → Buf (Elt Ideal) ℓ) (g : Dev Cert.SharedKvIdeal.nD → PrngReg), Pre_SharedKvIdeal m →
    θ_run (Cert.SharedKvIdeal.defs (F := Ideal)) (onTc (τ := Cert.SharedKvIdeal.τ) (Cert.SharedKvIdeal.main (F := Ideal))) ⟨m, fun _ => 0, g⟩ (fun r => (∀ c : Dev Cert.SharedKvIdeal.nD,
      r.2.mem ((c.tc : Thread Cert.SharedKvIdeal.nD Cert.SharedKvIdeal.τ).loc Cert.SharedKvIdeal.main_arg0) = m ((c.tc : Thread Cert.SharedKvIdeal.nD Cert.SharedKvIdeal.τ).loc Cert.SharedKvIdeal.main_arg0)
      ∧ r.2.mem ((c.tc : Thread Cert.SharedKvIdeal.nD Cert.SharedKvIdeal.τ).loc Cert.SharedKvIdeal.main_arg1) = m ((c.tc : Thread Cert.SharedKvIdeal.nD Cert.SharedKvIdeal.τ).loc Cert.SharedKvIdeal.main_arg1)
      ∧ r.2.mem ((c.tc : Thread Cert.SharedKvIdeal.nD Cert.SharedKvIdeal.τ).loc Cert.SharedKvIdeal.main_arg2) = m ((c.tc : Thread Cert.SharedKvIdeal.nD Cert.SharedKvIdeal.τ).loc Cert.SharedKvIdeal.main_arg2))
      ∧ r.2.sem = fun _ => 0)

def quiescent_SharedKvReferenceIdeal [hSharedKvReferenceIdeal : Cert.SharedKvReferenceIdeal.Facts] : Prop :=
  ∀ (m : (ℓ : Loc Cert.SharedKvReferenceIdeal.nD Cert.SharedKvReferenceIdeal.τ Cert.SharedKvReferenceIdeal.sig) → Buf (Elt Ideal) ℓ) (g : Dev Cert.SharedKvReferenceIdeal.nD → PrngReg), Pre_SharedKvReferenceIdeal m →
    θ_run (Cert.SharedKvReferenceIdeal.defs (F := Ideal)) (onTc (τ := Cert.SharedKvReferenceIdeal.τ) (Cert.SharedKvReferenceIdeal.main (F := Ideal))) ⟨m, fun _ => 0, g⟩ (fun r => (∀ c : Dev Cert.SharedKvReferenceIdeal.nD,
      r.2.mem ((c.tc : Thread Cert.SharedKvReferenceIdeal.nD Cert.SharedKvReferenceIdeal.τ).loc Cert.SharedKvReferenceIdeal.main_arg0) = m ((c.tc : Thread Cert.SharedKvReferenceIdeal.nD Cert.SharedKvReferenceIdeal.τ).loc Cert.SharedKvReferenceIdeal.main_arg0)
      ∧ r.2.mem ((c.tc : Thread Cert.SharedKvReferenceIdeal.nD Cert.SharedKvReferenceIdeal.τ).loc Cert.SharedKvReferenceIdeal.main_arg1) = m ((c.tc : Thread Cert.SharedKvReferenceIdeal.nD Cert.SharedKvReferenceIdeal.τ).loc Cert.SharedKvReferenceIdeal.main_arg1)
      ∧ r.2.mem ((c.tc : Thread Cert.SharedKvReferenceIdeal.nD Cert.SharedKvReferenceIdeal.τ).loc Cert.SharedKvReferenceIdeal.main_arg2) = m ((c.tc : Thread Cert.SharedKvReferenceIdeal.nD Cert.SharedKvReferenceIdeal.τ).loc Cert.SharedKvReferenceIdeal.main_arg2))
      ∧ r.2.sem = fun _ => 0)

def quiescent_MobaQ [hMobaQ : Cert.MobaQ.Facts] : Prop :=
  ∀ (m : (ℓ : Loc Cert.MobaQ.nD Cert.MobaQ.τ Cert.MobaQ.sig) → Buf (Elt Bits) ℓ) (g : Dev Cert.MobaQ.nD → PrngReg), Pre_MobaQ m →
    θ_run (Cert.MobaQ.defs (F := Bits)) (onTc (τ := Cert.MobaQ.τ) (Cert.MobaQ.main (F := Bits))) ⟨m, fun _ => 0, g⟩ (fun r => (∀ c : Dev Cert.MobaQ.nD,
      r.2.mem ((c.tc : Thread Cert.MobaQ.nD Cert.MobaQ.τ).loc Cert.MobaQ.main_arg0) = m ((c.tc : Thread Cert.MobaQ.nD Cert.MobaQ.τ).loc Cert.MobaQ.main_arg0)
      ∧ r.2.mem ((c.tc : Thread Cert.MobaQ.nD Cert.MobaQ.τ).loc Cert.MobaQ.main_arg1) = m ((c.tc : Thread Cert.MobaQ.nD Cert.MobaQ.τ).loc Cert.MobaQ.main_arg1)
      ∧ r.2.mem ((c.tc : Thread Cert.MobaQ.nD Cert.MobaQ.τ).loc Cert.MobaQ.main_arg2) = m ((c.tc : Thread Cert.MobaQ.nD Cert.MobaQ.τ).loc Cert.MobaQ.main_arg2))
      ∧ r.2.sem = fun _ => 0)

def quiescent_MobaQIdeal [hMobaQIdeal : Cert.MobaQIdeal.Facts] : Prop :=
  ∀ (m : (ℓ : Loc Cert.MobaQIdeal.nD Cert.MobaQIdeal.τ Cert.MobaQIdeal.sig) → Buf (Elt Ideal) ℓ) (g : Dev Cert.MobaQIdeal.nD → PrngReg), Pre_MobaQIdeal m →
    θ_run (Cert.MobaQIdeal.defs (F := Ideal)) (onTc (τ := Cert.MobaQIdeal.τ) (Cert.MobaQIdeal.main (F := Ideal))) ⟨m, fun _ => 0, g⟩ (fun r => (∀ c : Dev Cert.MobaQIdeal.nD,
      r.2.mem ((c.tc : Thread Cert.MobaQIdeal.nD Cert.MobaQIdeal.τ).loc Cert.MobaQIdeal.main_arg0) = m ((c.tc : Thread Cert.MobaQIdeal.nD Cert.MobaQIdeal.τ).loc Cert.MobaQIdeal.main_arg0)
      ∧ r.2.mem ((c.tc : Thread Cert.MobaQIdeal.nD Cert.MobaQIdeal.τ).loc Cert.MobaQIdeal.main_arg1) = m ((c.tc : Thread Cert.MobaQIdeal.nD Cert.MobaQIdeal.τ).loc Cert.MobaQIdeal.main_arg1)
      ∧ r.2.mem ((c.tc : Thread Cert.MobaQIdeal.nD Cert.MobaQIdeal.τ).loc Cert.MobaQIdeal.main_arg2) = m ((c.tc : Thread Cert.MobaQIdeal.nD Cert.MobaQIdeal.τ).loc Cert.MobaQIdeal.main_arg2))
      ∧ r.2.sem = fun _ => 0)

def quiescent_MobaQReferenceIdeal [hMobaQReferenceIdeal : Cert.MobaQReferenceIdeal.Facts] : Prop :=
  ∀ (m : (ℓ : Loc Cert.MobaQReferenceIdeal.nD Cert.MobaQReferenceIdeal.τ Cert.MobaQReferenceIdeal.sig) → Buf (Elt Ideal) ℓ) (g : Dev Cert.MobaQReferenceIdeal.nD → PrngReg), Pre_MobaQReferenceIdeal m →
    θ_run (Cert.MobaQReferenceIdeal.defs (F := Ideal)) (onTc (τ := Cert.MobaQReferenceIdeal.τ) (Cert.MobaQReferenceIdeal.main (F := Ideal))) ⟨m, fun _ => 0, g⟩ (fun r => (∀ c : Dev Cert.MobaQReferenceIdeal.nD,
      r.2.mem ((c.tc : Thread Cert.MobaQReferenceIdeal.nD Cert.MobaQReferenceIdeal.τ).loc Cert.MobaQReferenceIdeal.main_arg0) = m ((c.tc : Thread Cert.MobaQReferenceIdeal.nD Cert.MobaQReferenceIdeal.τ).loc Cert.MobaQReferenceIdeal.main_arg0)
      ∧ r.2.mem ((c.tc : Thread Cert.MobaQReferenceIdeal.nD Cert.MobaQReferenceIdeal.τ).loc Cert.MobaQReferenceIdeal.main_arg1) = m ((c.tc : Thread Cert.MobaQReferenceIdeal.nD Cert.MobaQReferenceIdeal.τ).loc Cert.MobaQReferenceIdeal.main_arg1)
      ∧ r.2.mem ((c.tc : Thread Cert.MobaQReferenceIdeal.nD Cert.MobaQReferenceIdeal.τ).loc Cert.MobaQReferenceIdeal.main_arg2) = m ((c.tc : Thread Cert.MobaQReferenceIdeal.nD Cert.MobaQReferenceIdeal.τ).loc Cert.MobaQReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnFirst_FfnFirstIdeal : Prop :=
  True

def algebraic_FfnFirstIdeal_FfnFirstReferenceIdeal [hFfnFirstIdeal : Cert.FfnFirstIdeal.Facts] [hFfnFirstReferenceIdeal : Cert.FfnFirstReferenceIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstReferenceIdeal.nD Cert.FfnFirstReferenceIdeal.τ Cert.FfnFirstReferenceIdeal.sig) → Buf (Elt Ideal) ℓ) (g' : Dev Cert.FfnFirstReferenceIdeal.nD → PrngReg), Pre_FfnFirstIdeal m →
    (∀ c : Dev Cert.FfnFirstIdeal.nD,
      m' ((c.tc : Thread Cert.FfnFirstReferenceIdeal.nD Cert.FfnFirstReferenceIdeal.τ).loc Cert.FfnFirstReferenceIdeal.main_arg0) = m ((c.tc : Thread Cert.FfnFirstIdeal.nD Cert.FfnFirstIdeal.τ).loc Cert.FfnFirstIdeal.main_arg0)
      ∧ m' ((c.tc : Thread Cert.FfnFirstReferenceIdeal.nD Cert.FfnFirstReferenceIdeal.τ).loc Cert.FfnFirstReferenceIdeal.main_arg1) = m ((c.tc : Thread Cert.FfnFirstIdeal.nD Cert.FfnFirstIdeal.τ).loc Cert.FfnFirstIdeal.main_arg1)
      ∧ m' ((c.tc : Thread Cert.FfnFirstReferenceIdeal.nD Cert.FfnFirstReferenceIdeal.τ).loc Cert.FfnFirstReferenceIdeal.main_arg2) = m ((c.tc : Thread Cert.FfnFirstIdeal.nD Cert.FfnFirstIdeal.τ).loc Cert.FfnFirstIdeal.main_arg2)
      ∧ m' ((c.tc : Thread Cert.FfnFirstReferenceIdeal.nD Cert.FfnFirstReferenceIdeal.τ).loc Cert.FfnFirstReferenceIdeal.main_arg3) = m ((c.tc : Thread Cert.FfnFirstIdeal.nD Cert.FfnFirstIdeal.τ).loc Cert.FfnFirstIdeal.main_arg3)) →
    ∃ (v0 : (c : Dev Cert.FfnFirstIdeal.nD) → Buf (Elt Ideal) ((c.tc : Thread Cert.FfnFirstIdeal.nD Cert.FfnFirstIdeal.τ).loc Cert.FfnFirstIdeal.main_v4)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v4) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3))
      ∧ θ_run (Cert.FfnFirstReferenceIdeal.defs (F := Ideal)) (onTc (τ := Cert.FfnFirstReferenceIdeal.τ) (Cert.FfnFirstReferenceIdeal.main (F := Ideal))) ⟨m', fun _ => 0, g'⟩ (fun r => ∀ c : Dev Cert.FfnFirstReferenceIdeal.nD,
          r.2.mem ((c.tc : Thread Cert.FfnFirstReferenceIdeal.nD Cert.FfnFirstReferenceIdeal.τ).loc Cert.FfnFirstReferenceIdeal.main_v27) = v0 c
          ∧ r.2.mem ((c.tc : Thread Cert.FfnFirstReferenceIdeal.nD Cert.FfnFirstReferenceIdeal.τ).loc Cert.FfnFirstReferenceIdeal.main_arg0) = m' ((c.tc : Thread Cert.FfnFirstReferenceIdeal.nD Cert.FfnFirstReferenceIdeal.τ).loc Cert.FfnFirstReferenceIdeal.main_arg0)
          ∧ r.2.mem ((c.tc : Thread Cert.FfnFirstReferenceIdeal.nD Cert.FfnFirstReferenceIdeal.τ).loc Cert.FfnFirstReferenceIdeal.main_arg1) = m' ((c.tc : Thread Cert.FfnFirstReferenceIdeal.nD Cert.FfnFirstReferenceIdeal.τ).loc Cert.FfnFirstReferenceIdeal.main_arg1)
          ∧ r.2.mem ((c.tc : Thread Cert.FfnFirstReferenceIdeal.nD Cert.FfnFirstReferenceIdeal.τ).loc Cert.FfnFirstReferenceIdeal.main_arg2) = m' ((c.tc : Thread Cert.FfnFirstReferenceIdeal.nD Cert.FfnFirstReferenceIdeal.τ).loc Cert.FfnFirstReferenceIdeal.main_arg2)
          ∧ r.2.mem ((c.tc : Thread Cert.FfnFirstReferenceIdeal.nD Cert.FfnFirstReferenceIdeal.τ).loc Cert.FfnFirstReferenceIdeal.main_arg3) = m' ((c.tc : Thread Cert.FfnFirstReferenceIdeal.nD Cert.FfnFirstReferenceIdeal.τ).loc Cert.FfnFirstReferenceIdeal.main_arg3))

def preserves_FfnLast_FfnLastIdeal : Prop :=
  True

def algebraic_FfnLastIdeal_FfnLastReferenceIdeal [hFfnLastIdeal : Cert.FfnLastIdeal.Facts] [hFfnLastReferenceIdeal : Cert.FfnLastReferenceIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastReferenceIdeal.nD Cert.FfnLastReferenceIdeal.τ Cert.FfnLastReferenceIdeal.sig) → Buf (Elt Ideal) ℓ) (g' : Dev Cert.FfnLastReferenceIdeal.nD → PrngReg), Pre_FfnLastIdeal m →
    (∀ c : Dev Cert.FfnLastIdeal.nD,
      m' ((c.tc : Thread Cert.FfnLastReferenceIdeal.nD Cert.FfnLastReferenceIdeal.τ).loc Cert.FfnLastReferenceIdeal.main_arg0) = m ((c.tc : Thread Cert.FfnLastIdeal.nD Cert.FfnLastIdeal.τ).loc Cert.FfnLastIdeal.main_arg0)
      ∧ m' ((c.tc : Thread Cert.FfnLastReferenceIdeal.nD Cert.FfnLastReferenceIdeal.τ).loc Cert.FfnLastReferenceIdeal.main_arg1) = m ((c.tc : Thread Cert.FfnLastIdeal.nD Cert.FfnLastIdeal.τ).loc Cert.FfnLastIdeal.main_arg1)
      ∧ m' ((c.tc : Thread Cert.FfnLastReferenceIdeal.nD Cert.FfnLastReferenceIdeal.τ).loc Cert.FfnLastReferenceIdeal.main_arg2) = m ((c.tc : Thread Cert.FfnLastIdeal.nD Cert.FfnLastIdeal.τ).loc Cert.FfnLastIdeal.main_arg2)
      ∧ m' ((c.tc : Thread Cert.FfnLastReferenceIdeal.nD Cert.FfnLastReferenceIdeal.τ).loc Cert.FfnLastReferenceIdeal.main_arg3) = m ((c.tc : Thread Cert.FfnLastIdeal.nD Cert.FfnLastIdeal.τ).loc Cert.FfnLastIdeal.main_arg3)
      ∧ m' ((c.tc : Thread Cert.FfnLastReferenceIdeal.nD Cert.FfnLastReferenceIdeal.τ).loc Cert.FfnLastReferenceIdeal.main_arg4) = m ((c.tc : Thread Cert.FfnLastIdeal.nD Cert.FfnLastIdeal.τ).loc Cert.FfnLastIdeal.main_arg4)) →
    ∃ (v0 : (c : Dev Cert.FfnLastIdeal.nD) → Buf (Elt Ideal) ((c.tc : Thread Cert.FfnLastIdeal.nD Cert.FfnLastIdeal.τ).loc Cert.FfnLastIdeal.main_v4)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v4) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4))
      ∧ θ_run (Cert.FfnLastReferenceIdeal.defs (F := Ideal)) (onTc (τ := Cert.FfnLastReferenceIdeal.τ) (Cert.FfnLastReferenceIdeal.main (F := Ideal))) ⟨m', fun _ => 0, g'⟩ (fun r => ∀ c : Dev Cert.FfnLastReferenceIdeal.nD,
          r.2.mem ((c.tc : Thread Cert.FfnLastReferenceIdeal.nD Cert.FfnLastReferenceIdeal.τ).loc Cert.FfnLastReferenceIdeal.main_v40) = v0 c
          ∧ r.2.mem ((c.tc : Thread Cert.FfnLastReferenceIdeal.nD Cert.FfnLastReferenceIdeal.τ).loc Cert.FfnLastReferenceIdeal.main_arg0) = m' ((c.tc : Thread Cert.FfnLastReferenceIdeal.nD Cert.FfnLastReferenceIdeal.τ).loc Cert.FfnLastReferenceIdeal.main_arg0)
          ∧ r.2.mem ((c.tc : Thread Cert.FfnLastReferenceIdeal.nD Cert.FfnLastReferenceIdeal.τ).loc Cert.FfnLastReferenceIdeal.main_arg1) = m' ((c.tc : Thread Cert.FfnLastReferenceIdeal.nD Cert.FfnLastReferenceIdeal.τ).loc Cert.FfnLastReferenceIdeal.main_arg1)
          ∧ r.2.mem ((c.tc : Thread Cert.FfnLastReferenceIdeal.nD Cert.FfnLastReferenceIdeal.τ).loc Cert.FfnLastReferenceIdeal.main_arg2) = m' ((c.tc : Thread Cert.FfnLastReferenceIdeal.nD Cert.FfnLastReferenceIdeal.τ).loc Cert.FfnLastReferenceIdeal.main_arg2)
          ∧ r.2.mem ((c.tc : Thread Cert.FfnLastReferenceIdeal.nD Cert.FfnLastReferenceIdeal.τ).loc Cert.FfnLastReferenceIdeal.main_arg3) = m' ((c.tc : Thread Cert.FfnLastReferenceIdeal.nD Cert.FfnLastReferenceIdeal.τ).loc Cert.FfnLastReferenceIdeal.main_arg3)
          ∧ r.2.mem ((c.tc : Thread Cert.FfnLastReferenceIdeal.nD Cert.FfnLastReferenceIdeal.τ).loc Cert.FfnLastReferenceIdeal.main_arg4) = m' ((c.tc : Thread Cert.FfnLastReferenceIdeal.nD Cert.FfnLastReferenceIdeal.τ).loc Cert.FfnLastReferenceIdeal.main_arg4))

def preserves_GdnIn_GdnInIdeal : Prop :=
  True

def algebraic_GdnInIdeal_GdnInReferenceIdeal [hGdnInIdeal : Cert.GdnInIdeal.Facts] [hGdnInReferenceIdeal : Cert.GdnInReferenceIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.GdnInReferenceIdeal.nD Cert.GdnInReferenceIdeal.τ Cert.GdnInReferenceIdeal.sig) → Buf (Elt Ideal) ℓ) (g' : Dev Cert.GdnInReferenceIdeal.nD → PrngReg), Pre_GdnInIdeal m →
    (∀ c : Dev Cert.GdnInIdeal.nD,
      m' ((c.tc : Thread Cert.GdnInReferenceIdeal.nD Cert.GdnInReferenceIdeal.τ).loc Cert.GdnInReferenceIdeal.main_arg0) = m ((c.tc : Thread Cert.GdnInIdeal.nD Cert.GdnInIdeal.τ).loc Cert.GdnInIdeal.main_arg0)
      ∧ m' ((c.tc : Thread Cert.GdnInReferenceIdeal.nD Cert.GdnInReferenceIdeal.τ).loc Cert.GdnInReferenceIdeal.main_arg1) = m ((c.tc : Thread Cert.GdnInIdeal.nD Cert.GdnInIdeal.τ).loc Cert.GdnInIdeal.main_arg1)
      ∧ m' ((c.tc : Thread Cert.GdnInReferenceIdeal.nD Cert.GdnInReferenceIdeal.τ).loc Cert.GdnInReferenceIdeal.main_arg2) = m ((c.tc : Thread Cert.GdnInIdeal.nD Cert.GdnInIdeal.τ).loc Cert.GdnInIdeal.main_arg2)) →
    ∃ (v0 : (c : Dev Cert.GdnInIdeal.nD) → Buf (Elt Ideal) ((c.tc : Thread Cert.GdnInIdeal.nD Cert.GdnInIdeal.τ).loc Cert.GdnInIdeal.main_v4_0)) (v1 : (c : Dev Cert.GdnInIdeal.nD) → Buf (Elt Ideal) ((c.tc : Thread Cert.GdnInIdeal.nD Cert.GdnInIdeal.τ).loc Cert.GdnInIdeal.main_v4_1)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v4_0) = v0 c
          ∧ r.2.mem ((c.tc : Thread Cert.GdnInIdeal.nD Cert.GdnInIdeal.τ).loc Cert.GdnInIdeal.main_v4_1) = v1 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1)
          ∧ r.2.mem ((c.tc : Thread Cert.GdnInIdeal.nD Cert.GdnInIdeal.τ).loc Cert.GdnInIdeal.main_arg2) = m ((c.tc : Thread Cert.GdnInIdeal.nD Cert.GdnInIdeal.τ).loc Cert.GdnInIdeal.main_arg2))
      ∧ θ_run (Cert.GdnInReferenceIdeal.defs (F := Ideal)) (onTc (τ := Cert.GdnInReferenceIdeal.τ) (Cert.GdnInReferenceIdeal.main (F := Ideal))) ⟨m', fun _ => 0, g'⟩ (fun r => ∀ c : Dev Cert.GdnInReferenceIdeal.nD,
          r.2.mem ((c.tc : Thread Cert.GdnInReferenceIdeal.nD Cert.GdnInReferenceIdeal.τ).loc Cert.GdnInReferenceIdeal.main_v18) = v0 c
          ∧ r.2.mem ((c.tc : Thread Cert.GdnInReferenceIdeal.nD Cert.GdnInReferenceIdeal.τ).loc Cert.GdnInReferenceIdeal.main_v19) = v1 c
          ∧ r.2.mem ((c.tc : Thread Cert.GdnInReferenceIdeal.nD Cert.GdnInReferenceIdeal.τ).loc Cert.GdnInReferenceIdeal.main_arg0) = m' ((c.tc : Thread Cert.GdnInReferenceIdeal.nD Cert.GdnInReferenceIdeal.τ).loc Cert.GdnInReferenceIdeal.main_arg0)
          ∧ r.2.mem ((c.tc : Thread Cert.GdnInReferenceIdeal.nD Cert.GdnInReferenceIdeal.τ).loc Cert.GdnInReferenceIdeal.main_arg1) = m' ((c.tc : Thread Cert.GdnInReferenceIdeal.nD Cert.GdnInReferenceIdeal.τ).loc Cert.GdnInReferenceIdeal.main_arg1)
          ∧ r.2.mem ((c.tc : Thread Cert.GdnInReferenceIdeal.nD Cert.GdnInReferenceIdeal.τ).loc Cert.GdnInReferenceIdeal.main_arg2) = m' ((c.tc : Thread Cert.GdnInReferenceIdeal.nD Cert.GdnInReferenceIdeal.τ).loc Cert.GdnInReferenceIdeal.main_arg2))

def preserves_GdnOut_GdnOutIdeal : Prop :=
  True

def algebraic_GdnOutIdeal_GdnOutReferenceIdeal [hGdnOutIdeal : Cert.GdnOutIdeal.Facts] [hGdnOutReferenceIdeal : Cert.GdnOutReferenceIdeal.Facts] : Prop :=
  ∀ (m : (ℓ : Loc Cert.GdnOutIdeal.nD Cert.GdnOutIdeal.τ Cert.GdnOutIdeal.sig) → Buf (Elt Ideal) ℓ) (g : Dev Cert.GdnOutIdeal.nD → PrngReg)
    (m' : (ℓ : Loc Cert.GdnOutReferenceIdeal.nD Cert.GdnOutReferenceIdeal.τ Cert.GdnOutReferenceIdeal.sig) → Buf (Elt Ideal) ℓ) (g' : Dev Cert.GdnOutReferenceIdeal.nD → PrngReg), Pre_GdnOutIdeal m →
    (∀ c : Dev Cert.GdnOutIdeal.nD,
      m' ((c.tc : Thread Cert.GdnOutReferenceIdeal.nD Cert.GdnOutReferenceIdeal.τ).loc Cert.GdnOutReferenceIdeal.main_arg0) = m ((c.tc : Thread Cert.GdnOutIdeal.nD Cert.GdnOutIdeal.τ).loc Cert.GdnOutIdeal.main_arg0)
      ∧ m' ((c.tc : Thread Cert.GdnOutReferenceIdeal.nD Cert.GdnOutReferenceIdeal.τ).loc Cert.GdnOutReferenceIdeal.main_arg1) = m ((c.tc : Thread Cert.GdnOutIdeal.nD Cert.GdnOutIdeal.τ).loc Cert.GdnOutIdeal.main_arg1)
      ∧ m' ((c.tc : Thread Cert.GdnOutReferenceIdeal.nD Cert.GdnOutReferenceIdeal.τ).loc Cert.GdnOutReferenceIdeal.main_arg2) = m ((c.tc : Thread Cert.GdnOutIdeal.nD Cert.GdnOutIdeal.τ).loc Cert.GdnOutIdeal.main_arg2)) →
    ∃ (v0 : (c : Dev Cert.GdnOutIdeal.nD) → Buf (Elt Ideal) ((c.tc : Thread Cert.GdnOutIdeal.nD Cert.GdnOutIdeal.τ).loc Cert.GdnOutIdeal.main_v1)),
      θ_run (Cert.GdnOutIdeal.defs (F := Ideal)) (onTc (τ := Cert.GdnOutIdeal.τ) (Cert.GdnOutIdeal.main (F := Ideal))) ⟨m, fun _ => 0, g⟩ (fun r => ∀ c : Dev Cert.GdnOutIdeal.nD,
          r.2.mem ((c.tc : Thread Cert.GdnOutIdeal.nD Cert.GdnOutIdeal.τ).loc Cert.GdnOutIdeal.main_v1) = v0 c
          ∧ r.2.mem ((c.tc : Thread Cert.GdnOutIdeal.nD Cert.GdnOutIdeal.τ).loc Cert.GdnOutIdeal.main_arg0) = m ((c.tc : Thread Cert.GdnOutIdeal.nD Cert.GdnOutIdeal.τ).loc Cert.GdnOutIdeal.main_arg0)
          ∧ r.2.mem ((c.tc : Thread Cert.GdnOutIdeal.nD Cert.GdnOutIdeal.τ).loc Cert.GdnOutIdeal.main_arg1) = m ((c.tc : Thread Cert.GdnOutIdeal.nD Cert.GdnOutIdeal.τ).loc Cert.GdnOutIdeal.main_arg1)
          ∧ r.2.mem ((c.tc : Thread Cert.GdnOutIdeal.nD Cert.GdnOutIdeal.τ).loc Cert.GdnOutIdeal.main_arg2) = m ((c.tc : Thread Cert.GdnOutIdeal.nD Cert.GdnOutIdeal.τ).loc Cert.GdnOutIdeal.main_arg2))
      ∧ θ_run (Cert.GdnOutReferenceIdeal.defs (F := Ideal)) (onTc (τ := Cert.GdnOutReferenceIdeal.τ) (Cert.GdnOutReferenceIdeal.main (F := Ideal))) ⟨m', fun _ => 0, g'⟩ (fun r => ∀ c : Dev Cert.GdnOutReferenceIdeal.nD,
          r.2.mem ((c.tc : Thread Cert.GdnOutReferenceIdeal.nD Cert.GdnOutReferenceIdeal.τ).loc Cert.GdnOutReferenceIdeal.main_v4) = v0 c
          ∧ r.2.mem ((c.tc : Thread Cert.GdnOutReferenceIdeal.nD Cert.GdnOutReferenceIdeal.τ).loc Cert.GdnOutReferenceIdeal.main_arg0) = m' ((c.tc : Thread Cert.GdnOutReferenceIdeal.nD Cert.GdnOutReferenceIdeal.τ).loc Cert.GdnOutReferenceIdeal.main_arg0)
          ∧ r.2.mem ((c.tc : Thread Cert.GdnOutReferenceIdeal.nD Cert.GdnOutReferenceIdeal.τ).loc Cert.GdnOutReferenceIdeal.main_arg1) = m' ((c.tc : Thread Cert.GdnOutReferenceIdeal.nD Cert.GdnOutReferenceIdeal.τ).loc Cert.GdnOutReferenceIdeal.main_arg1)
          ∧ r.2.mem ((c.tc : Thread Cert.GdnOutReferenceIdeal.nD Cert.GdnOutReferenceIdeal.τ).loc Cert.GdnOutReferenceIdeal.main_arg2) = m' ((c.tc : Thread Cert.GdnOutReferenceIdeal.nD Cert.GdnOutReferenceIdeal.τ).loc Cert.GdnOutReferenceIdeal.main_arg2))

def preserves_MobaOut_MobaOutIdeal : Prop :=
  True

def algebraic_MobaOutIdeal_MobaOutReferenceIdeal [hMobaOutIdeal : Cert.MobaOutIdeal.Facts] [hMobaOutReferenceIdeal : Cert.MobaOutReferenceIdeal.Facts] : Prop :=
  ∀ (m : (ℓ : Loc Cert.MobaOutIdeal.nD Cert.MobaOutIdeal.τ Cert.MobaOutIdeal.sig) → Buf (Elt Ideal) ℓ) (g : Dev Cert.MobaOutIdeal.nD → PrngReg)
    (m' : (ℓ : Loc Cert.MobaOutReferenceIdeal.nD Cert.MobaOutReferenceIdeal.τ Cert.MobaOutReferenceIdeal.sig) → Buf (Elt Ideal) ℓ) (g' : Dev Cert.MobaOutReferenceIdeal.nD → PrngReg), Pre_MobaOutIdeal m →
    (∀ c : Dev Cert.MobaOutIdeal.nD,
      m' ((c.tc : Thread Cert.MobaOutReferenceIdeal.nD Cert.MobaOutReferenceIdeal.τ).loc Cert.MobaOutReferenceIdeal.main_arg0) = m ((c.tc : Thread Cert.MobaOutIdeal.nD Cert.MobaOutIdeal.τ).loc Cert.MobaOutIdeal.main_arg0)
      ∧ m' ((c.tc : Thread Cert.MobaOutReferenceIdeal.nD Cert.MobaOutReferenceIdeal.τ).loc Cert.MobaOutReferenceIdeal.main_arg1) = m ((c.tc : Thread Cert.MobaOutIdeal.nD Cert.MobaOutIdeal.τ).loc Cert.MobaOutIdeal.main_arg1)
      ∧ m' ((c.tc : Thread Cert.MobaOutReferenceIdeal.nD Cert.MobaOutReferenceIdeal.τ).loc Cert.MobaOutReferenceIdeal.main_arg2) = m ((c.tc : Thread Cert.MobaOutIdeal.nD Cert.MobaOutIdeal.τ).loc Cert.MobaOutIdeal.main_arg2)) →
    ∃ (v0 : (c : Dev Cert.MobaOutIdeal.nD) → Buf (Elt Ideal) ((c.tc : Thread Cert.MobaOutIdeal.nD Cert.MobaOutIdeal.τ).loc Cert.MobaOutIdeal.main_v1)),
      θ_run (Cert.MobaOutIdeal.defs (F := Ideal)) (onTc (τ := Cert.MobaOutIdeal.τ) (Cert.MobaOutIdeal.main (F := Ideal))) ⟨m, fun _ => 0, g⟩ (fun r => ∀ c : Dev Cert.MobaOutIdeal.nD,
          r.2.mem ((c.tc : Thread Cert.MobaOutIdeal.nD Cert.MobaOutIdeal.τ).loc Cert.MobaOutIdeal.main_v1) = v0 c
          ∧ r.2.mem ((c.tc : Thread Cert.MobaOutIdeal.nD Cert.MobaOutIdeal.τ).loc Cert.MobaOutIdeal.main_arg0) = m ((c.tc : Thread Cert.MobaOutIdeal.nD Cert.MobaOutIdeal.τ).loc Cert.MobaOutIdeal.main_arg0)
          ∧ r.2.mem ((c.tc : Thread Cert.MobaOutIdeal.nD Cert.MobaOutIdeal.τ).loc Cert.MobaOutIdeal.main_arg1) = m ((c.tc : Thread Cert.MobaOutIdeal.nD Cert.MobaOutIdeal.τ).loc Cert.MobaOutIdeal.main_arg1)
          ∧ r.2.mem ((c.tc : Thread Cert.MobaOutIdeal.nD Cert.MobaOutIdeal.τ).loc Cert.MobaOutIdeal.main_arg2) = m ((c.tc : Thread Cert.MobaOutIdeal.nD Cert.MobaOutIdeal.τ).loc Cert.MobaOutIdeal.main_arg2))
      ∧ θ_run (Cert.MobaOutReferenceIdeal.defs (F := Ideal)) (onTc (τ := Cert.MobaOutReferenceIdeal.τ) (Cert.MobaOutReferenceIdeal.main (F := Ideal))) ⟨m', fun _ => 0, g'⟩ (fun r => ∀ c : Dev Cert.MobaOutReferenceIdeal.nD,
          r.2.mem ((c.tc : Thread Cert.MobaOutReferenceIdeal.nD Cert.MobaOutReferenceIdeal.τ).loc Cert.MobaOutReferenceIdeal.main_v4) = v0 c
          ∧ r.2.mem ((c.tc : Thread Cert.MobaOutReferenceIdeal.nD Cert.MobaOutReferenceIdeal.τ).loc Cert.MobaOutReferenceIdeal.main_arg0) = m' ((c.tc : Thread Cert.MobaOutReferenceIdeal.nD Cert.MobaOutReferenceIdeal.τ).loc Cert.MobaOutReferenceIdeal.main_arg0)
          ∧ r.2.mem ((c.tc : Thread Cert.MobaOutReferenceIdeal.nD Cert.MobaOutReferenceIdeal.τ).loc Cert.MobaOutReferenceIdeal.main_arg1) = m' ((c.tc : Thread Cert.MobaOutReferenceIdeal.nD Cert.MobaOutReferenceIdeal.τ).loc Cert.MobaOutReferenceIdeal.main_arg1)
          ∧ r.2.mem ((c.tc : Thread Cert.MobaOutReferenceIdeal.nD Cert.MobaOutReferenceIdeal.τ).loc Cert.MobaOutReferenceIdeal.main_arg2) = m' ((c.tc : Thread Cert.MobaOutReferenceIdeal.nD Cert.MobaOutReferenceIdeal.τ).loc Cert.MobaOutReferenceIdeal.main_arg2))

def preserves_SharedKv_SharedKvIdeal : Prop :=
  True

def algebraic_SharedKvIdeal_SharedKvReferenceIdeal [hSharedKvIdeal : Cert.SharedKvIdeal.Facts] [hSharedKvReferenceIdeal : Cert.SharedKvReferenceIdeal.Facts] : Prop :=
  ∀ (m : (ℓ : Loc Cert.SharedKvIdeal.nD Cert.SharedKvIdeal.τ Cert.SharedKvIdeal.sig) → Buf (Elt Ideal) ℓ) (g : Dev Cert.SharedKvIdeal.nD → PrngReg)
    (m' : (ℓ : Loc Cert.SharedKvReferenceIdeal.nD Cert.SharedKvReferenceIdeal.τ Cert.SharedKvReferenceIdeal.sig) → Buf (Elt Ideal) ℓ) (g' : Dev Cert.SharedKvReferenceIdeal.nD → PrngReg), Pre_SharedKvIdeal m →
    (∀ c : Dev Cert.SharedKvIdeal.nD,
      m' ((c.tc : Thread Cert.SharedKvReferenceIdeal.nD Cert.SharedKvReferenceIdeal.τ).loc Cert.SharedKvReferenceIdeal.main_arg0) = m ((c.tc : Thread Cert.SharedKvIdeal.nD Cert.SharedKvIdeal.τ).loc Cert.SharedKvIdeal.main_arg0)
      ∧ m' ((c.tc : Thread Cert.SharedKvReferenceIdeal.nD Cert.SharedKvReferenceIdeal.τ).loc Cert.SharedKvReferenceIdeal.main_arg1) = m ((c.tc : Thread Cert.SharedKvIdeal.nD Cert.SharedKvIdeal.τ).loc Cert.SharedKvIdeal.main_arg1)
      ∧ m' ((c.tc : Thread Cert.SharedKvReferenceIdeal.nD Cert.SharedKvReferenceIdeal.τ).loc Cert.SharedKvReferenceIdeal.main_arg2) = m ((c.tc : Thread Cert.SharedKvIdeal.nD Cert.SharedKvIdeal.τ).loc Cert.SharedKvIdeal.main_arg2)) →
    ∃ (v0 : (c : Dev Cert.SharedKvIdeal.nD) → Buf (Elt Ideal) ((c.tc : Thread Cert.SharedKvIdeal.nD Cert.SharedKvIdeal.τ).loc Cert.SharedKvIdeal.main_v6_0)) (v1 : (c : Dev Cert.SharedKvIdeal.nD) → Buf (Elt Ideal) ((c.tc : Thread Cert.SharedKvIdeal.nD Cert.SharedKvIdeal.τ).loc Cert.SharedKvIdeal.main_v6_1)) (v2 : (c : Dev Cert.SharedKvIdeal.nD) → Buf (Elt Ideal) ((c.tc : Thread Cert.SharedKvIdeal.nD Cert.SharedKvIdeal.τ).loc Cert.SharedKvIdeal.main_v6_2)),
      θ_run (Cert.SharedKvIdeal.defs (F := Ideal)) (onTc (τ := Cert.SharedKvIdeal.τ) (Cert.SharedKvIdeal.main (F := Ideal))) ⟨m, fun _ => 0, g⟩ (fun r => ∀ c : Dev Cert.SharedKvIdeal.nD,
          r.2.mem ((c.tc : Thread Cert.SharedKvIdeal.nD Cert.SharedKvIdeal.τ).loc Cert.SharedKvIdeal.main_v6_0) = v0 c
          ∧ r.2.mem ((c.tc : Thread Cert.SharedKvIdeal.nD Cert.SharedKvIdeal.τ).loc Cert.SharedKvIdeal.main_v6_1) = v1 c
          ∧ r.2.mem ((c.tc : Thread Cert.SharedKvIdeal.nD Cert.SharedKvIdeal.τ).loc Cert.SharedKvIdeal.main_v6_2) = v2 c
          ∧ r.2.mem ((c.tc : Thread Cert.SharedKvIdeal.nD Cert.SharedKvIdeal.τ).loc Cert.SharedKvIdeal.main_arg0) = m ((c.tc : Thread Cert.SharedKvIdeal.nD Cert.SharedKvIdeal.τ).loc Cert.SharedKvIdeal.main_arg0)
          ∧ r.2.mem ((c.tc : Thread Cert.SharedKvIdeal.nD Cert.SharedKvIdeal.τ).loc Cert.SharedKvIdeal.main_arg1) = m ((c.tc : Thread Cert.SharedKvIdeal.nD Cert.SharedKvIdeal.τ).loc Cert.SharedKvIdeal.main_arg1)
          ∧ r.2.mem ((c.tc : Thread Cert.SharedKvIdeal.nD Cert.SharedKvIdeal.τ).loc Cert.SharedKvIdeal.main_arg2) = m ((c.tc : Thread Cert.SharedKvIdeal.nD Cert.SharedKvIdeal.τ).loc Cert.SharedKvIdeal.main_arg2))
      ∧ θ_run (Cert.SharedKvReferenceIdeal.defs (F := Ideal)) (onTc (τ := Cert.SharedKvReferenceIdeal.τ) (Cert.SharedKvReferenceIdeal.main (F := Ideal))) ⟨m', fun _ => 0, g'⟩ (fun r => ∀ c : Dev Cert.SharedKvReferenceIdeal.nD,
          r.2.mem ((c.tc : Thread Cert.SharedKvReferenceIdeal.nD Cert.SharedKvReferenceIdeal.τ).loc Cert.SharedKvReferenceIdeal.main_v21) = v0 c
          ∧ r.2.mem ((c.tc : Thread Cert.SharedKvReferenceIdeal.nD Cert.SharedKvReferenceIdeal.τ).loc Cert.SharedKvReferenceIdeal.main_v23) = v1 c
          ∧ r.2.mem ((c.tc : Thread Cert.SharedKvReferenceIdeal.nD Cert.SharedKvReferenceIdeal.τ).loc Cert.SharedKvReferenceIdeal.main_v20) = v2 c
          ∧ r.2.mem ((c.tc : Thread Cert.SharedKvReferenceIdeal.nD Cert.SharedKvReferenceIdeal.τ).loc Cert.SharedKvReferenceIdeal.main_arg0) = m' ((c.tc : Thread Cert.SharedKvReferenceIdeal.nD Cert.SharedKvReferenceIdeal.τ).loc Cert.SharedKvReferenceIdeal.main_arg0)
          ∧ r.2.mem ((c.tc : Thread Cert.SharedKvReferenceIdeal.nD Cert.SharedKvReferenceIdeal.τ).loc Cert.SharedKvReferenceIdeal.main_arg1) = m' ((c.tc : Thread Cert.SharedKvReferenceIdeal.nD Cert.SharedKvReferenceIdeal.τ).loc Cert.SharedKvReferenceIdeal.main_arg1)
          ∧ r.2.mem ((c.tc : Thread Cert.SharedKvReferenceIdeal.nD Cert.SharedKvReferenceIdeal.τ).loc Cert.SharedKvReferenceIdeal.main_arg2) = m' ((c.tc : Thread Cert.SharedKvReferenceIdeal.nD Cert.SharedKvReferenceIdeal.τ).loc Cert.SharedKvReferenceIdeal.main_arg2))

def preserves_MobaQ_MobaQIdeal : Prop :=
  True

def algebraic_MobaQIdeal_MobaQReferenceIdeal [hMobaQIdeal : Cert.MobaQIdeal.Facts] [hMobaQReferenceIdeal : Cert.MobaQReferenceIdeal.Facts] : Prop :=
  ∀ (m : (ℓ : Loc Cert.MobaQIdeal.nD Cert.MobaQIdeal.τ Cert.MobaQIdeal.sig) → Buf (Elt Ideal) ℓ) (g : Dev Cert.MobaQIdeal.nD → PrngReg)
    (m' : (ℓ : Loc Cert.MobaQReferenceIdeal.nD Cert.MobaQReferenceIdeal.τ Cert.MobaQReferenceIdeal.sig) → Buf (Elt Ideal) ℓ) (g' : Dev Cert.MobaQReferenceIdeal.nD → PrngReg), Pre_MobaQIdeal m →
    (∀ c : Dev Cert.MobaQIdeal.nD,
      m' ((c.tc : Thread Cert.MobaQReferenceIdeal.nD Cert.MobaQReferenceIdeal.τ).loc Cert.MobaQReferenceIdeal.main_arg0) = m ((c.tc : Thread Cert.MobaQIdeal.nD Cert.MobaQIdeal.τ).loc Cert.MobaQIdeal.main_arg0)
      ∧ m' ((c.tc : Thread Cert.MobaQReferenceIdeal.nD Cert.MobaQReferenceIdeal.τ).loc Cert.MobaQReferenceIdeal.main_arg1) = m ((c.tc : Thread Cert.MobaQIdeal.nD Cert.MobaQIdeal.τ).loc Cert.MobaQIdeal.main_arg1)
      ∧ m' ((c.tc : Thread Cert.MobaQReferenceIdeal.nD Cert.MobaQReferenceIdeal.τ).loc Cert.MobaQReferenceIdeal.main_arg2) = m ((c.tc : Thread Cert.MobaQIdeal.nD Cert.MobaQIdeal.τ).loc Cert.MobaQIdeal.main_arg2)) →
    ∃ (v0 : (c : Dev Cert.MobaQIdeal.nD) → Buf (Elt Ideal) ((c.tc : Thread Cert.MobaQIdeal.nD Cert.MobaQIdeal.τ).loc Cert.MobaQIdeal.main_v5)),
      θ_run (Cert.MobaQIdeal.defs (F := Ideal)) (onTc (τ := Cert.MobaQIdeal.τ) (Cert.MobaQIdeal.main (F := Ideal))) ⟨m, fun _ => 0, g⟩ (fun r => ∀ c : Dev Cert.MobaQIdeal.nD,
          r.2.mem ((c.tc : Thread Cert.MobaQIdeal.nD Cert.MobaQIdeal.τ).loc Cert.MobaQIdeal.main_v5) = v0 c
          ∧ r.2.mem ((c.tc : Thread Cert.MobaQIdeal.nD Cert.MobaQIdeal.τ).loc Cert.MobaQIdeal.main_arg0) = m ((c.tc : Thread Cert.MobaQIdeal.nD Cert.MobaQIdeal.τ).loc Cert.MobaQIdeal.main_arg0)
          ∧ r.2.mem ((c.tc : Thread Cert.MobaQIdeal.nD Cert.MobaQIdeal.τ).loc Cert.MobaQIdeal.main_arg1) = m ((c.tc : Thread Cert.MobaQIdeal.nD Cert.MobaQIdeal.τ).loc Cert.MobaQIdeal.main_arg1)
          ∧ r.2.mem ((c.tc : Thread Cert.MobaQIdeal.nD Cert.MobaQIdeal.τ).loc Cert.MobaQIdeal.main_arg2) = m ((c.tc : Thread Cert.MobaQIdeal.nD Cert.MobaQIdeal.τ).loc Cert.MobaQIdeal.main_arg2))
      ∧ θ_run (Cert.MobaQReferenceIdeal.defs (F := Ideal)) (onTc (τ := Cert.MobaQReferenceIdeal.τ) (Cert.MobaQReferenceIdeal.main (F := Ideal))) ⟨m', fun _ => 0, g'⟩ (fun r => ∀ c : Dev Cert.MobaQReferenceIdeal.nD,
          r.2.mem ((c.tc : Thread Cert.MobaQReferenceIdeal.nD Cert.MobaQReferenceIdeal.τ).loc Cert.MobaQReferenceIdeal.main_v21) = v0 c
          ∧ r.2.mem ((c.tc : Thread Cert.MobaQReferenceIdeal.nD Cert.MobaQReferenceIdeal.τ).loc Cert.MobaQReferenceIdeal.main_arg0) = m' ((c.tc : Thread Cert.MobaQReferenceIdeal.nD Cert.MobaQReferenceIdeal.τ).loc Cert.MobaQReferenceIdeal.main_arg0)
          ∧ r.2.mem ((c.tc : Thread Cert.MobaQReferenceIdeal.nD Cert.MobaQReferenceIdeal.τ).loc Cert.MobaQReferenceIdeal.main_arg1) = m' ((c.tc : Thread Cert.MobaQReferenceIdeal.nD Cert.MobaQReferenceIdeal.τ).loc Cert.MobaQReferenceIdeal.main_arg1)
          ∧ r.2.mem ((c.tc : Thread Cert.MobaQReferenceIdeal.nD Cert.MobaQReferenceIdeal.τ).loc Cert.MobaQReferenceIdeal.main_arg2) = m' ((c.tc : Thread Cert.MobaQReferenceIdeal.nD Cert.MobaQReferenceIdeal.τ).loc Cert.MobaQReferenceIdeal.main_arg2))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v6_0)) (v1 : (c : Dev Cert.GatesIdeal.nD) → Buf (Elt Ideal) ((c.tc : Thread Cert.GatesIdeal.nD Cert.GatesIdeal.τ).loc Cert.GatesIdeal.main_v6_1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v6_0) = v0 c
          ∧ r.2.mem ((c.tc : Thread Cert.GatesIdeal.nD Cert.GatesIdeal.τ).loc Cert.GatesIdeal.main_v6_1) = v1 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v7) = v0 c
          ∧ r.2.mem ((c.tc : Thread Cert.GatesReferenceIdeal.nD Cert.GatesReferenceIdeal.τ).loc Cert.GatesReferenceIdeal.main_v20) = v1 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2))

def Claim : Prop :=
  ∃ (hKernel : Cert.Kernel.Facts) (hKernelIdeal : Cert.KernelIdeal.Facts) (hReferenceIdeal : Cert.ReferenceIdeal.Facts) (hFfnFirst : Cert.FfnFirst.Facts) (hFfnFirstIdeal : Cert.FfnFirstIdeal.Facts) (hFfnFirstReferenceIdeal : Cert.FfnFirstReferenceIdeal.Facts) (hFfnLast : Cert.FfnLast.Facts) (hFfnLastIdeal : Cert.FfnLastIdeal.Facts) (hFfnLastReferenceIdeal : Cert.FfnLastReferenceIdeal.Facts) (hGdnIn : Cert.GdnIn.Facts) (hGdnInIdeal : Cert.GdnInIdeal.Facts) (hGdnInReferenceIdeal : Cert.GdnInReferenceIdeal.Facts) (hGdnOut : Cert.GdnOut.Facts) (hGdnOutIdeal : Cert.GdnOutIdeal.Facts) (hGdnOutReferenceIdeal : Cert.GdnOutReferenceIdeal.Facts) (hMobaOut : Cert.MobaOut.Facts) (hMobaOutIdeal : Cert.MobaOutIdeal.Facts) (hMobaOutReferenceIdeal : Cert.MobaOutReferenceIdeal.Facts) (hSharedKv : Cert.SharedKv.Facts) (hSharedKvIdeal : Cert.SharedKvIdeal.Facts) (hSharedKvReferenceIdeal : Cert.SharedKvReferenceIdeal.Facts) (hMobaQ : Cert.MobaQ.Facts) (hMobaQIdeal : Cert.MobaQIdeal.Facts) (hMobaQReferenceIdeal : Cert.MobaQReferenceIdeal.Facts) (hGates : Cert.Gates.Facts) (hGatesIdeal : Cert.GatesIdeal.Facts) (hGatesReferenceIdeal : Cert.GatesReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnFirst (hFfnFirst := hFfnFirst)
    ∧ quiescent_FfnFirstIdeal (hFfnFirstIdeal := hFfnFirstIdeal)
    ∧ quiescent_FfnFirstReferenceIdeal (hFfnFirstReferenceIdeal := hFfnFirstReferenceIdeal)
    ∧ quiescent_FfnLast (hFfnLast := hFfnLast)
    ∧ quiescent_FfnLastIdeal (hFfnLastIdeal := hFfnLastIdeal)
    ∧ quiescent_FfnLastReferenceIdeal (hFfnLastReferenceIdeal := hFfnLastReferenceIdeal)
    ∧ quiescent_GdnIn (hGdnIn := hGdnIn)
    ∧ quiescent_GdnInIdeal (hGdnInIdeal := hGdnInIdeal)
    ∧ quiescent_GdnInReferenceIdeal (hGdnInReferenceIdeal := hGdnInReferenceIdeal)
    ∧ quiescent_GdnOut (hGdnOut := hGdnOut)
    ∧ quiescent_GdnOutIdeal (hGdnOutIdeal := hGdnOutIdeal)
    ∧ quiescent_GdnOutReferenceIdeal (hGdnOutReferenceIdeal := hGdnOutReferenceIdeal)
    ∧ quiescent_MobaOut (hMobaOut := hMobaOut)
    ∧ quiescent_MobaOutIdeal (hMobaOutIdeal := hMobaOutIdeal)
    ∧ quiescent_MobaOutReferenceIdeal (hMobaOutReferenceIdeal := hMobaOutReferenceIdeal)
    ∧ quiescent_SharedKv (hSharedKv := hSharedKv)
    ∧ quiescent_SharedKvIdeal (hSharedKvIdeal := hSharedKvIdeal)
    ∧ quiescent_SharedKvReferenceIdeal (hSharedKvReferenceIdeal := hSharedKvReferenceIdeal)
    ∧ quiescent_MobaQ (hMobaQ := hMobaQ)
    ∧ quiescent_MobaQIdeal (hMobaQIdeal := hMobaQIdeal)
    ∧ quiescent_MobaQReferenceIdeal (hMobaQReferenceIdeal := hMobaQReferenceIdeal)
    ∧ quiescent_Gates (hGates := hGates)
    ∧ quiescent_GatesIdeal (hGatesIdeal := hGatesIdeal)
    ∧ quiescent_GatesReferenceIdeal (hGatesReferenceIdeal := hGatesReferenceIdeal)
    ∧ preserves_Kernel_KernelIdeal
    ∧ algebraic_KernelIdeal_ReferenceIdeal (hKernelIdeal := hKernelIdeal) (hReferenceIdeal := hReferenceIdeal)
    ∧ preserves_FfnFirst_FfnFirstIdeal
    ∧ algebraic_FfnFirstIdeal_FfnFirstReferenceIdeal (hFfnFirstIdeal := hFfnFirstIdeal) (hFfnFirstReferenceIdeal := hFfnFirstReferenceIdeal)
    ∧ preserves_FfnLast_FfnLastIdeal
    ∧ algebraic_FfnLastIdeal_FfnLastReferenceIdeal (hFfnLastIdeal := hFfnLastIdeal) (hFfnLastReferenceIdeal := hFfnLastReferenceIdeal)
    ∧ preserves_GdnIn_GdnInIdeal
    ∧ algebraic_GdnInIdeal_GdnInReferenceIdeal (hGdnInIdeal := hGdnInIdeal) (hGdnInReferenceIdeal := hGdnInReferenceIdeal)
    ∧ preserves_GdnOut_GdnOutIdeal
    ∧ algebraic_GdnOutIdeal_GdnOutReferenceIdeal (hGdnOutIdeal := hGdnOutIdeal) (hGdnOutReferenceIdeal := hGdnOutReferenceIdeal)
    ∧ preserves_MobaOut_MobaOutIdeal
    ∧ algebraic_MobaOutIdeal_MobaOutReferenceIdeal (hMobaOutIdeal := hMobaOutIdeal) (hMobaOutReferenceIdeal := hMobaOutReferenceIdeal)
    ∧ preserves_SharedKv_SharedKvIdeal
    ∧ algebraic_SharedKvIdeal_SharedKvReferenceIdeal (hSharedKvIdeal := hSharedKvIdeal) (hSharedKvReferenceIdeal := hSharedKvReferenceIdeal)
    ∧ preserves_MobaQ_MobaQIdeal
    ∧ algebraic_MobaQIdeal_MobaQReferenceIdeal (hMobaQIdeal := hMobaQIdeal) (hMobaQReferenceIdeal := hMobaQReferenceIdeal)
    ∧ preserves_Gates_GatesIdeal
    ∧ algebraic_GatesIdeal_GatesReferenceIdeal (hGatesIdeal := hGatesIdeal) (hGatesReferenceIdeal := hGatesReferenceIdeal)
-- ==== Kernel.lean ====
abbrev S16x128x128x256 : Shape := ⟨4, ![16, 128, 128, 256]⟩
abbrev S16x128x192x128 : Shape := ⟨4, ![16, 128, 192, 128]⟩
abbrev S16x8192x256 : Shape := ⟨3, ![16, 8192, 256]⟩
abbrev S16x128x8x256 : Shape := ⟨4, ![16, 128, 8, 256]⟩
abbrev S8192x12288 : Shape := ⟨2, ![8192, 12288]⟩
abbrev S128 : Shape := ⟨1, ![128]⟩
abbrev S1x128 : Shape := ⟨2, ![1, 128]⟩
abbrev S8192x4096 : Shape := ⟨2, ![8192, 4096]⟩
abbrev S16x4x128x256 : Shape := ⟨4, ![16, 4, 128, 256]⟩
abbrev S16x4x192x128 : Shape := ⟨4, ![16, 4, 192, 128]⟩
abbrev S16x256x256 : Shape := ⟨3, ![16, 256, 256]⟩
abbrev S16x4x8x256 : Shape := ⟨4, ![16, 4, 8, 256]⟩
abbrev S256x4096 : Shape := ⟨2, ![256, 4096]⟩
abbrev S16x128x256 : Shape := ⟨3, ![16, 128, 256]⟩
abbrev S1x128x256 : Shape := ⟨3, ![1, 128, 256]⟩
abbrev S128x256 : Shape := ⟨2, ![128, 256]⟩
abbrev S1x1x128x256 : Shape := ⟨4, ![1, 1, 128, 256]⟩
abbrev S128x128 : Shape := ⟨2, ![128, 128]⟩
abbrev S256x256 : Shape := ⟨2, ![256, 256]⟩
abbrev S1x64x256 : Shape := ⟨3, ![1, 64, 256]⟩
abbrev S64x256 : Shape := ⟨2, ![64, 256]⟩
abbrev S1x1x192x128 : Shape := ⟨4, ![1, 1, 192, 128]⟩
abbrev S192x128 : Shape := ⟨2, ![192, 128]⟩
abbrev S64x128 : Shape := ⟨2, ![64, 128]⟩
abbrev S192x256 : Shape := ⟨2, ![192, 256]⟩
abbrev S1x1x1x256 : Shape := ⟨4, ![1, 1, 1, 256]⟩
abbrev S1x256 : Shape := ⟨2, ![1, 256]⟩
abbrev S64 : Shape := ⟨1, ![64]⟩
abbrev S64x1 : Shape := ⟨2, ![64, 1]⟩

abbrev nBuf : Space → Nat
  | .hbm => 8
  | .vmem => 14
  | .smem => 0
  | _ => 0

abbrev bufTy : (tb : Table) → Fin (tcTables nBuf tb) → BufTy
  | .hbm, ⟨0, _⟩ => ⟨S16x128x128x256, .bf16⟩
  | .hbm, ⟨1, _⟩ => ⟨S16x128x192x128, .bf16⟩
  | .hbm, ⟨2, _⟩ => ⟨S16x8192x256, .f32⟩
  | .hbm, ⟨3, _⟩ => ⟨S16x128x8x256, .f32⟩
  | .hbm, ⟨4, _⟩ => ⟨S8192x12288, .f32⟩
  | .hbm, ⟨5, _⟩ => ⟨S128, .f32⟩
  | .hbm, ⟨6, _⟩ => ⟨S1x128, .f32⟩
  | .hbm, ⟨7, _⟩ => ⟨S8192x4096, .bf16⟩
  | .local _ .vmem, ⟨0, _⟩ => ⟨S16x4x128x256, .bf16⟩
  | .local _ .vmem, ⟨1, _⟩ => ⟨S16x4x128x256, .bf16⟩
  | .local _ .vmem, ⟨2, _⟩ => ⟨S16x4x192x128, .bf16⟩
  | .local _ .vmem, ⟨3, _⟩ => ⟨S16x4x192x128, .bf16⟩
  | .local _ .vmem, ⟨4, _⟩ => ⟨S16x256x256, .f32⟩
  | .local _ .vmem, ⟨5, _⟩ => ⟨S16x256x256, .f32⟩
  | .local _ .vmem, ⟨6, _⟩ => ⟨S16x4x8x256, .f32⟩
  | .local _ .vmem, ⟨7, _⟩ => ⟨S16x4x8x256, .f32⟩
  | .local _ .vmem, ⟨8, _⟩ => ⟨S256x4096, .f32⟩
  | .local _ .vmem, ⟨9, _⟩ => ⟨S256x4096, .f32⟩
  | .local _ .vmem, ⟨10, _⟩ => ⟨S1x128, .f32⟩
  | .local _ .vmem, ⟨11, _⟩ => ⟨S256x4096, .bf16⟩
  | .local _ .vmem, ⟨12, _⟩ => ⟨S256x4096, .bf16⟩
  | .local _ .vmem, ⟨13, _⟩ => ⟨S16x128x256, .f32⟩
  | _, _ => ⟨S16x128x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S16x4x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x4x192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x4x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x128x128x256 : Shape := ⟨4, ![16, 128, 128, 256]⟩
abbrev S16x128x192x128 : Shape := ⟨4, ![16, 128, 192, 128]⟩
abbrev S16x8192x256 : Shape := ⟨3, ![16, 8192, 256]⟩
abbrev S16x128x8x256 : Shape := ⟨4, ![16, 128, 8, 256]⟩
abbrev S8192x12288 : Shape := ⟨2, ![8192, 12288]⟩
abbrev S128 : Shape := ⟨1, ![128]⟩
abbrev S16x128x64x256 : Shape := ⟨4, ![16, 128, 64, 256]⟩
abbrev S16x128x64x2x128 : Shape := ⟨5, ![16, 128, 64, 2, 128]⟩
abbrev S128x16x2x64x128 : Shape := ⟨5, ![128, 16, 2, 64, 128]⟩
abbrev S128x32x64x128 : Shape := ⟨4, ![128, 32, 64, 128]⟩
abbrev S16x128x64x128 : Shape := ⟨4, ![16, 128, 64, 128]⟩
abbrev S16x128x64x2x64 : Shape := ⟨5, ![16, 128, 64, 2, 64]⟩
abbrev S128x16x2x64x64 : Shape := ⟨5, ![128, 16, 2, 64, 64]⟩
abbrev S128x32x64x64 : Shape := ⟨4, ![128, 32, 64, 64]⟩
abbrev S16x128x128x128 : Shape := ⟨4, ![16, 128, 128, 128]⟩
abbrev S16x128x128x2x64 : Shape := ⟨5, ![16, 128, 128, 2, 64]⟩
abbrev S128x16x2x128x64 : Shape := ⟨5, ![128, 16, 2, 128, 64]⟩
abbrev S128x32x128x64 : Shape := ⟨4, ![128, 32, 128, 64]⟩
abbrev S16x128x1x256 : Shape := ⟨4, ![16, 128, 1, 256]⟩
abbrev S16x128x1x2x128 : Shape := ⟨5, ![16, 128, 1, 2, 128]⟩
abbrev S128x16x2x1x128 : Shape := ⟨5, ![128, 16, 2, 1, 128]⟩
abbrev S128x32x1x128 : Shape := ⟨4, ![128, 32, 1, 128]⟩
abbrev S_ : Shape := ⟨0, ![]⟩
abbrev S32x128x128 : Shape := ⟨3, ![32, 128, 128]⟩
abbrev S1x32x64x128 : Shape := ⟨4, ![1, 32, 64, 128]⟩
abbrev S32x64x128 : Shape := ⟨3, ![32, 64, 128]⟩
abbrev S1x32x128x64 : Shape := ⟨4, ![1, 32, 128, 64]⟩
abbrev S32x128x64 : Shape := ⟨3, ![32, 128, 64]⟩
abbrev S1x32x64x64 : Shape := ⟨4, ![1, 32, 64, 64]⟩
abbrev S32x64x64 : Shape := ⟨3, ![32, 64, 64]⟩
abbrev S1x32x1x128 : Shape := ⟨4, ![1, 32, 1, 128]⟩
abbrev S32x1x128 : Shape := ⟨3, ![32, 1, 128]⟩
abbrev S128x64x32x128 : Shape := ⟨4, ![128, 64, 32, 128]⟩
abbrev S8192x32x128 : Shape := ⟨3, ![8192, 32, 128]⟩
abbrev S8192x4096 : Shape := ⟨2, ![8192, 4096]⟩
abbrev S8192x32 : Shape := ⟨2, ![8192, 32]⟩
abbrev S8192x32x1 : Shape := ⟨3, ![8192, 32, 1]⟩
abbrev S1x1x128 : Shape := ⟨3, ![1, 1, 128]⟩

abbrev nBuf : Space → Nat
  | .hbm => 126
  | .vmem => 0
  | .smem => 0
  | _ => 0

abbrev bufTy : (tb : Table) → Fin (tcTables nBuf tb) → BufTy
  | .hbm, ⟨0, _⟩ => ⟨S16x128x128x256, .bf16⟩
  | .hbm, ⟨1, _⟩ => ⟨S16x128x192x128, .bf16⟩
  | .hbm, ⟨2, _⟩ => ⟨S16x8192x256, .f32⟩
  | .hbm, ⟨3, _⟩ => ⟨S16x128x8x256, .f32⟩
  | .hbm, ⟨4, _⟩ => ⟨S8192x12288, .f32⟩
  | .hbm, ⟨5, _⟩ => ⟨S128, .f32⟩
  | .hbm, ⟨6, _⟩ => ⟨S16x128x128x256, .f32⟩
  | .hbm, ⟨7, _⟩ => ⟨S16x128x192x128, .f32⟩
  | .hbm, ⟨8, _⟩ => ⟨S16x128x64x256, .f32⟩
  | .hbm, ⟨9, _⟩ => ⟨S16x128x64x2x128, .f32⟩
  | .hbm, ⟨10, _⟩ => ⟨S128x16x2x64x128, .f32⟩
  | .hbm, ⟨11, _⟩ => ⟨S128x32x64x128, .f32⟩
  | .hbm, ⟨12, _⟩ => ⟨S16x128x64x256, .f32⟩
  | .hbm, ⟨13, _⟩ => ⟨S16x128x64x2x128, .f32⟩
  | .hbm, ⟨14, _⟩ => ⟨S128x16x2x64x128, .f32⟩
  | .hbm, ⟨15, _⟩ => ⟨S128x32x64x128, .f32⟩
  | .hbm, ⟨16, _⟩ => ⟨S16x128x64x128, .f32⟩
  | .hbm, ⟨17, _⟩ => ⟨S16x128x64x2x64, .f32⟩
  | .hbm, ⟨18, _⟩ => ⟨S128x16x2x64x64, .f32⟩
  | .hbm, ⟨19, _⟩ => ⟨S128x32x64x64, .f32⟩
  | .hbm, ⟨20, _⟩ => ⟨S16x128x128x128, .f32⟩
  | .hbm, ⟨21, _⟩ => ⟨S16x128x128x2x64, .f32⟩
  | .hbm, ⟨22, _⟩ => ⟨S128x16x2x128x64, .f32⟩
  | .hbm, ⟨23, _⟩ => ⟨S128x32x128x64, .f32⟩
  | .hbm, ⟨24, _⟩ => ⟨S16x128x64x256, .f32⟩
  | .hbm, ⟨25, _⟩ => ⟨S16x128x64x2x128, .f32⟩
  | .hbm, ⟨26, _⟩ => ⟨S128x16x2x64x128, .f32⟩
  | .hbm, ⟨27, _⟩ => ⟨S128x32x64x128, .f32⟩
  | .hbm, ⟨28, _⟩ => ⟨S16x128x1x256, .f32⟩
  | .hbm, ⟨29, _⟩ => ⟨S16x128x1x2x128, .f32⟩
  | .hbm, ⟨30, _⟩ => ⟨S128x16x2x1x128, .f32⟩
  | .hbm, ⟨31, _⟩ => ⟨S128x32x1x128, .f32⟩
  | .hbm, ⟨32, _⟩ => ⟨S_, .f32⟩
  | .hbm, ⟨33, _⟩ => ⟨S32x128x128, .f32⟩
  | .hbm, ⟨34, _⟩ => ⟨S_, .f32⟩
  | .hbm, ⟨35, _⟩ => ⟨S128x32x64x128, .f32⟩
  | .hbm, ⟨36, _⟩ => ⟨S_, .i32⟩
  | .hbm, ⟨37, _⟩ => ⟨S128x32x64x128, .f32⟩
  | .hbm, ⟨38, _⟩ => ⟨S128x32x128x64, .f32⟩
  | .hbm, ⟨39, _⟩ => ⟨S128x32x64x128, .f32⟩
  | .hbm, ⟨40, _⟩ => ⟨S128x32x64x128, .f32⟩
  | .hbm, ⟨41, _⟩ => ⟨S128x32x64x64, .f32⟩
  | .hbm, ⟨42, _⟩ => ⟨S128x32x1x128, .f32⟩
  | .hbm, ⟨43, _⟩ => ⟨S_, .i32⟩
  | .hbm, ⟨44, _⟩ => ⟨S32x128x128, .f32⟩
  | .hbm, ⟨45, _⟩ => ⟨S128x32x64x128, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S1x32x64x128, .f32⟩
  | .hbm, ⟨52, _⟩ => ⟨S32x64x128, .f32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S1x32x128x64, .f32⟩
  | .hbm, ⟨57, _⟩ => ⟨S32x128x64, .f32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x32x64x128, .f32⟩
  | .hbm, ⟨62, _⟩ => ⟨S32x64x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S1x32x64x128, .f32⟩
  | .hbm, ⟨67, _⟩ => ⟨S32x64x128, .f32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x32x64x64, .f32⟩
  | .hbm, ⟨72, _⟩ => ⟨S32x64x64, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x32x1x128, .f32⟩
  | .hbm, ⟨77, _⟩ => ⟨S32x1x128, .f32⟩
  | .hbm, ⟨78, _⟩ => ⟨S32x64x128, .f32⟩
  | .hbm, ⟨79, _⟩ => ⟨S32x64x128, .f32⟩
  | .hbm, ⟨80, _⟩ => ⟨S32x64x128, .f32⟩
  | .hbm, ⟨81, _⟩ => ⟨S32x64x128, .f32⟩
  | .hbm, ⟨82, _⟩ => ⟨S32x64x128, .f32⟩
  | .hbm, ⟨83, _⟩ => ⟨S32x128x128, .f32⟩
  | .hbm, ⟨84, _⟩ => ⟨S32x128x128, .f32⟩
  | .hbm, ⟨85, _⟩ => ⟨S32x128x128, .f32⟩
  | .hbm, ⟨86, _⟩ => ⟨S32x128x128, .f32⟩
  | .hbm, ⟨87, _⟩ => ⟨S1x32x64x128, .f32⟩
  | .hbm, ⟨88, _⟩ => ⟨S_, .i32⟩
  | .hbm, ⟨89, _⟩ => ⟨S_, .i32⟩
  | .hbm, ⟨90, _⟩ => ⟨S_, .i32⟩
  | .hbm, ⟨91, _⟩ => ⟨S128x32x64x128, .f32⟩
  | .hbm, ⟨92, _⟩ => ⟨S_, .i32⟩
  | .hbm, ⟨93, _⟩ => ⟨S_, .i32⟩
  | .hbm, ⟨94, _⟩ => ⟨S128x64x32x128, .f32⟩
  | .hbm, ⟨95, _⟩ => ⟨S8192x32x128, .f32⟩
  | .hbm, ⟨96, _⟩ => ⟨S8192x4096, .f32⟩
  | .hbm, ⟨97, _⟩ => ⟨S8192x32x128, .f32⟩
  | .hbm, ⟨98, _⟩ => ⟨S8192x32x128, .f32⟩
  | .hbm, ⟨99, _⟩ => ⟨S_, .f32⟩
  | .hbm, ⟨100, _⟩ => ⟨S8192x32, .f32⟩
  | .hbm, ⟨101, _⟩ => ⟨S8192x32x1, .f32⟩
  | .hbm, ⟨102, _⟩ => ⟨S_, .f32⟩
  | .hbm, ⟨103, _⟩ => ⟨S8192x32x1, .f32⟩
  | .hbm, ⟨104, _⟩ => ⟨S8192x32x1, .f32⟩
  | .hbm, ⟨105, _⟩ => ⟨S_, .f32⟩
  | .hbm, ⟨106, _⟩ => ⟨S8192x32x1, .f32⟩
  | .hbm, ⟨107, _⟩ => ⟨S8192x32x1, .f32⟩
  | .hbm, ⟨108, _⟩ => ⟨S8192x32x1, .f32⟩
  | .hbm, ⟨109, _⟩ => ⟨S8192x32x128, .f32⟩
  | .hbm, ⟨110, _⟩ => ⟨S8192x32x128, .f32⟩
  | .hbm, ⟨111, _⟩ => ⟨S1x1x128, .f32⟩
  | .hbm, ⟨112, _⟩ => ⟨S8192x32x128, .f32⟩
  | .hbm, ⟨113, _⟩ => ⟨S8192x32x128, .f32⟩
  | .hbm, ⟨114, _⟩ => ⟨S8192x32x128, .f32⟩
  | .hbm, ⟨115, _⟩ => ⟨S8192x32x128, .f32⟩
  | .hbm, ⟨116, _⟩ => ⟨S_, .f32⟩
  | .hbm, ⟨117, _⟩ => ⟨S8192x32x128, .f32⟩
  | .hbm, ⟨118, _⟩ => ⟨S8192x32x128, .f32⟩
  | .hbm, ⟨119, _⟩ => ⟨S_, .f32⟩
  | .hbm, ⟨120, _⟩ => ⟨S8192x32x128, .f32⟩
  | .hbm, ⟨121, _⟩ => ⟨S8192x32x128, .f32⟩
  | .hbm, ⟨122, _⟩ => ⟨S8192x32x128, .f32⟩
  | .hbm, ⟨123, _⟩ => ⟨S8192x32x128, .f32⟩
  | .hbm, ⟨124, _⟩ => ⟨S8192x4096, .f32⟩
  | .hbm, ⟨125, _⟩ => ⟨S8192x4096, .bf16⟩
  | _, _ => ⟨S16x128x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_c : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev main_v28_5 : Ref sig .tc := ⟨.hbm, 42, rfl⟩
abbrev main_v28_6 : Ref sig .tc := ⟨.hbm, 43, rfl⟩
abbrev main_v28_7 : Ref sig .tc := ⟨.hbm, 44, rfl⟩
abbrev main_v28_8 : Ref sig .tc := ⟨.hbm, 45, rfl⟩
abbrev main_while0c_c_12 : Ref sig .tc := ⟨.hbm, 46, rfl⟩
abbrev main_while0c_v50 : Ref sig .tc := ⟨.hbm, 47, rfl⟩
abbrev main_while0b_call0_c : Ref sig .tc := ⟨.hbm, 48, rfl⟩
abbrev main_while0b_call0_c_0 : Ref sig .tc := ⟨.hbm, 49, rfl⟩
abbrev main_while0b_call0_c_1 : Ref sig .tc := ⟨.hbm, 50, rfl⟩
abbrev main_while0b_call0_v0 : Ref sig .tc := ⟨.hbm, 51, rfl⟩
abbrev main_while0b_v50 : Ref sig .tc := ⟨.hbm, 52, rfl⟩
abbrev main_while0b_call1_c : Ref sig .tc := ⟨.hbm, 53, rfl⟩
abbrev main_while0b_call1_c_0 : Ref sig .tc := ⟨.hbm, 54, rfl⟩
abbrev main_while0b_call1_c_1 : Ref sig .tc := ⟨.hbm, 55, rfl⟩
abbrev main_while0b_call1_v0 : Ref sig .tc := ⟨.hbm, 56, rfl⟩
abbrev main_while0b_v51 : Ref sig .tc := ⟨.hbm, 57, rfl⟩
abbrev main_while0b_call2_c : Ref sig .tc := ⟨.hbm, 58, rfl⟩
abbrev main_while0b_call2_c_0 : Ref sig .tc := ⟨.hbm, 59, rfl⟩
abbrev main_while0b_call2_c_1 : Ref sig .tc := ⟨.hbm, 60, rfl⟩
abbrev main_while0b_call2_v0 : Ref sig .tc := ⟨.hbm, 61, rfl⟩
abbrev main_while0b_v52 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_call3_c_1 : Ref sig .tc := ⟨.hbm, 65, rfl⟩
abbrev main_while0b_call3_v0 : Ref sig .tc := ⟨.hbm, 66, rfl⟩
abbrev main_while0b_v53 : Ref sig .tc := ⟨.hbm, 67, rfl⟩
abbrev main_while0b_call4_c : Ref sig .tc := ⟨.hbm, 68, rfl⟩
abbrev main_while0b_call4_c_0 : Ref sig .tc := ⟨.hbm, 69, rfl⟩
abbrev main_while0b_call4_c_1 : Ref sig .tc := ⟨.hbm, 70, rfl⟩
abbrev main_while0b_call4_v0 : Ref sig .tc := ⟨.hbm, 71, rfl⟩
abbrev main_while0b_v54 : Ref sig .tc := ⟨.hbm, 72, rfl⟩
abbrev main_while0b_call5_c : Ref sig .tc := ⟨.hbm, 73, rfl⟩
abbrev main_while0b_call5_c_0 : Ref sig .tc := ⟨.hbm, 74, rfl⟩
abbrev main_while0b_call5_c_1 : Ref sig .tc := ⟨.hbm, 75, rfl⟩
abbrev main_while0b_call5_v0 : Ref sig .tc := ⟨.hbm, 76, rfl⟩
abbrev main_while0b_v55 : Ref sig .tc := ⟨.hbm, 77, rfl⟩
abbrev main_while0b_v56 : Ref sig .tc := ⟨.hbm, 78, rfl⟩
abbrev main_while0b_v57 : Ref sig .tc := ⟨.hbm, 79, rfl⟩
abbrev main_while0b_v58 : Ref sig .tc := ⟨.hbm, 80, rfl⟩
abbrev main_while0b_v59 : Ref sig .tc := ⟨.hbm, 81, rfl⟩
abbrev main_while0b_v60 : Ref sig .tc := ⟨.hbm, 82, rfl⟩
abbrev main_while0b_v61 : Ref sig .tc := ⟨.hbm, 83, rfl⟩
abbrev main_while0b_v62 : Ref sig .tc := ⟨.hbm, 84, rfl⟩
abbrev main_while0b_v63 : Ref sig .tc := ⟨.hbm, 85, rfl⟩
abbrev main_while0b_v64 : Ref sig .tc := ⟨.hbm, 86, rfl⟩
abbrev main_while0b_call6_v0 : Ref sig .tc := ⟨.hbm, 87, rfl⟩
abbrev main_while0b_call6_c : Ref sig .tc := ⟨.hbm, 88, rfl⟩
abbrev main_while0b_call6_c_0 : Ref sig .tc := ⟨.hbm, 89, rfl⟩
abbrev main_while0b_call6_c_1 : Ref sig .tc := ⟨.hbm, 90, rfl⟩
abbrev main_while0b_v65 : Ref sig .tc := ⟨.hbm, 91, rfl⟩
abbrev main_while0b_c_12 : Ref sig .tc := ⟨.hbm, 92, rfl⟩
abbrev main_while0b_v66 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_cst_1 : Ref sig .tc := ⟨.hbm, 99, rfl⟩
abbrev main_v34 : Ref sig .tc := ⟨.hbm, 100, rfl⟩
abbrev main_v35 : Ref sig .tc := ⟨.hbm, 101, rfl⟩
abbrev main_cst_2 : Ref sig .tc := ⟨.hbm, 102, rfl⟩
abbrev main_v36 : Ref sig .tc := ⟨.hbm, 103, rfl⟩
abbrev main_v37 : Ref sig .tc := ⟨.hbm, 104, rfl⟩
abbrev main_cst_3 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_call7_v0 : Ref sig .tc := ⟨.hbm, 114, rfl⟩
abbrev main_call7_v1 : Ref sig .tc := ⟨.hbm, 115, rfl⟩
abbrev main_call7_cst : Ref sig .tc := ⟨.hbm, 116, rfl⟩
abbrev main_call7_v2 : Ref sig .tc := ⟨.hbm, 117, rfl⟩
abbrev main_call7_v3 : Ref sig .tc := ⟨.hbm, 118, rfl⟩
abbrev main_call7_cst_0 : Ref sig .tc := ⟨.hbm, 119, rfl⟩
abbrev main_call7_v4 : Ref sig .tc := ⟨.hbm, 120, rfl⟩
abbrev main_call7_v5 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩

abbrev nD : Nat := 1
abbrev τ : Topo := Topo.v7x

variable {F : FTy → Type} [FloatOps F]

abbrev main_while0_count : Scf.Loop 32 := ⟨0#32, 128#32, 1#32⟩
-- ==== FfnFirst.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S1x2048x256 : Shape := ⟨3, ![1, 2048, 256]⟩
abbrev S2048x256 : Shape := ⟨2, ![2048, 256]⟩
abbrev S1024x256 : Shape := ⟨2, ![1024, 256]⟩
abbrev S1024x512 : Shape := ⟨2, ![1024, 512]⟩
abbrev S512x2048 : Shape := ⟨2, ![512, 2048]⟩

abbrev nBuf : Space → Nat
  | .hbm => 9
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .local _ .vmem, ⟨0, _⟩ => ⟨S1x2048, .f32⟩
  | .local _ .vmem, ⟨1, _⟩ => ⟨S1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnFirstReferenceIdeal.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8192x11264 : Shape := ⟨2, ![8192, 11264]⟩
abbrev S8192x5632 : Shape := ⟨2, ![8192, 5632]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S1x2048, .f32⟩
  | .hbm, ⟨5, _⟩ => ⟨S2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S1x2048x11264, .f32⟩
  | .hbm, ⟨23, _⟩ => ⟨S2048x11264, .f32⟩
  | .hbm, ⟨24, _⟩ => ⟨S1x5632x2048, .f32⟩
  | .hbm, ⟨25, _⟩ => ⟨S5632x2048, .f32⟩
  | .hbm, ⟨26, _⟩ => ⟨S8192x11264, .f32⟩
  | .hbm, ⟨27, _⟩ => ⟨S8192x5632, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x2048, .f32⟩
  | .hbm, ⟨40, _⟩ => ⟨S_, .f32⟩
  | .hbm, ⟨41, _⟩ => ⟨S8192x2048, .f32⟩
  | .hbm, ⟨42, _⟩ => ⟨S8192x2048, .f32⟩
  | .hbm, ⟨43, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== FfnLast.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S1x2048x256 : Shape := ⟨3, ![1, 2048, 256]⟩
abbrev S2048x256 : Shape := ⟨2, ![2048, 256]⟩
abbrev S1024x256 : Shape := ⟨2, ![1024, 256]⟩
abbrev S1024x512 : Shape := ⟨2, ![1024, 512]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1x2048, .f32⟩
  | .local _ .vmem, ⟨1, _⟩ => ⟨S1024x2048, .f32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c3_i32 : BitVec 32 := 3#32
  let c0_i32 : BitVec 32 := 0#32
  let c0_i32_0 : BitVec 32 := 0#32
  ![c3_i32.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnLastReferenceIdeal.lean ====
abbrev S8192x2048 : Shape := ⟨2, ![8192, 2048]⟩
abbrev S4x2048 : Shape := ⟨2, ![4, 2048]⟩
abbrev S4x2048x11264 : Shape := ⟨3, ![4, 2048, 11264]⟩
abbrev S4x5632x2048 : Shape := ⟨3, ![4, 5632, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S1x2048x11264 : Shape := ⟨3, ![1, 2048, 11264]⟩
abbrev S2048x11264 : Shape := ⟨2, ![2048, 11264]⟩
abbrev S1x5632x2048 : Shape := ⟨3, ![1, 5632, 2048]⟩
abbrev S5632x2048 : Shape := ⟨2, ![5632, 2048]⟩
abbrev S8192x11264 : Shape := ⟨2, ![8192, 11264]⟩
abbrev S8192x5632 : Shape := ⟨2, ![8192, 5632]⟩

abbrev nBuf : Space → Nat
  | .hbm => 61
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x11264, .f32⟩
  | .hbm, ⟨3, _⟩ => ⟨S4x5632x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S1x2048x11264, .f32⟩
  | .hbm, ⟨24, _⟩ => ⟨S2048x11264, .f32⟩
  | .hbm, ⟨25, _⟩ => ⟨S1x5632x2048, .f32⟩
  | .hbm, ⟨26, _⟩ => ⟨S5632x2048, .f32⟩
  | .hbm, ⟨27, _⟩ => ⟨S8192x11264, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S8192x1, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8192x2048, .f32⟩
  | .hbm, ⟨60, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== GdnIn.lean ====
abbrev S8192x2048 : Shape := ⟨2, ![8192, 2048]⟩
abbrev S4x2048 : Shape := ⟨2, ![4, 2048]⟩
abbrev S2x2048x12352 : Shape := ⟨3, ![2, 2048, 12352]⟩
abbrev S1x2048 : Shape := ⟨2, ![1, 2048]⟩
abbrev S2048 : Shape := ⟨1, ![2048]⟩
abbrev S2x12352x2048 : Shape := ⟨3, ![2, 12352, 2048]⟩
abbrev S8192x12288 : Shape := ⟨2, ![8192, 12288]⟩
abbrev S8192x64 : Shape := ⟨2, ![8192, 64]⟩
abbrev S2048x2048 : Shape := ⟨2, ![2048, 2048]⟩
abbrev S1x512x2048 : Shape := ⟨3, ![1, 512, 2048]⟩
abbrev S1x64x2048 : Shape := ⟨3, ![1, 64, 2048]⟩
abbrev S2048x512 : Shape := ⟨2, ![2048, 512]⟩
abbrev S2048x64 : Shape := ⟨2, ![2048, 64]⟩
abbrev S2048x1 : Shape := ⟨2, ![2048, 1]⟩
abbrev S64x2048 : Shape := ⟨2, ![64, 2048]⟩
abbrev S512x2048 : Shape := ⟨2, ![512, 2048]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x12352, .f32⟩
  | .hbm, ⟨3, _⟩ => ⟨S1x2048, .f32⟩
  | .hbm, ⟨4, _⟩ => ⟨S2048, .f32⟩
  | .hbm, ⟨5, _⟩ => ⟨S2x12352x2048, .f32⟩
  | .hbm, ⟨6, _⟩ => ⟨S1x2048, .f32⟩
  | .hbm, ⟨7, _⟩ => ⟨S8192x12288, .f32⟩
  | .hbm, ⟨8, _⟩ => ⟨S8192x64, .f32⟩
  | .local _ .vmem, ⟨0, _⟩ => ⟨S1x2048, .f32⟩
  | .local _ .vmem, ⟨1, _⟩ => ⟨S2048x2048, .f32⟩
  | .local _ .vmem, ⟨2, _⟩ => ⟨S1x512x2048, .f32⟩
  | .local _ .vmem, ⟨3, _⟩ => ⟨S1x512x2048, .f32⟩
  | .local _ .vmem, ⟨4, _⟩ => ⟨S1x64x2048, .f32⟩
  | .local _ .vmem, ⟨5, _⟩ => ⟨S2048x512, .f32⟩
  | .local _ .vmem, ⟨6, _⟩ => ⟨S2048x512, .f32⟩
  | .local _ .vmem, ⟨7, _⟩ => ⟨S2048x64, .f32⟩
  | .local _ .vmem, ⟨8, _⟩ => ⟨S2048x64, .f32⟩
  | .local _ .vmem, ⟨9, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 24], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .ne arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c192_i32 : BitVec 32 := 192#32
  let c0_i32_0 : BitVec 32 := 0#32
  let c0_i32_1 : BitVec 32 := 0#32
  ![c0_i32.toNat, c192_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== GdnInReferenceIdeal.lean ====
abbrev S8192x2048 : Shape := ⟨2, ![8192, 2048]⟩
abbrev S4x2048 : Shape := ⟨2, ![4, 2048]⟩
abbrev S2x2048x12352 : Shape := ⟨3, ![2, 2048, 12352]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x12352 : Shape := ⟨3, ![1, 2048, 12352]⟩
abbrev S2048x12352 : Shape := ⟨2, ![2048, 12352]⟩
abbrev S8192x12352 : Shape := ⟨2, ![8192, 12352]⟩
abbrev S8192x12288 : Shape := ⟨2, ![8192, 12288]⟩
abbrev S8192x64 : Shape := ⟨2, ![8192, 64]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x12352, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x12352, .f32⟩
  | .hbm, ⟨22, _⟩ => ⟨S2048x12352, .f32⟩
  | .hbm, ⟨23, _⟩ => ⟨S8192x12352, .f32⟩
  | .hbm, ⟨24, _⟩ => ⟨S8192x12288, .f32⟩
  | .hbm, ⟨25, _⟩ => ⟨S8192x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== GdnOut.lean ====
abbrev S8192x4096 : Shape := ⟨2, ![8192, 4096]⟩
abbrev S2x4096x2048 : Shape := ⟨3, ![2, 4096, 2048]⟩
abbrev S8192x2048 : Shape := ⟨2, ![8192, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .hbm, ⟨3, _⟩ => ⟨S2x4096x2048, .bf16⟩
  | .hbm, ⟨4, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnOutReferenceIdeal.lean ====
abbrev S8192x4096 : Shape := ⟨2, ![8192, 4096]⟩
abbrev S2x4096x2048 : Shape := ⟨3, ![2, 4096, 2048]⟩
abbrev S8192x2048 : Shape := ⟨2, ![8192, 2048]⟩
abbrev S1x4096x2048 : Shape := ⟨3, ![1, 4096, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x2048, .f32⟩
  | .hbm, ⟨2, _⟩ => ⟨S8192x2048, .f32⟩
  | .hbm, ⟨3, _⟩ => ⟨S8192x4096, .f32⟩
  | .hbm, ⟨4, _⟩ => ⟨S1x4096x2048, .f32⟩
  | .hbm, ⟨5, _⟩ => ⟨S4096x2048, .f32⟩
  | .hbm, ⟨6, _⟩ => ⟨S8192x2048, .f32⟩
  | .hbm, ⟨7, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MobaOut.lean ====
abbrev S8192x2048 : Shape := ⟨2, ![8192, 2048]⟩
abbrev S2x2048x2048 : Shape := ⟨3, ![2, 2048, 2048]⟩
abbrev S2048x2048 : Shape := ⟨2, ![2048, 2048]⟩
abbrev S1x2048x512 : Shape := ⟨3, ![1, 2048, 512]⟩
abbrev S2048x512 : Shape := ⟨2, ![2048, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S2x2048x2048, .bf16⟩
  | .hbm, ⟨4, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MobaOutReferenceIdeal.lean ====
abbrev S8192x2048 : Shape := ⟨2, ![8192, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x2048, .f32⟩
  | .hbm, ⟨2, _⟩ => ⟨S8192x2048, .f32⟩
  | .hbm, ⟨3, _⟩ => ⟨S8192x2048, .f32⟩
  | .hbm, ⟨4, _⟩ => ⟨S1x2048x2048, .f32⟩
  | .hbm, ⟨5, _⟩ => ⟨S2048x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== SharedKv.lean ====
abbrev S8192x2048 : Shape := ⟨2, ![8192, 2048]⟩
abbrev S2048 : Shape := ⟨1, ![2048]⟩
abbrev S2048x1024 : Shape := ⟨2, ![2048, 1024]⟩
abbrev S2048x512 : Shape := ⟨2, ![2048, 512]⟩
abbrev S512x2048 : Shape := ⟨2, ![512, 2048]⟩
abbrev S1x2048 : Shape := ⟨2, ![1, 2048]⟩
abbrev S8192x512 : Shape := ⟨2, ![8192, 512]⟩
abbrev S512x8192 : Shape := ⟨2, ![512, 8192]⟩
abbrev S32x1x512 : Shape := ⟨3, ![32, 1, 512]⟩
abbrev S1024x2048 : Shape := ⟨2, ![1024, 2048]⟩
abbrev S1024x512 : Shape := ⟨2, ![1024, 512]⟩
abbrev S512x1024 : Shape := ⟨2, ![512, 1024]⟩
abbrev S4x1x512 : Shape := ⟨3, ![4, 1, 512]⟩
abbrev S1024 : Shape := ⟨1, ![1024]⟩
abbrev S1024x1 : Shape := ⟨2, ![1024, 1]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩

abbrev nBuf : Space → Nat
  | .hbm => 12
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x1024, .f32⟩
  | .hbm, ⟨3, _⟩ => ⟨S2048x512, .f32⟩
  | .hbm, ⟨4, _⟩ => ⟨S2048x512, .bf16⟩
  | .hbm, ⟨5, _⟩ => ⟨S2048x512, .f32⟩
  | .hbm, ⟨6, _⟩ => ⟨S512x2048, .f32⟩
  | .hbm, ⟨7, _⟩ => ⟨S512x2048, .bf16⟩
  | .hbm, ⟨8, _⟩ => ⟨S1x2048, .f32⟩
  | .hbm, ⟨9, _⟩ => ⟨S8192x512, .bf16⟩
  | .hbm, ⟨10, _⟩ => ⟨S512x8192, .bf16⟩
  | .hbm, ⟨11, _⟩ => ⟨S32x1x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S512x2048, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S4x1x512, .f32⟩
  | .local _ .vmem, ⟨10, _⟩ => ⟨S4x1x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SharedKvReferenceIdeal.lean ====
abbrev S8192x2048 : Shape := ⟨2, ![8192, 2048]⟩
abbrev S2048 : Shape := ⟨1, ![2048]⟩
abbrev S2048x1024 : Shape := ⟨2, ![2048, 1024]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x1024 : Shape := ⟨2, ![8192, 1024]⟩
abbrev S8192x512 : Shape := ⟨2, ![8192, 512]⟩
abbrev S32x256x512 : Shape := ⟨3, ![32, 256, 512]⟩
abbrev S32x512 : Shape := ⟨2, ![32, 512]⟩
abbrev S32x1x512 : Shape := ⟨3, ![32, 1, 512]⟩
abbrev S512x8192 : Shape := ⟨2, ![512, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x1024, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S8192x512, .f32⟩
  | .hbm, ⟨21, _⟩ => ⟨S8192x512, .f32⟩
  | .hbm, ⟨22, _⟩ => ⟨S32x256x512, .f32⟩
  | .hbm, ⟨23, _⟩ => ⟨S_, .f32⟩
  | .hbm, ⟨24, _⟩ => ⟨S32x512, .f32⟩
  | .hbm, ⟨25, _⟩ => ⟨S32x1x512, .f32⟩
  | .hbm, ⟨26, _⟩ => ⟨S_, .f32⟩
  | .hbm, ⟨27, _⟩ => ⟨S32x1x512, .f32⟩
  | .hbm, ⟨28, _⟩ => ⟨S32x1x512, .f32⟩
  | .hbm, ⟨29, _⟩ => ⟨S8192x512, .bf16⟩
  | .hbm, ⟨30, _⟩ => ⟨S8192x512, .bf16⟩
  | .hbm, ⟨31, _⟩ => ⟨S512x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== MobaQ.lean ====
abbrev S8192x2048 : Shape := ⟨2, ![8192, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S2048x8192 : Shape := ⟨2, ![2048, 8192]⟩
abbrev S2048x2048 : Shape := ⟨2, ![2048, 2048]⟩
abbrev S1x1024x2048 : Shape := ⟨3, ![1, 1024, 2048]⟩
abbrev S1024x2048 : Shape := ⟨2, ![1024, 2048]⟩
abbrev S2048x1 : Shape := ⟨2, ![2048, 1]⟩

abbrev nBuf : Space → Nat
  | .hbm => 9
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S2x2048x2048, .f32⟩
  | .hbm, ⟨6, _⟩ => ⟨S2x2048x2048, .bf16⟩
  | .hbm, ⟨7, _⟩ => ⟨S1x2048, .f32⟩
  | .hbm, ⟨8, _⟩ => ⟨S2048x8192, .bf16⟩
  | .local _ .vmem, ⟨0, _⟩ => ⟨S1x2048, .f32⟩
  | .local _ .vmem, ⟨1, _⟩ => ⟨S2048x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S2048x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MobaQReferenceIdeal.lean ====
abbrev S8192x2048 : Shape := ⟨2, ![8192, 2048]⟩
abbrev S4x2048 : Shape := ⟨2, ![4, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048x2048 : Shape := ⟨3, ![1, 2048, 2048]⟩
abbrev S2048x2048 : Shape := ⟨2, ![2048, 2048]⟩
abbrev S2048x8192 : Shape := ⟨2, ![2048, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S2x2048x2048, .f32⟩
  | .hbm, ⟨3, _⟩ => ⟨S1x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S1x2048x2048, .f32⟩
  | .hbm, ⟨22, _⟩ => ⟨S2048x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S2048x8192, .f32⟩
  | .hbm, ⟨28, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Gates.lean ====
abbrev S8192x64 : Shape := ⟨2, ![8192, 64]⟩
abbrev S2x32 : Shape := ⟨2, ![2, 32]⟩
abbrev S1x32 : Shape := ⟨2, ![1, 32]⟩
abbrev S32 : Shape := ⟨1, ![32]⟩
abbrev S8192x32 : Shape := ⟨2, ![8192, 32]⟩
abbrev S1024x64 : Shape := ⟨2, ![1024, 64]⟩
abbrev S1024x32 : Shape := ⟨2, ![1024, 32]⟩

abbrev nBuf : Space → Nat
  | .hbm => 11
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S2x32, .f32⟩
  | .hbm, ⟨2, _⟩ => ⟨S2x32, .f32⟩
  | .hbm, ⟨3, _⟩ => ⟨S1x32, .f32⟩
  | .hbm, ⟨4, _⟩ => ⟨S32, .f32⟩
  | .hbm, ⟨5, _⟩ => ⟨S1x32, .f32⟩
  | .hbm, ⟨6, _⟩ => ⟨S32, .f32⟩
  | .hbm, ⟨7, _⟩ => ⟨S1x32, .f32⟩
  | .hbm, ⟨8, _⟩ => ⟨S1x32, .f32⟩
  | .hbm, ⟨9, _⟩ => ⟨S8192x32, .f32⟩
  | .hbm, ⟨10, _⟩ => ⟨S8192x32, .f32⟩
  | .local _ .vmem, ⟨0, _⟩ => ⟨S1024x64, .f32⟩
  | .local _ .vmem, ⟨1, _⟩ => ⟨S1024x64, .f32⟩
  | .local _ .vmem, ⟨2, _⟩ => ⟨S1x32, .f32⟩
  | .local _ .vmem, ⟨3, _⟩ => ⟨S1x32, .f32⟩
  | .local _ .vmem, ⟨4, _⟩ => ⟨S1024x32, .f32⟩
  | .local _ .vmem, ⟨5, _⟩ => ⟨S1024x32, .f32⟩
  | .local _ .vmem, ⟨6, _⟩ => ⟨S1024x32, .f32⟩
  | .local _ .vmem, ⟨7, _⟩ => ⟨S1024x32, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GatesReferenceIdeal.lean ====
abbrev S8192x64 : Shape := ⟨2, ![8192, 64]⟩
abbrev S2x32 : Shape := ⟨2, ![2, 32]⟩
abbrev S8192x32 : Shape := ⟨2, ![8192, 32]⟩
abbrev S_ : Shape := ⟨0, ![]⟩
abbrev S1x32 : Shape := ⟨2, ![1, 32]⟩
abbrev S32 : Shape := ⟨1, ![32]⟩

abbrev nBuf : Space → Nat
  | .hbm => 39
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S2x32, .f32⟩
  | .hbm, ⟨2, _⟩ => ⟨S2x32, .f32⟩
  | .hbm, ⟨3, _⟩ => ⟨S8192x32, .f32⟩
  | .hbm, ⟨4, _⟩ => ⟨S8192x32, .f32⟩
  | .hbm, ⟨5, _⟩ => ⟨S8192x32, .f32⟩
  | .hbm, ⟨6, _⟩ => ⟨S8192x32, .f32⟩
  | .hbm, ⟨7, _⟩ => ⟨S_, .f32⟩
  | .hbm, ⟨8, _⟩ => ⟨S8192x32, .f32⟩
  | .hbm, ⟨9, _⟩ => ⟨S8192x32, .f32⟩
  | .hbm, ⟨10, _⟩ => ⟨S_, .f32⟩
  | .hbm, ⟨11, _⟩ => ⟨S8192x32, .f32⟩
  | .hbm, ⟨12, _⟩ => ⟨S8192x32, .f32⟩
  | .hbm, ⟨13, _⟩ => ⟨S1x32, .f32⟩
  | .hbm, ⟨14, _⟩ => ⟨S32, .f32⟩
  | .hbm, ⟨15, _⟩ => ⟨S32, .f32⟩
  | .hbm, ⟨16, _⟩ => ⟨S32, .f32⟩
  | .hbm, ⟨17, _⟩ => ⟨S1x32, .f32⟩
  | .hbm, ⟨18, _⟩ => ⟨S32, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S_, .f32⟩
  | .hbm, ⟨23, _⟩ => ⟨S8192x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x32, .i1⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S8192x32, .f32⟩
  | .hbm, ⟨34, _⟩ => ⟨S8192x32, .f32⟩
  | .hbm, ⟨35, _⟩ => ⟨S8192x32, .f32⟩
  | .hbm, ⟨36, _⟩ => ⟨S1x32, .f32⟩
  | .hbm, ⟨37, _⟩ => ⟨S8192x32, .f32⟩
  | .hbm, ⟨38, _⟩ => ⟨S8192x32, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩

abbrev nD : Nat := 1
abbrev τ : Topo := Topo.v7x

variable {F : FTy → Type} [FloatOps F]
-- ==== Proof.ScanStep.lean ====
/- The recurrence's body in ONE vocabulary. The kernel's body is 4 chunks × 16 pairs of heads written out; here each chunk of
   each pair is the same few functions of what it loads (`wsOf`, `vnOf`, `updOf`, `outOf`, `nextOf`, `gateOf`), the state
   after `n` chunks is a recursion (`stage`), and the pieces the body leaves in the output window and in the carried scratch
   are listed by one function each (`outPiece`, `stPiece`). The two cases' runs leave exactly these pieces. -/
module

public import proofs.«01_k».proof.Proof.Gen.KernelIdeal.Value

@[expose] public section

set_option maxRecDepth 16384

noncomputable section

namespace Cert.KernelIdeal.Scan

open Idealize.ShloMosaic Idealize.ShloMosaic.TcCoe Idealize.ShloMosaic.Tactic
open Idealize.SL Idealize.SL.Sem
open Cert.KernelIdeal Cert.KernelIdeal.Gen

variable {F : FTy → Type} [FloatOps F]

/-- The block-diagonal 256×256 array of a pair's state: head 0 top left, head 1 bottom right, zeros elsewhere. -/
def diagS (s : FVec F S128x256 .f32) : FVec F S256x256 .bf16 :=
  let x := truncf .bf16 s bitsLt_bf16_f32
  let z : FVec F S128x128 .bf16 := broadcast S128x128 (Scalar.ofBits .bf16 0x0000#16)
  concatenate S256x256 0
    [⟨S128x256, concatenate S128x256 1 [⟨S128x128, extractStridedSlice S128x128 ![0, 0] x slices_S128x256_o0_0_S128x128⟩, ⟨S128x128, z⟩] concatenates_S128x128_S128x128_S128x256_d1⟩,
     ⟨S128x256, concatenate S128x256 1 [⟨S128x128, z⟩, ⟨S128x128, extractStridedSlice S128x128 ![0, 128] x slices_S128x256_o0_128_S128x128⟩] concatenates_S128x128_S128x128_S128x256_d1⟩]
    concatenates_S128x256_S128x256_S256x256_d0

/-- The same of a pair's 64-row update. -/
def diagV (x : FVec F S64x256 .bf16) : FVec F S128x256 .bf16 :=
  let z : FVec F S64x128 .bf16 := broadcast S64x128 (Scalar.ofBits .bf16 0x0000#16)
  concatenate S128x256 0
    [⟨S64x256, concatenate S64x256 1 [⟨S64x128, extractStridedSlice S64x128 ![0, 0] x slices_S64x256_o0_0_S64x128⟩, ⟨S64x128, z⟩] concatenates_S64x128_S64x128_S64x256_d1⟩,
     ⟨S64x256, concatenate S64x256 1 [⟨S64x128, z⟩, ⟨S64x128, extractStridedSlice S64x128 ![0, 128] x slices_S64x256_o0_128_S64x128⟩] concatenates_S64x128_S64x128_S64x256_d1⟩]
    concatenates_S64x256_S64x256_S128x256_d0

/-- Both products with the state at once: rows 0–63 `w·S`, rows 64–127 `q·S`. -/
def wsOf (s : FVec F S128x256 .f32) (w : Vec F S1x1x128x256 .bf16) : FVec F S128x256 .f32 :=
  matmul dot_S128x256_S256x256_S128x256_1_0_0_1_n_n none (shapeCast S128x256 w shapeCasts_S1x1x128x256_S128x256) (diagS s)
    (constant S128x256 .f32 0x00000000#32)

/-- The chunk's corrected values `u − w·S`. -/
def vnOf (s : FVec F S128x256 .f32) (w : Vec F S1x1x128x256 .bf16) (u : Vec F S1x64x256 .f32) : FVec F S64x256 .bf16 :=
  truncf .bf16 (subf (shapeCast S64x256 u shapeCasts_S1x64x256_S64x256)
    (extractStridedSlice S64x256 ![0, 0] (wsOf s w) slices_S128x256_o0_0_S64x256)) bitsLt_bf16_f32

/-- Both products with the corrected values: rows 0–63 the chunk's own part of the output, rows 64–191 the state's increment. -/
def updOf (s : FVec F S128x256 .f32) (w : Vec F S1x1x128x256 .bf16) (u : Vec F S1x64x256 .f32) (l : Vec F S1x1x192x128 .bf16) :
    FVec F S192x256 .f32 :=
  matmul dot_S192x128_S128x256_S192x256_1_0_0_1_n_n none (shapeCast S192x128 l shapeCasts_S1x1x192x128_S192x128) (diagV (vnOf s w u))
    (constant S192x256 .f32 0x00000000#32)

/-- The chunk's output of the recurrence, both heads side by side. -/
def outOf (s : FVec F S128x256 .f32) (w : Vec F S1x1x128x256 .bf16) (u : Vec F S1x64x256 .f32) (l : Vec F S1x1x192x128 .bf16) :
    FVec F S64x256 .f32 :=
  addf (extractStridedSlice S64x256 ![64, 0] (wsOf s w) slices_S128x256_o64_0_S64x256)
    (extractStridedSlice S64x256 ![0, 0] (updOf s w u l) slices_S192x256_o0_0_S64x256)

/-- The pair's state after the chunk. -/
def nextOf (s : FVec F S128x256 .f32) (w : Vec F S1x1x128x256 .bf16) (u : Vec F S1x64x256 .f32) (l : Vec F S1x1x192x128 .bf16)
    (g : Vec F S1x1x1x256 .f32) : FVec F S128x256 .f32 :=
  addf (mulf s (broadcastTo S128x256 (shapeCast S1x256 g shapeCasts_S1x1x1x256_S1x256) broadcasts_S1x256_S128x256))
    (extractStridedSlice S128x256 ![64, 0] (updOf s w u l) slices_S192x256_o64_0_S128x256)

/-- The two halves of 256 columns start at 0 and 128. -/
theorem slices_half (hh : Fin 2) : S64x256.Slices ![0, 128 * hh.val] S64x128 := by
  fin_cases hh
  · exact slices_S64x256_o0_0_S64x128
  · exact slices_S64x256_o0_128_S64x128

/-- One head's half of the output. -/
def half (hh : Fin 2) (o : FVec F S64x256 .f32) : FVec F S64x128 .f32 :=
  extractStridedSlice S64x128 ![0, 128 * hh.val] o (slices_half hh)

/-- One head's output normalised by its rows' root mean square, scaled by the gain, gated by `z·σ(z)`. -/
def gateOf (gn : FVec F S1x128 .f32) (o z : FVec F S64x128 .f32) : FVec F S64x128 .bf16 :=
  let ms : FVec F S64x1 .f32 := divf
    (shapeCast S64x1 (multiReduction .add [1] S64 (mulf o o) 0x00000000#32 reduces_S64x128_S64 (.inl rfl) rfl : FVec F S64 .f32) shapeCasts_S64_S64x1)
    (broadcast S64x1 (Scalar.ofBits .f32 0x43000000#32))
  let r := rsqrt (addf ms (broadcast S64x1 (Scalar.ofBits .f32 0x358637BD#32)))
  truncf .bf16 (mulf (mulf (mulf o (broadcastTo S64x128 r broadcasts_S64x1_S64x128)) (broadcastTo S64x128 gn broadcasts_S1x128_S64x128))
    (mulf z (logistic z))) bitsLt_bf16_f32

/-! ## The body over its loads -/

/-- What the body loads at a grid point: per chunk and pair its four operands, per chunk and head the gate, the gain, and the
    states it starts from. -/
structure Loads (F : FTy → Type) where
  w : Fin 4 → Fin 16 → Vec F S1x1x128x256 .bf16
  l : Fin 4 → Fin 16 → Vec F S1x1x192x128 .bf16
  u : Fin 4 → Fin 16 → Vec F S1x64x256 .f32
  g : Fin 4 → Fin 16 → Vec F S1x1x1x256 .f32
  z : Fin 4 → Fin 32 → Vec F S64x128 .f32
  gn : Vec F S1x128 .f32
  s : Fin 16 → Vec F S1x128x256 .f32

/-- A pair's state after `n` of the point's chunks. -/
def stage (D : Loads F) (p : Fin 16) : (n : ℕ) → n ≤ 4 → FVec F S128x256 .f32
  | 0, _ => shapeCast S128x256 (D.s p) shapeCasts_S1x128x256_S128x256
  | n + 1, h => nextOf (stage D p n (Nat.le_of_succ_le h)) (D.w ⟨n, h⟩ p) (D.u ⟨n, h⟩ p) (D.l ⟨n, h⟩ p) (D.g ⟨n, h⟩ p)

/-- The pair a head belongs to, and its half. -/
def pairOf (h : Fin 32) : Fin 16 := ⟨h.val / 2, by omega⟩
def halfOf (h : Fin 32) : Fin 2 := ⟨h.val % 2, by omega⟩

/-- What the body stores for chunk `n` and head `h`. -/
def outPay (D : Loads F) (n : Fin 4) (h : Fin 32) : FVec F S64x128 .bf16 :=
  gateOf (shapeCast S1x128 D.gn shapeCasts_S1x128_S1x128)
    (half (halfOf h) (outOf (stage D (pairOf h) n.val n.isLt.le) (D.w n (pairOf h)) (D.u n (pairOf h)) (D.l n (pairOf h)))) (D.z n h)

theorem out_inb (n : Fin 4) (h : Fin 32) : ∀ a, (![64 * n.val, 128 * h.val] : Fin 2 → ℕ) a + S64x128.size a ≤ S256x4096.size a := by
  intro a; fin_cases a
  · show 64 * n.val + 64 ≤ 256; omega
  · show 128 * h.val + 128 ≤ 4096; omega

theorem st_inb (p : Fin 16) : ∀ a, (![p.val, 0, 0] : Fin 3 → ℕ) a + S1x128x256.size a ≤ S16x128x256.size a := by
  intro a; fin_cases a
  · show p.val + 1 ≤ 16; omega
  · show 0 + 128 ≤ 128; omega
  · show 0 + 256 ≤ 256; omega

theorem w_inb (n : Fin 4) (p : Fin 16) : ∀ a, (![p.val, n.val, 0, 0] : Fin 4 → ℕ) a + S1x1x128x256.size a ≤ S16x4x128x256.size a := by
  intro a; fin_cases a
  · show p.val + 1 ≤ 16; omega
  · show n.val + 1 ≤ 4; omega
  · show 0 + 128 ≤ 128; omega
  · show 0 + 256 ≤ 256; omega

theorem l_inb (n : Fin 4) (p : Fin 16) : ∀ a, (![p.val, n.val, 0, 0] : Fin 4 → ℕ) a + S1x1x192x128.size a ≤ S16x4x192x128.size a := by
  intro a; fin_cases a
  · show p.val + 1 ≤ 16; omega
  · show n.val + 1 ≤ 4; omega
  · show 0 + 192 ≤ 192; omega
  · show 0 + 128 ≤ 128; omega

theorem u_inb (n : Fin 4) (p : Fin 16) : ∀ a, (![p.val, 64 * n.val, 0] : Fin 3 → ℕ) a + S1x64x256.size a ≤ S16x256x256.size a := by
  intro a; fin_cases a
  · show p.val + 1 ≤ 16; omega
  · show 64 * n.val + 64 ≤ 256; omega
  · show 0 + 256 ≤ 256; omega

theorem g_inb (n : Fin 4) (p : Fin 16) : ∀ a, (![p.val, n.val, 0, 0] : Fin 4 → ℕ) a + S1x1x1x256.size a ≤ S16x4x8x256.size a := by
  intro a; fin_cases a
  · show p.val + 1 ≤ 16; omega
  · show n.val + 1 ≤ 4; omega
  · show 0 + 1 ≤ 8; omega
  · show 0 + 256 ≤ 256; omega

/-- The `k`-th store into the output window: chunk `k / 32`, head `k % 32`. -/
def outPiece (D : Loads F) (k : Fin 128) : View.Piece (Elt F) S256x4096 .bf16 :=
  let n : Fin 4 := ⟨k.val / 32, by omega⟩
  let h : Fin 32 := ⟨k.val % 32, by omega⟩
  ⟨Rect.unit ![64 * n.val, 128 * h.val] S64x128.size (out_inb n h), outPay D n h⟩

/-- The store of pair `p`'s state into the carried scratch. -/
def stPiece (D : Loads F) (p : Fin 16) : View.Piece (Elt F) S16x128x256 .f32 :=
  ⟨Rect.unit ![p.val, 0, 0] S1x128x256.size (st_inb p), shapeCast S1x128x256 (stage D p 4 le_rfl) shapeCasts_S128x256_S1x128x256⟩

/-- The first `k` of `n` pieces, last first. -/
def lastFirst {α : Type} {n : ℕ} (f : Fin n → α) : (k : ℕ) → k ≤ n → List α
  | 0, _ => []
  | k + 1, h => f ⟨k, h⟩ :: lastFirst f k (Nat.le_of_succ_le h)

theorem mem_lastFirst {α : Type} {n : ℕ} (f : Fin n → α) : ∀ (k : ℕ) (h : k ≤ n) (a : α), a ∈ lastFirst f k h → ∃ j, a = f j
  | 0, _, a, ha => by simp [lastFirst] at ha
  | k + 1, h, a, ha => by
    rcases List.mem_cons.mp ha with e | e
    · exact ⟨_, e⟩
    · exact mem_lastFirst f k _ a e

theorem lastFirst_mem {α : Type} {n : ℕ} (f : Fin n → α) : ∀ (k : ℕ) (h : k ≤ n) (j : Fin n), j.val < k → f j ∈ lastFirst f k h
  | 0, _, j, hj => absurd hj (Nat.not_lt_zero _)
  | k + 1, h, j, hj => by
    rcases Nat.lt_or_ge j.val k with e | e
    · exact List.mem_cons_of_mem _ (lastFirst_mem f k _ j e)
    · have : j = ⟨k, h⟩ := Fin.ext (show j.val = k by omega)
      subst this; exact List.mem_cons_self

/-! ## The loads of the two cases, as the runs read them -/

/-- The loads through the staging memrefs, the states given. -/
def loadsOf (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole)
    (x0 : Vec F S16x4x128x256 .bf16) (x1 : Vec F S16x4x192x128 .bf16) (x2 : Vec F S16x256x256 .f32) (x3 : Vec F S16x4x8x256 .f32) (x4 : Vec F S256x4096 .f32) (x5 : Vec F S1x128 .f32)
    (s : Fin 16 → Vec F S1x128x256 .f32) : Loads F where
  w n p := arg2.view.readAt (Elt F) (Rect.unit (s := S16x4x128x256) ![p.val, n.val, 0, 0] S1x1x128x256.size (w_inb n p)).toLoadRect (harg2.unread x0)
  l n p := arg3.view.readAt (Elt F) (Rect.unit (s := S16x4x192x128) ![p.val, n.val, 0, 0] S1x1x192x128.size (l_inb n p)).toLoadRect (harg3.unread x1)
  u n p := arg4.view.readAt (Elt F) (Rect.unit (s := S16x256x256) ![p.val, 64 * n.val, 0] S1x64x256.size (u_inb n p)).toLoadRect (harg4.unread x2)
  g n p := arg5.view.readAt (Elt F) (Rect.unit (s := S16x4x8x256) ![p.val, n.val, 0, 0] S1x1x1x256.size (g_inb n p)).toLoadRect (harg5.unread x3)
  z n h := arg6.view.readAt (Elt F) (Rect.unit (s := S256x4096) ![64 * n.val, 128 * h.val] S64x128.size (out_inb n h)).toLoadRect (harg6.unread x4)
  gn := arg7.view.readAt (Elt F) (Rect.unit (s := S1x128) ![0, 0] S1x128.size inb_S1x128_S1x128_0_0).toLoadRect (harg7.unread x5)
  s := s

end Cert.KernelIdeal.Scan

end
-- ==== Proof.ScanPieces.lean ====
/- What each case's run leaves, as the pieces of the recurrence's body in one vocabulary (ScanStep.lean): by computation. -/
module

public import proofs.«01_k».proof.Proof.ScanStep

@[expose] public section

set_option maxRecDepth 16384

noncomputable section

namespace Cert.KernelIdeal.Scan

open Idealize.ShloMosaic Idealize.ShloMosaic.TcCoe Idealize.ShloMosaic.Tactic
open Idealize.SL Idealize.SL.Sem
open Cert.KernelIdeal Cert.KernelIdeal.Gen

variable {F : FTy → Type} [FloatOps F]

theorem pieces6_B (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : ¬cond0_0 i)
    (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) (xs0 : Vec F S16x128x256 .f32) :
    (kernelRun0_B c i arg2 harg2 arg3 harg3 arg4 harg4 arg5 harg5 arg6 harg6 arg7 harg7 arg8 harg8 arg9 harg9 hc0 x0 x1 x2 x3 x4 x5 xs0).1
      = lastFirst (outPiece (loadsOf arg2 harg2 arg3 harg3 arg4 harg4 arg5 harg5 arg6 harg6 arg7 harg7 x0 x1 x2 x3 x4 x5
          fun p => arg9.view.readAt (Elt F) (Rect.unit (s := S16x128x256) ![p.val, 0, 0] S1x128x256.size (st_inb p)).toLoadRect (harg9.unread xs0))) 128 le_rfl := by
  sl_kernel_rfl

theorem piecesS_B (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : ¬cond0_0 i)
    (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) (xs0 : Vec F S16x128x256 .f32) :
    (kernelRun0_B c i arg2 harg2 arg3 harg3 arg4 harg4 arg5 harg5 arg6 harg6 arg7 harg7 arg8 harg8 arg9 harg9 hc0 x0 x1 x2 x3 x4 x5 xs0).2.1
      = lastFirst (stPiece (loadsOf arg2 harg2 arg3 harg3 arg4 harg4 arg5 harg5 arg6 harg6 arg7 harg7 x0 x1 x2 x3 x4 x5
          fun p => arg9.view.readAt (Elt F) (Rect.unit (s := S16x128x256) ![p.val, 0, 0] S1x128x256.size (st_inb p)).toLoadRect (harg9.unread xs0))) 16 le_rfl := by
  sl_kernel_rfl

/-- The one piece that zeroes the carried scratch at a block row's first point. -/
def zeroPiece : View.Piece (Elt F) S16x128x256 .f32 :=
  ⟨Rect.unit ![0, 0, 0] S16x128x256.size inb_S16x128x256_S16x128x256_0_0_0, k0_pay6⟩

theorem pieces6_A (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : cond0_0 i)
    (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) :
    (kernelRun0_A c i arg2 harg2 arg3 harg3 arg4 harg4 arg5 harg5 arg6 harg6 arg7 harg7 arg8 harg8 arg9 harg9 hc0 x0 x1 x2 x3 x4 x5).1
      = lastFirst (outPiece (loadsOf arg2 harg2 arg3 harg3 arg4 harg4 arg5 harg5 arg6 harg6 arg7 harg7 x0 x1 x2 x3 x4 x5
          fun p => arg9.view.readCov [zeroPiece] (Rect.unit (s := S16x128x256) ![p.val, 0, 0] S1x128x256.size (st_inb p)).toLoadRect)) 128 le_rfl := by
  sl_kernel_rfl

theorem piecesS_A (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : cond0_0 i)
    (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) :
    (kernelRun0_A c i arg2 harg2 arg3 harg3 arg4 harg4 arg5 harg5 arg6 harg6 arg7 harg7 arg8 harg8 arg9 harg9 hc0 x0 x1 x2 x3 x4 x5).2.1
      = lastFirst (stPiece (loadsOf arg2 harg2 arg3 harg3 arg4 harg4 arg5 harg5 arg6 harg6 arg7 harg7 x0 x1 x2 x3 x4 x5
          fun p => arg9.view.readCov [zeroPiece] (Rect.unit (s := S16x128x256) ![p.val, 0, 0] S1x128x256.size (st_inb p)).toLoadRect)) 16 le_rfl ++ [zeroPiece] := by
  sl_kernel_rfl

end Cert.KernelIdeal.Scan

end
-- ==== Proof.ScanBlock.lean ====
/- What one grid point leaves in the output window and in the carried scratch, as functions of its input blocks and of the
   states it starts from: each case's pieces are one function's restrictions. -/
module

public import proofs.«01_k».proof.Proof.ScanPieces
public import Idealize.ShloMosaic.Lib.Pointwise

@[expose] public section

set_option maxRecDepth 16384

noncomputable section

namespace Cert.KernelIdeal.Scan

open Idealize.ShloMosaic Idealize.ShloMosaic.TcCoe Idealize.ShloMosaic.Tactic
open Idealize.SL Idealize.SL.Sem
open Cert.KernelIdeal Cert.KernelIdeal.Gen

variable {F : FTy → Type} [FloatOps F]

/-- The loads of a grid point, from its input blocks and the states it starts from. -/
def loads (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) (s : Vec F S16x128x256 .f32) : Loads F where
  w n p := View.ld x0 (Rect.unit (s := S16x4x128x256) ![p.val, n.val, 0, 0] S1x1x128x256.size (w_inb n p))
  l n p := View.ld x1 (Rect.unit (s := S16x4x192x128) ![p.val, n.val, 0, 0] S1x1x192x128.size (l_inb n p))
  u n p := View.ld x2 (Rect.unit (s := S16x256x256) ![p.val, 64 * n.val, 0] S1x64x256.size (u_inb n p))
  g n p := View.ld x3 (Rect.unit (s := S16x4x8x256) ![p.val, n.val, 0, 0] S1x1x1x256.size (g_inb n p))
  z n h := View.ld x4 (Rect.unit (s := S256x4096) ![64 * n.val, 128 * h.val] S64x128.size (out_inb n h))
  gn := View.ld x5 (Rect.unit (s := S1x128) ![0, 0] S1x128.size inb_S1x128_S1x128_0_0)
  s p := View.ld s (Rect.unit (s := S16x128x256) ![p.val, 0, 0] S1x128x256.size (st_inb p))

/-- Reading through whole staging memrefs is reading the blocks. -/
theorem loadsOf_eq (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) (s : Vec F S16x128x256 .f32)
    (S : Fin 16 → Vec F S1x128x256 .f32)
    (hS : ∀ p, S p = View.ld s (Rect.unit (s := S16x128x256) ![p.val, 0, 0] S1x128x256.size (st_inb p))) :
    loadsOf arg2 harg2 arg3 harg3 arg4 harg4 arg5 harg5 arg6 harg6 arg7 harg7 x0 x1 x2 x3 x4 x5 S = loads x0 x1 x2 x3 x4 x5 s := by
  obtain rfl : S = _ := funext hS
  unfold loadsOf loads
  simp only [View.readAt_eq_ld, harg2.read_unread, harg3.read_unread, harg4.read_unread, harg5.read_unread,
    harg6.read_unread, harg7.read_unread]

/-- The output block: row `i` is row `i % 64` of chunk `i / 64`, column `j` column `j % 128` of head `j / 128`. -/
def outBlock (D : Loads F) : Vec F S256x4096 .bf16 := fun i =>
  outPay D ⟨(i 0).val / 64, by have h : (i 0).val < 256 := (i 0).isLt; omega⟩ ⟨(i 1).val / 128, by have h : (i 1).val < 4096 := (i 1).isLt; omega⟩
    (ix2 ⟨(i 0).val % 64, by omega⟩ ⟨(i 1).val % 128, by omega⟩)

/-- The states after the point's four chunks. -/
def stBlock (D : Loads F) : Vec F S16x128x256 .f32 := fun i => stage D (i 0) 4 le_rfl (ix2 (i 1) (i 2))

/-- Read at row `64 n + r`, column `128 h + c`. -/
theorem outBlock_at (D : Loads F) (n : Fin 4) (h : Fin 32) (r : Fin 64) (c : Fin 128) (i : S256x4096.Idx)
    (h0 : (i 0).val = 64 * n.val + r.val) (h1 : (i 1).val = 128 * h.val + c.val) : outBlock D i = outPay D n h (ix2 r c) := by
  have a1 : (i 0).val / 64 = n.val := by omega
  have a2 : (i 1).val / 128 = h.val := by omega
  have a3 : (i 0).val % 64 = r.val := by omega
  have a4 : (i 1).val % 128 = c.val := by omega
  have b0 : (i 0).val < 256 := (i 0).isLt
  have b1 : (i 1).val < 4096 := (i 1).isLt
  have q1 : (⟨(i 0).val / 64, by omega⟩ : Fin 4) = n := Fin.ext a1
  have q2 : (⟨(i 1).val / 128, by omega⟩ : Fin 32) = h := Fin.ext a2
  have q3 : (⟨(i 0).val % 64, by omega⟩ : Fin 64) = r := Fin.ext a3
  have q4 : (⟨(i 1).val % 128, by omega⟩ : Fin 128) = c := Fin.ext a4
  unfold outBlock
  rw [q1, q2, q3, q4]

theorem outPiece_restricts (D : Loads F) (k : Fin 128) (x : (outPiece D k).1.shape.Idx) :
    (outPiece D k).2 x = outBlock D ((outPiece D k).1.emb x) := by
  refine Eq.trans ?_ (outBlock_at D ⟨k.val / 32, by omega⟩ ⟨k.val % 32, by omega⟩ (x 0) (x 1) _
    (congrArg (64 * (k.val / 32) + ·) (Nat.one_mul _)) (congrArg (128 * (k.val % 32) + ·) (Nat.one_mul _))).symm
  exact congrArg (outPay D ⟨k.val / 32, by omega⟩ ⟨k.val % 32, by omega⟩) (eq_ix2 x)

theorem mem_outRect (n : Fin 4) (h : Fin 32) (y : S256x4096.Idx) (h0 : 64 * n.val ≤ (y 0).val ∧ (y 0).val < 64 * n.val + 64)
    (h1 : 128 * h.val ≤ (y 1).val ∧ (y 1).val < 128 * h.val + 128) :
    y ∈ (Rect.unit (s := S256x4096) ![64 * n.val, 128 * h.val] S64x128.size (out_inb n h)).set :=
  Rect.mem_set_unit.mpr fun a => by
    fin_cases a
    · exact h0
    · exact h1

theorem mem_stRect (p : Fin 16) (y : S16x128x256.Idx) (h0 : y 0 = p) :
    y ∈ (Rect.unit (s := S16x128x256) ![p.val, 0, 0] S1x128x256.size (st_inb p)).set :=
  Rect.mem_set_unit.mpr fun a => by
    subst h0
    fin_cases a
    · exact ⟨le_rfl, Nat.lt_succ_self _⟩
    · exact ⟨Nat.zero_le _, (Nat.zero_add 128).symm ▸ (y 1).isLt⟩
    · exact ⟨Nat.zero_le _, (Nat.zero_add 256).symm ▸ (y 2).isLt⟩

theorem stPiece_restricts (D : Loads F) (p : Fin 16) (x : (stPiece D p).1.shape.Idx) :
    (stPiece D p).2 x = stBlock D ((stPiece D p).1.emb x) := by
  have hx0 : (x 0).val < 1 := (x 0).isLt
  unfold stBlock
  have h0 : ((stPiece D p).1.emb x) 0 = p := Fin.ext (by show p.val + 1 * (x 0).val = p.val; omega)
  have h1 : ((stPiece D p).1.emb x) 1 = x 1 := Fin.ext (by show 0 + 1 * (x 1).val = (x 1).val; omega)
  have h2 : ((stPiece D p).1.emb x) 2 = x 2 := Fin.ext (by show 0 + 1 * (x 2).val = (x 2).val; omega)
  rw [h0, h1, h2]
  show shapeCast S1x128x256 (stage D p 4 le_rfl) shapeCasts_S128x256_S1x128x256 x = _
  have key : ∀ (v : FVec F S128x256 .f32) (x : S1x128x256.Idx), shapeCast S1x128x256 v shapeCasts_S128x256_S1x128x256 x = v (ix2 (x 1) (x 2)) := by
    intro v x
    pointwise []
  exact key _ x

/-- The canon of pieces that cover, whatever was written before them. -/
theorem canon_append {S : Shape} {e : EltTy} (G : S.Idx → Elt F e) (L' : List (View.Piece (Elt F) S e)) :
    ∀ (L : List (View.Piece (Elt F) S e)) (_ : ∀ p ∈ L, ∀ x : p.1.shape.Idx, p.2 x = G (p.1.emb x)) (y : S.Idx)
      (_ : ∃ p ∈ L, y ∈ p.1.set), View.canon (L ++ L') y = G y
  | [], _, _, hy => by obtain ⟨p, hp, _⟩ := hy; simp at hp
  | p :: L, hL, y, hy => by
    rw [List.cons_append]
    by_cases hm : y ∈ p.1.set
    · obtain ⟨x, rfl⟩ := p.1.exists_idx_of_mem hm
      rw [show p.1.idx x = p.1.emb x from rfl, View.canon_cons_emb]
      exact hL p List.mem_cons_self x
    · rw [View.canon_cons_of_not_mem _ _ hm]
      obtain ⟨q, hq, hqy⟩ := hy
      rcases List.mem_cons.mp hq with rfl | hq
      · exact absurd hqy hm
      · exact canon_append G L' L (fun q hq => hL q (List.mem_cons_of_mem _ hq)) y ⟨q, hq, hqy⟩

theorem out_cover (D : Loads F) (y : S256x4096.Idx) : ∃ p ∈ lastFirst (outPiece D) 128 le_rfl, y ∈ p.1.set := by
  have h0 : (y 0).val < 256 := (y 0).isLt
  have h1 : (y 1).val < 4096 := (y 1).isLt
  have hk : (y 0).val / 64 * 32 + (y 1).val / 128 < 128 := by omega
  refine ⟨outPiece D ⟨(y 0).val / 64 * 32 + (y 1).val / 128, hk⟩, lastFirst_mem _ _ _ _ hk, ?_⟩
  have e0 : ((y 0).val / 64 * 32 + (y 1).val / 128) / 32 = (y 0).val / 64 := by omega
  have e1 : ((y 0).val / 64 * 32 + (y 1).val / 128) % 32 = (y 1).val / 128 := by omega
  refine mem_outRect ⟨((y 0).val / 64 * 32 + (y 1).val / 128) / 32, by omega⟩ ⟨((y 0).val / 64 * 32 + (y 1).val / 128) % 32, by omega⟩ y ?_ ?_
  · simp only [e0]; omega
  · simp only [e1]; omega

theorem st_cover (D : Loads F) (y : S16x128x256.Idx) : ∃ p ∈ lastFirst (stPiece D) 16 le_rfl, y ∈ p.1.set := by
  have h1 : (y 1).val < 128 := (y 1).isLt
  have h2 : (y 2).val < 256 := (y 2).isLt
  exact ⟨stPiece D (y 0), lastFirst_mem _ _ _ _ (y 0).isLt, mem_stRect (y 0) y rfl⟩

theorem out_canon (D : Loads F) : View.canon (lastFirst (outPiece D) 128 le_rfl) = outBlock D :=
  funext fun y => View.canon_apply_of_pieces (outBlock D) _ (fun p hp => by
    obtain ⟨k, rfl⟩ := mem_lastFirst _ _ _ _ hp
    exact outPiece_restricts D k) y (out_cover D y)

theorem st_canon (D : Loads F) (L : List (View.Piece (Elt F) S16x128x256 .f32)) :
    View.canon (lastFirst (stPiece D) 16 le_rfl ++ L) = stBlock D :=
  funext fun y => canon_append (stBlock D) L _ (fun p hp => by
    obtain ⟨k, rfl⟩ := mem_lastFirst _ _ _ _ hp
    exact stPiece_restricts D k) y (st_cover D y)

theorem hz3 : (![0, 0, 0] : Fin 3 → ℕ) = fun _ => 0 := by funext a; fin_cases a <;> rfl

theorem mem_zero (y : S16x128x256.Idx) : y ∈ (Rect.unit (s := S16x128x256) ![0, 0, 0] S16x128x256.size inb_S16x128x256_S16x128x256_0_0_0).set :=
  Rect.mem_set_unit.mpr fun a => by
    fin_cases a
    · exact ⟨Nat.zero_le _, (Nat.zero_add 16).symm ▸ (y 0).isLt⟩
    · exact ⟨Nat.zero_le _, (Nat.zero_add 128).symm ▸ (y 1).isLt⟩
    · exact ⟨Nat.zero_le _, (Nat.zero_add 256).symm ▸ (y 2).isLt⟩

theorem zero_canon : View.canon [zeroPiece (F := F)] = k0_pay6 := by
  unfold zeroPiece
  exact View.canon_unit_zero hz3 _ _

theorem zero_read (arg9 : Memref sig .tc .vmem S16x128x256 .f32) (p : Fin 16) :
    arg9.view.readCov [zeroPiece (F := F)] (Rect.unit (s := S16x128x256) ![p.val, 0, 0] S1x128x256.size (st_inb p)).toLoadRect
      = View.ld (k0_pay6 (F := F)) (Rect.unit (s := S16x128x256) ![p.val, 0, 0] S1x128x256.size (st_inb p)) := by
  have hc : ∀ y : S16x128x256.Idx, ∃ p ∈ [zeroPiece (F := F)], y ∈ p.1.set := fun y => ⟨zeroPiece, List.mem_singleton_self _, mem_zero y⟩
  rw [View.readCov_eq_canon_ld _ _ _ hc, zero_canon]

theorem out_B (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : ¬cond0_0 i) (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) (xs0 : Vec F S16x128x256 .f32) :
    out0_B_6 c i arg2 harg2 arg3 harg3 arg4 harg4 arg5 harg5 arg6 harg6 arg7 harg7 arg8 harg8 arg9 harg9 hc0 x0 x1 x2 x3 x4 x5 xs0 = outBlock (loads x0 x1 x2 x3 x4 x5 xs0) := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0), pieces6_B,
    loadsOf_eq (s := xs0) (hS := fun p => by rw [View.readAt_eq_ld, harg9.read_unread]), out_canon]

theorem st_B (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : ¬cond0_0 i) (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) (xs0 : Vec F S16x128x256 .f32) :
    sout0_B_0 c i arg2 harg2 arg3 harg3 arg4 harg4 arg5 harg5 arg6 harg6 arg7 harg7 arg8 harg8 arg9 harg9 hc0 x0 x1 x2 x3 x4 x5 xs0 = stBlock (loads x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0), piecesS_B,
    loadsOf_eq (s := xs0) (hS := fun p => by rw [View.readAt_eq_ld, harg9.read_unread]), ← List.append_nil (lastFirst _ _ _), st_canon]

theorem out_A (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : cond0_0 i) (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) :
    out0_A_6 c i arg2 harg2 arg3 harg3 arg4 harg4 arg5 harg5 arg6 harg6 arg7 harg7 arg8 harg8 arg9 harg9 hc0 x0 x1 x2 x3 x4 x5 = outBlock (loads x0 x1 x2 x3 x4 x5 (k0_pay6 (F := F))) := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5), pieces6_A,
    loadsOf_eq (s := k0_pay6 (F := F)) (hS := fun p => zero_read arg9 p), out_canon]

theorem st_A (c : Dev nD) (i : grid0.Coords) (arg2 : Memref sig .tc .vmem S16x4x128x256 .bf16) (harg2 : arg2.IsWhole) (arg3 : Memref sig .tc .vmem S16x4x192x128 .bf16) (harg3 : arg3.IsWhole) (arg4 : Memref sig .tc .vmem S16x256x256 .f32) (harg4 : arg4.IsWhole) (arg5 : Memref sig .tc .vmem S16x4x8x256 .f32) (harg5 : arg5.IsWhole) (arg6 : Memref sig .tc .vmem S256x4096 .f32) (harg6 : arg6.IsWhole) (arg7 : Memref sig .tc .vmem S1x128 .f32) (harg7 : arg7.IsWhole) (arg8 : Memref sig .tc .vmem S256x4096 .bf16) (harg8 : arg8.IsWhole) (arg9 : Memref sig .tc .vmem S16x128x256 .f32) (harg9 : arg9.IsWhole) (hc0 : cond0_0 i) (x0 : Vec F S16x4x128x256 .bf16) (x1 : Vec F S16x4x192x128 .bf16) (x2 : Vec F S16x256x256 .f32) (x3 : Vec F S16x4x8x256 .f32) (x4 : Vec F S256x4096 .f32) (x5 : Vec F S1x128 .f32) :
    sout0_A_0 c i arg2 harg2 arg3 harg3 arg4 harg4 arg5 harg5 arg6 harg6 arg7 harg7 arg8 harg8 arg9 harg9 hc0 x0 x1 x2 x3 x4 x5 = stBlock (loads x0 x1 x2 x3 x4 x5 (k0_pay6 (F := F))) := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5), piecesS_A,
    loadsOf_eq (s := k0_pay6 (F := F)) (hS := fun p => zero_read arg9 p), st_canon]

end Cert.KernelIdeal.Scan

end
-- ==== Proof.ScanMath.lean ====
/- The recurrence over the reals, one column of one head at a time. A `Chunk` is what one chunk contributes to one column of a
   head's state: the two matrices applied to the state, the two applied to the corrected values, the column of values and the
   decay. The kernel's block-diagonal products (two heads side by side, zeros off the diagonal) are, at a column, exactly the
   sums over that column's own head: the other head's terms are products with zero. -/
module

public import proofs.«01_k».proof.Proof.ScanStep
public import Idealize.ShloMosaic.Lib.Pointwise

@[expose] public section

set_option maxRecDepth 16384

noncomputable section

namespace Cert.KernelIdeal.Scan

open Idealize.ShloMosaic Idealize.ShloMosaic.TcCoe Idealize.ShloMosaic.Pointwise
open Cert.KernelIdeal Cert.KernelIdeal.Gen

/-- One chunk's contribution to one column of a head's state. -/
structure Chunk where
  w : Fin 64 → Fin 128 → EReal
  q : Fin 64 → Fin 128 → EReal
  qk : Fin 64 → Fin 64 → EReal
  ku : Fin 128 → Fin 64 → EReal
  u : Fin 64 → EReal
  g : EReal

/-- The corrected values of the column. -/
def Chunk.vn (C : Chunk) (s : Fin 128 → EReal) (m : Fin 64) : EReal := C.u m - ∑ k, C.w m k * s k
/-- The column of the output. -/
def Chunk.out (C : Chunk) (s : Fin 128 → EReal) (r : Fin 64) : EReal := ∑ k, C.q r k * s k + ∑ m, C.qk r m * C.vn s m
/-- The column of the state after the chunk. -/
def Chunk.next (C : Chunk) (s : Fin 128 → EReal) (k : Fin 128) : EReal := s k * C.g + ∑ m, C.ku k m * C.vn s m

/-- The columns of a 256-wide pair that hold a column's own head, and the same of a 128-wide pair. -/
def own (c : Fin 256) (k : Fin 128) : Fin 256 := ⟨128 * (c.val / 128) + k.val, by omega⟩
def own64 (c : Fin 256) (m : Fin 64) : Fin 128 := ⟨64 * (c.val / 128) + m.val, by omega⟩

theorem ws_apply (s : FVec Ideal S128x256 .f32) (w : Vec Ideal S1x1x128x256 .bf16) (r : Fin 128) (c : Fin 256) :
    wsOf s w (ix2 r c) = ∑ k : Fin 128, w (ix4 0 0 r (own c k)) * s (ix2 k c) := by
  pointwise [wsOf, diagS]
  by_cases h : (c : ℕ) < 128
  · simp only [dif_pos h, mul_zero, Finset.sum_const_zero, add_zero]
    refine Finset.sum_congr rfl fun k _ => ?_
    congr 3
    exact Fin.ext (by show (k : ℕ) = 128 * (c.val / 128) + k.val; omega)
  · simp only [dif_neg h, mul_zero, Finset.sum_const_zero, zero_add]
    refine Finset.sum_congr rfl fun k _ => ?_
    have e : 128 + (k : ℕ) = 128 * (c.val / 128) + k.val := by omega
    congr 3
    · exact Fin.ext e
    · exact Fin.ext (by show 128 + ((c : ℕ) - 128) = c; omega)

theorem vn_apply (s : FVec Ideal S128x256 .f32) (w : Vec Ideal S1x1x128x256 .bf16) (u : Vec Ideal S1x64x256 .f32) (m : Fin 64) (c : Fin 256) :
    vnOf s w u (ix2 m c) = u (ix3 0 m c) - ∑ k : Fin 128, w (ix4 0 0 ⟨m.val, by omega⟩ (own c k)) * s (ix2 k c) := by
  pointwise [vnOf]
  rw [ws_apply]

theorem upd_apply (s : FVec Ideal S128x256 .f32) (w : Vec Ideal S1x1x128x256 .bf16) (u : Vec Ideal S1x64x256 .f32) (l : Vec Ideal S1x1x192x128 .bf16)
    (r : Fin 192) (c : Fin 256) :
    updOf s w u l (ix2 r c) = ∑ m : Fin 64, l (ix4 0 0 r (own64 c m)) * vnOf s w u (ix2 m c) := by
  pointwise [updOf, diagV]
  by_cases h : (c : ℕ) < 128
  · simp only [dif_pos h, mul_zero, Finset.sum_const_zero, add_zero]
    refine Finset.sum_congr rfl fun k _ => ?_
    congr 3
    exact Fin.ext (by show (k : ℕ) = 64 * (c.val / 128) + k.val; omega)
  · simp only [dif_neg h, mul_zero, Finset.sum_const_zero, zero_add]
    refine Finset.sum_congr rfl fun k _ => ?_
    have e : 64 + (k : ℕ) = 64 * (c.val / 128) + k.val := by omega
    congr 3
    · exact Fin.ext e
    · exact Fin.ext (by show 128 + ((c : ℕ) - 128) = c; omega)

/-- The chunk a pair's four operands make at column `c`. -/
def chunkOf (w : Vec Ideal S1x1x128x256 .bf16) (u : Vec Ideal S1x64x256 .f32) (l : Vec Ideal S1x1x192x128 .bf16)
    (g : Vec Ideal S1x1x1x256 .f32) (c : Fin 256) : Chunk where
  w r k := w (ix4 0 0 ⟨r.val, by omega⟩ (own c k))
  q r k := w (ix4 0 0 ⟨64 + r.val, by omega⟩ (own c k))
  qk r m := l (ix4 0 0 ⟨r.val, by omega⟩ (own64 c m))
  ku k m := l (ix4 0 0 ⟨64 + k.val, by omega⟩ (own64 c m))
  u m := u (ix3 0 m c)
  g := g (ix4 0 0 0 c)

theorem vn_chunk (s : FVec Ideal S128x256 .f32) (w : Vec Ideal S1x1x128x256 .bf16) (u : Vec Ideal S1x64x256 .f32) (l : Vec Ideal S1x1x192x128 .bf16)
    (g : Vec Ideal S1x1x1x256 .f32) (m : Fin 64) (c : Fin 256) :
    vnOf s w u (ix2 m c) = (chunkOf w u l g c).vn (fun k => s (ix2 k c)) m := vn_apply s w u m c

theorem out_chunk (s : FVec Ideal S128x256 .f32) (w : Vec Ideal S1x1x128x256 .bf16) (u : Vec Ideal S1x64x256 .f32) (l : Vec Ideal S1x1x192x128 .bf16)
    (g : Vec Ideal S1x1x1x256 .f32) (r : Fin 64) (c : Fin 256) :
    outOf s w u l (ix2 r c) = (chunkOf w u l g c).out (fun k => s (ix2 k c)) r := by
  pointwise [outOf]
  rw [ws_apply, upd_apply]
  refine congrArg₂ (· + ·) rfl ?_
  exact Finset.sum_congr rfl fun m _ => by rw [vn_chunk s w u l g]; rfl

theorem next_chunk (s : FVec Ideal S128x256 .f32) (w : Vec Ideal S1x1x128x256 .bf16) (u : Vec Ideal S1x64x256 .f32) (l : Vec Ideal S1x1x192x128 .bf16)
    (g : Vec Ideal S1x1x1x256 .f32) (r : Fin 128) (c : Fin 256) :
    nextOf s w u l g (ix2 r c) = (chunkOf w u l g c).next (fun k => s (ix2 k c)) r := by
  pointwise [nextOf]
  rw [upd_apply]
  refine congrArg₂ (· + ·) rfl ?_
  exact Finset.sum_congr rfl fun m _ => by rw [vn_chunk s w u l g]; rfl

/-- What one element of the gated output is, of its row of the recurrence's output, the gain and the gate. -/
def gated (o : Fin 128 → EReal) (v : Fin 128) (gn z : EReal) : EReal :=
  o v * Ideal.rsqrt (Ideal.div (∑ x, o x * o x) (Ideal.ofBits .f32 0x43000000#32) + Ideal.ofBits .f32 0x358637BD#32) * gn
    * (z * Ideal.logistic z)

theorem gate_apply (gn : FVec Ideal S1x128 .f32) (o z : FVec Ideal S64x128 .f32) (r : Fin 64) (c : Fin 128) :
    gateOf gn o z (ix2 r c) = gated (fun x => o (ix2 r x)) c (gn (ix2 0 c)) (z (ix2 r c)) := by
  pointwise [gateOf, gated]

/-- The states after the first `n` of a sequence of chunks, from zero. -/
def states (C : ℕ → Chunk) : ℕ → Fin 128 → EReal
  | 0 => fun _ => 0
  | n + 1 => (C n).next (states C n)

/-- The stage after `n` chunks is `n` states further, when the point's chunks are the sequence's from `j` on. -/
theorem stage_states (D : Loads Ideal) (p : Fin 16) (c : Fin 256) (C : ℕ → Chunk) (j : ℕ)
    (h0 : ∀ k, shapeCast S128x256 (D.s p) shapeCasts_S1x128x256_S128x256 (ix2 k c) = states C j k)
    (hC : ∀ n : Fin 4, chunkOf (D.w n p) (D.u n p) (D.l n p) (D.g n p) c = C (j + n.val)) :
    ∀ (n : ℕ) (h : n ≤ 4) (k : Fin 128), stage D p n h (ix2 k c) = states C (j + n) k
  | 0, _, k => h0 k
  | n + 1, h, k => by
    rw [stage, next_chunk, hC ⟨n, h⟩]
    exact congrArg (fun s => (C (j + n)).next s k) (funext fun k => stage_states D p c C j h0 hC n _ k)

/-- The stored element of chunk `n`, head `h`, row `r`, column `v`: the gated output of the row's states. -/
theorem outPay_apply (D : Loads Ideal) (C : Fin 256 → ℕ → Chunk) (j : ℕ) (n : Fin 4) (h : Fin 32)
    (h0 : ∀ c k, shapeCast S128x256 (D.s (pairOf h)) shapeCasts_S1x128x256_S128x256 (ix2 k c) = states (C c) j k)
    (hC : ∀ (c : Fin 256) (n : Fin 4), chunkOf (D.w n (pairOf h)) (D.u n (pairOf h)) (D.l n (pairOf h)) (D.g n (pairOf h)) c = C c (j + n.val))
    (r : Fin 64) (v : Fin 128) :
    outPay D n h (ix2 r v) = gated (fun x => ((C ⟨128 * (h.val % 2) + x.val, by omega⟩ (j + n.val)).out
      (states (C ⟨128 * (h.val % 2) + x.val, by omega⟩) (j + n.val)) r)) v (D.gn (ix2 0 v)) (D.z n h (ix2 r v)) := by
  have e : ∀ x : Fin 128, half (halfOf h) (outOf (stage D (pairOf h) n.val n.isLt.le) (D.w n (pairOf h)) (D.u n (pairOf h)) (D.l n (pairOf h))) (ix2 r x)
      = ((C ⟨128 * (h.val % 2) + x.val, by omega⟩ (j + n.val)).out (states (C ⟨128 * (h.val % 2) + x.val, by omega⟩) (j + n.val)) r) := by
    intro x
    have e1 : half (halfOf h) (outOf (stage D (pairOf h) n.val n.isLt.le) (D.w n (pairOf h)) (D.u n (pairOf h)) (D.l n (pairOf h))) (ix2 r x)
        = outOf (stage D (pairOf h) n.val n.isLt.le) (D.w n (pairOf h)) (D.u n (pairOf h)) (D.l n (pairOf h)) (ix2 r ⟨128 * (h.val % 2) + x.val, by omega⟩) := by
      show outOf _ _ _ _ _ = _
      congr 1
      funext a
      fin_cases a
      · exact Fin.ext (by show 0 + r.val = r.val; omega)
      · exact Fin.ext (by show 128 * (h.val % 2) + x.val = _; rfl)
    rw [e1, out_chunk _ _ _ _ (D.g n (pairOf h)), hC]
    congr 1
    exact funext fun k => stage_states D (pairOf h) _ (C _) j (h0 _) (hC _) n.val _ k
  unfold outPay
  rw [gate_apply]
  simp only [e]
  pointwise

end Cert.KernelIdeal.Scan

end
-- ==== Proof.ScanRun.lean ====
/- The kernel's result array over the reals: the run's fold over the 32 grid points, read. After point `t` the carried scratch
   holds, at pair `p` and column `c`, the state after `4 (t + 1)` chunks of that column's sequence of chunks of the argument
   arrays, and the block the point writes back is the gated output of its four chunks. -/
module

public import proofs.«01_k».proof.Proof.ScanBlock
public import proofs.«01_k».proof.Proof.ScanMath
public import Idealize.ShloMosaic.Lib.StableHlo.ReadAt

@[expose] public section

set_option maxRecDepth 16384

noncomputable section

namespace Cert.KernelIdeal.Scan

open Idealize.ShloMosaic Idealize.ShloMosaic.TcCoe Idealize.ShloMosaic.Pointwise Idealize.SL.Sem
open Cert.KernelIdeal Cert.KernelIdeal.Gen Cert.KernelIdeal.Value

/-- Chunk `j` of the argument arrays at pair `p`, column `c` of the pair. -/
def chunkAt (a0 : FVec Ideal S16x128x128x256 .bf16) (a1 : FVec Ideal S16x128x192x128 .bf16) (a2 : FVec Ideal S16x8192x256 .f32)
    (a3 : FVec Ideal S16x128x8x256 .f32) (p : Fin 16) (c : Fin 256) (j : ℕ) : Chunk where
  w r k := a0 (ix4 p ⟨j % 128, by omega⟩ ⟨r.val, by omega⟩ (own c k))
  q r k := a0 (ix4 p ⟨j % 128, by omega⟩ ⟨64 + r.val, by omega⟩ (own c k))
  qk r m := a1 (ix4 p ⟨j % 128, by omega⟩ ⟨r.val, by omega⟩ (own64 c m))
  ku k m := a1 (ix4 p ⟨j % 128, by omega⟩ ⟨64 + k.val, by omega⟩ (own64 c m))
  u m := a2 (ix3 p ⟨64 * (j % 128) + m.val, by omega⟩ c)
  g := a3 (ix4 p ⟨j % 128, by omega⟩ 0 c)

variable (m : (ℓ : Loc nD τ sig) → Buf (Elt Ideal) ℓ)

theorem index_facts : ∀ t : Fin cfg0.N,
    (win0_0.index t 0 = 0 ∧ win0_0.index t 1 = t.val ∧ win0_0.index t 2 = 0 ∧ win0_0.index t 3 = 0)
    ∧ (win0_1.index t 0 = 0 ∧ win0_1.index t 1 = t.val ∧ win0_1.index t 2 = 0 ∧ win0_1.index t 3 = 0)
    ∧ (win0_2.index t 0 = 0 ∧ win0_2.index t 1 = t.val ∧ win0_2.index t 2 = 0)
    ∧ (win0_3.index t 0 = 0 ∧ win0_3.index t 1 = t.val ∧ win0_3.index t 2 = 0 ∧ win0_3.index t 3 = 0)
    ∧ (win0_4.index t 0 = t.val ∧ win0_4.index t 1 = 2)
    ∧ (win0_5.index t 0 = 0 ∧ win0_5.index t 1 = 0) :=
  (by decide +kernel : ∀ t : Fin grid0.N, _)

theorem lt32 (t : Fin cfg0.N) : t.val < 32 := t.isLt.trans_eq N_0

theorem blk0 (c : Dev nD) (t : Fin cfg0.N) (p : Fin 16) (n : Fin 4) (r : Fin 128) (k : Fin 256) :
    (iblk m c 0 t : Vec Ideal S16x4x128x256 .bf16) (ix4 p n r k)
      = m ((c : Thread nD τ).loc main_arg0) (ix4 p ⟨4 * t.val + n.val, by have := lt32 t; omega⟩ r k) := by
  obtain ⟨⟨h0, h1, h2, h3⟩, -⟩ := index_facts t
  unfold iblk
  rw [View.read_apply]
  show V m c main_arg0 _ = _
  rw [V_main_arg0]
  congr 1
  funext a
  apply Fin.ext
  match a with
  | ⟨0, _⟩ => show win0_0.index t 0 * 16 + 1 * p.val = p.val; rw [h0]; omega
  | ⟨1, _⟩ => show win0_0.index t 1 * 4 + 1 * n.val = 4 * t.val + n.val; rw [h1]; omega
  | ⟨2, _⟩ => show win0_0.index t 2 * 128 + 1 * r.val = r.val; rw [h2]; omega
  | ⟨3, _⟩ => show win0_0.index t 3 * 256 + 1 * k.val = k.val; rw [h3]; omega

theorem blk1 (c : Dev nD) (t : Fin cfg0.N) (p : Fin 16) (n : Fin 4) (r : Fin 192) (k : Fin 128) :
    (iblk m c 1 t : Vec Ideal S16x4x192x128 .bf16) (ix4 p n r k)
      = m ((c : Thread nD τ).loc main_arg1) (ix4 p ⟨4 * t.val + n.val, by have := lt32 t; omega⟩ r k) := by
  obtain ⟨-, ⟨h0, h1, h2, h3⟩, -⟩ := index_facts t
  unfold iblk
  rw [View.read_apply]
  show V m c main_arg1 _ = _
  rw [V_main_arg1]
  congr 1
  funext a
  apply Fin.ext
  match a with
  | ⟨0, _⟩ => show win0_1.index t 0 * 16 + 1 * p.val = p.val; rw [h0]; omega
  | ⟨1, _⟩ => show win0_1.index t 1 * 4 + 1 * n.val = 4 * t.val + n.val; rw [h1]; omega
  | ⟨2, _⟩ => show win0_1.index t 2 * 192 + 1 * r.val = r.val; rw [h2]; omega
  | ⟨3, _⟩ => show win0_1.index t 3 * 128 + 1 * k.val = k.val; rw [h3]; omega

theorem blk2 (c : Dev nD) (t : Fin cfg0.N) (p : Fin 16) (r : Fin 256) (k : Fin 256) :
    (iblk m c 2 t : Vec Ideal S16x256x256 .f32) (ix3 p r k)
      = m ((c : Thread nD τ).loc main_arg2) (ix3 p ⟨256 * t.val + r.val, by have := lt32 t; omega⟩ k) := by
  obtain ⟨-, -, ⟨h0, h1, h2⟩, -⟩ := index_facts t
  unfold iblk
  rw [View.read_apply]
  show V m c main_arg2 _ = _
  rw [V_main_arg2]
  congr 1
  funext a
  apply Fin.ext
  match a with
  | ⟨0, _⟩ => show win0_2.index t 0 * 16 + 1 * p.val = p.val; rw [h0]; omega
  | ⟨1, _⟩ => show win0_2.index t 1 * 256 + 1 * r.val = 256 * t.val + r.val; rw [h1]; omega
  | ⟨2, _⟩ => show win0_2.index t 2 * 256 + 1 * k.val = k.val; rw [h2]; omega

theorem blk3 (c : Dev nD) (t : Fin cfg0.N) (p : Fin 16) (n : Fin 4) (r : Fin 8) (k : Fin 256) :
    (iblk m c 3 t : Vec Ideal S16x4x8x256 .f32) (ix4 p n r k)
      = m ((c : Thread nD τ).loc main_arg3) (ix4 p ⟨4 * t.val + n.val, by have := lt32 t; omega⟩ r k) := by
  obtain ⟨-, -, -, ⟨h0, h1, h2, h3⟩, -⟩ := index_facts t
  unfold iblk
  rw [View.read_apply]
  show V m c main_arg3 _ = _
  rw [V_main_arg3]
  congr 1
  funext a
  apply Fin.ext
  match a with
  | ⟨0, _⟩ => show win0_3.index t 0 * 16 + 1 * p.val = p.val; rw [h0]; omega
  | ⟨1, _⟩ => show win0_3.index t 1 * 4 + 1 * n.val = 4 * t.val + n.val; rw [h1]; omega
  | ⟨2, _⟩ => show win0_3.index t 2 * 8 + 1 * r.val = r.val; rw [h2]; omega
  | ⟨3, _⟩ => show win0_3.index t 3 * 256 + 1 * k.val = k.val; rw [h3]; omega

theorem blk4 (c : Dev nD) (t : Fin cfg0.N) (r : Fin 256) (k : Fin 4096) :
    (iblk m c 4 t : Vec Ideal S256x4096 .f32) (ix2 r k)
      = m ((c : Thread nD τ).loc main_arg4) (ix2 ⟨256 * t.val + r.val, by have := lt32 t; omega⟩ ⟨8192 + k.val, by omega⟩) := by
  obtain ⟨-, -, -, -, ⟨h0, h1⟩, -⟩ := index_facts t
  unfold iblk
  rw [View.read_apply]
  show V m c main_arg4 _ = _
  rw [V_main_arg4]
  congr 1
  funext a
  apply Fin.ext
  match a with
  | ⟨0, _⟩ => show win0_4.index t 0 * 256 + 1 * r.val = 256 * t.val + r.val; rw [h0]; omega
  | ⟨1, _⟩ => show win0_4.index t 1 * 4096 + 1 * k.val = 8192 + k.val; rw [h1]; omega

theorem V_gain (c : Dev nD) (v : Fin 128) : V m c main_v0 (ix2 0 v) = m ((c : Thread nD τ).loc main_arg5) (ix1 v) := by
  unfold V
  after_reads_at

theorem blk5 (c : Dev nD) (t : Fin cfg0.N) (v : Fin 128) :
    (iblk m c 5 t : Vec Ideal S1x128 .f32) (ix2 0 v) = m ((c : Thread nD τ).loc main_arg5) (ix1 v) := by
  obtain ⟨-, -, -, -, -, h0, h1⟩ := index_facts t
  rw [← V_gain m c v]
  unfold iblk
  rw [View.read_apply]
  show V m c main_v0 _ = _
  congr 1
  funext a
  apply Fin.ext
  match a with
  | ⟨0, _⟩ => show win0_5.index t 0 * 1 + 1 * 0 = 0; rw [h0]
  | ⟨1, _⟩ => show win0_5.index t 1 * 128 + 1 * v.val = v.val; rw [h1]; omega

/-- The sequence of chunks of the launch's arguments at pair `p`, column `c`. -/
def seqOf (d : Dev nD) (p : Fin 16) (c : Fin 256) : ℕ → Chunk :=
  chunkAt (m ((d : Thread nD τ).loc main_arg0)) (m ((d : Thread nD τ).loc main_arg1)) (m ((d : Thread nD τ).loc main_arg2))
    (m ((d : Thread nD τ).loc main_arg3)) p c

/-- What point `t`'s body loads, over the carried state `s`. -/
def loadsAt (d : Dev nD) (t : Fin cfg0.N) (s : Vec Ideal S16x128x256 .f32) : Loads Ideal :=
  loads (iblk m d 0 t) (iblk m d 1 t) (iblk m d 2 t) (iblk m d 3 t) (iblk m d 4 t) (iblk m d 5 t) s

theorem outsAt_zero (d : Dev nD) (h : 0 < cfg0.N) :
    outsAt0 m d 0 h = (outBlock (loadsAt m d ⟨0, h⟩ (k0_pay6 (F := Ideal))), stBlock (loadsAt m d ⟨0, h⟩ (k0_pay6 (F := Ideal)))) := by
  rw [outsAt0_zero, stAt0_A m d ⟨0, h⟩ _ (Nat.zero_mod _), out_A, st_A]
  rfl

theorem outsAt_succ (d : Dev nD) (n : ℕ) (h : n + 1 < cfg0.N) :
    outsAt0 m d (n + 1) h = (outBlock (loadsAt m d ⟨n + 1, h⟩ (outsAt0 m d n (Nat.lt_of_succ_lt h)).2),
      stBlock (loadsAt m d ⟨n + 1, h⟩ (outsAt0 m d n (Nat.lt_of_succ_lt h)).2)) := by
  have hn : ¬ (n + 1) % 32 = 0 := by have := lt32 ⟨n + 1, h⟩; simp only at this; omega
  rw [outsAt0_succ, stAt0_B m d ⟨n + 1, h⟩ _ hn, out_B, st_B]
  rfl

/-- The point's chunks are the sequence's from `4 t` on. -/
theorem chunk_loads (d : Dev nD) (t : Fin cfg0.N) (s : Vec Ideal S16x128x256 .f32) (p : Fin 16) (c : Fin 256) (n : Fin 4) :
    chunkOf ((loadsAt m d t s).w n p) ((loadsAt m d t s).u n p) ((loadsAt m d t s).l n p) ((loadsAt m d t s).g n p) c
      = seqOf m d p c (4 * t.val + n.val) := by
  have ht := lt32 t
  have e : (⟨(4 * t.val + n.val) % 128, by omega⟩ : Fin 128) = ⟨4 * t.val + n.val, by omega⟩ := Fin.ext (Nat.mod_eq_of_lt (by omega))
  have h0 : ∀ r k, (loadsAt m d t s).w n p (ix4 0 0 r k) = m ((d : Thread nD τ).loc main_arg0) (ix4 p ⟨4 * t.val + n.val, by omega⟩ r k) := by
    intro r k
    rw [← blk0 m d t p n r k]
    refine congrArg (iblk m d 0 t : Vec Ideal S16x4x128x256 .bf16) (funext fun a => Fin.ext ?_)
    match a with
    | ⟨0, _⟩ => show p.val + 1 * 0 = p.val; omega
    | ⟨1, _⟩ => show n.val + 1 * 0 = n.val; omega
    | ⟨2, _⟩ => show 0 + 1 * r.val = r.val; omega
    | ⟨3, _⟩ => show 0 + 1 * k.val = k.val; omega
  have h1 : ∀ r k, (loadsAt m d t s).l n p (ix4 0 0 r k) = m ((d : Thread nD τ).loc main_arg1) (ix4 p ⟨4 * t.val + n.val, by omega⟩ r k) := by
    intro r k
    rw [← blk1 m d t p n r k]
    refine congrArg (iblk m d 1 t : Vec Ideal S16x4x192x128 .bf16) (funext fun a => Fin.ext ?_)
    match a with
    | ⟨0, _⟩ => show p.val + 1 * 0 = p.val; omega
    | ⟨1, _⟩ => show n.val + 1 * 0 = n.val; omega
    | ⟨2, _⟩ => show 0 + 1 * r.val = r.val; omega
    | ⟨3, _⟩ => show 0 + 1 * k.val = k.val; omega
  have h2 : ∀ r : Fin 64, (loadsAt m d t s).u n p (ix3 0 r c)
      = m ((d : Thread nD τ).loc main_arg2) (ix3 p ⟨64 * ((4 * t.val + n.val) % 128) + r.val, by omega⟩ c) := by
    intro r
    have hb := blk2 m d t p ⟨64 * n.val + r.val, by omega⟩ c
    rw [show (⟨64 * ((4 * t.val + n.val) % 128) + r.val, by omega⟩ : Fin 8192) = ⟨256 * t.val + (64 * n.val + r.val), by omega⟩ from
      Fin.ext (by show 64 * ((4 * t.val + n.val) % 128) + r.val = 256 * t.val + (64 * n.val + r.val); omega)]
    refine Eq.trans ?_ hb
    refine congrArg (iblk m d 2 t : Vec Ideal S16x256x256 .f32) (funext fun a => Fin.ext ?_)
    match a with
    | ⟨0, _⟩ => show p.val + 1 * 0 = p.val; omega
    | ⟨1, _⟩ => show 64 * n.val + 1 * r.val = 64 * n.val + r.val; omega
    | ⟨2, _⟩ => show 0 + 1 * c.val = c.val; omega
  have h3 : (loadsAt m d t s).g n p (ix4 0 0 0 c) = m ((d : Thread nD τ).loc main_arg3) (ix4 p ⟨4 * t.val + n.val, by omega⟩ 0 c) := by
    rw [← blk3 m d t p n 0 c]
    refine congrArg (iblk m d 3 t : Vec Ideal S16x4x8x256 .f32) (funext fun a => Fin.ext ?_)
    match a with
    | ⟨0, _⟩ => show p.val + 1 * 0 = p.val; omega
    | ⟨1, _⟩ => show n.val + 1 * 0 = n.val; omega
    | ⟨2, _⟩ => show 0 + 1 * 0 = 0; omega
    | ⟨3, _⟩ => show 0 + 1 * c.val = c.val; omega
  unfold chunkOf seqOf chunkAt
  simp only [h0, h1, h2, h3, e]

theorem st_load (d : Dev nD) (t : Fin cfg0.N) (s : Vec Ideal S16x128x256 .f32) (p : Fin 16) (k : Fin 128) (c : Fin 256) :
    shapeCast S128x256 ((loadsAt m d t s).s p) shapeCasts_S1x128x256_S128x256 (ix2 k c) = s (ix3 p k c) := by
  have e : shapeCast S128x256 ((loadsAt m d t s).s p) shapeCasts_S1x128x256_S128x256 (ix2 k c) = (loadsAt m d t s).s p (ix3 0 k c) := by
    pointwise
  rw [e]
  refine congrArg s (funext fun a => Fin.ext ?_)
  match a with
  | ⟨0, _⟩ => show p.val + 1 * 0 = p.val; omega
  | ⟨1, _⟩ => show 0 + 1 * k.val = k.val; omega
  | ⟨2, _⟩ => show 0 + 1 * c.val = c.val; omega

/-- A state carried into point `t`: the sequence's after `4 t` chunks. -/
def Carried (d : Dev nD) (t : ℕ) (s : Vec Ideal S16x128x256 .f32) : Prop :=
  ∀ (p : Fin 16) (k : Fin 128) (c : Fin 256), s (ix3 p k c) = states (seqOf m d p c) (4 * t) k

theorem carried_step (d : Dev nD) (t : Fin cfg0.N) (s : Vec Ideal S16x128x256 .f32) (hs : Carried m d t.val s) :
    Carried m d (t.val + 1) (stBlock (loadsAt m d t s)) := by
  intro p k c
  show stage (loadsAt m d t s) p 4 le_rfl (ix2 k c) = _
  rw [stage_states _ p c (seqOf m d p c) (4 * t.val) (fun k => (st_load m d t s p k c).trans (hs p k c))
    (fun n => chunk_loads m d t s p c n) 4 le_rfl k]
  rfl

theorem carried_zero (d : Dev nD) : Carried m d 0 (k0_pay6 (F := Ideal)) := by
  intro p k c
  show k0_pay6 (F := Ideal) (ix3 p k c) = 0
  pointwise [k0_pay6]

theorem carried_outs (d : Dev nD) : ∀ (n : ℕ) (h : n < cfg0.N), Carried m d (n + 1) (outsAt0 m d n h).2
  | 0, h => by
    rw [outsAt_zero]
    exact carried_step m d ⟨0, h⟩ _ (carried_zero m d)
  | n + 1, h => by
    rw [outsAt_succ]
    exact carried_step m d ⟨n + 1, h⟩ _ (carried_outs d n _)

/-- The result at token `64 j + r`, head `h`, column `v`: the gated row of the recurrence's output. -/
def resultAt (d : Dev nD) (j : Fin 128) (r : Fin 64) (h : Fin 32) (v : Fin 128) : EReal :=
  gated (fun x => (seqOf m d (pairOf h) ⟨128 * (h.val % 2) + x.val, by omega⟩ j.val).out
      (states (seqOf m d (pairOf h) ⟨128 * (h.val % 2) + x.val, by omega⟩) j.val) r) v
    (m ((d : Thread nD τ).loc main_arg5) (ix1 v))
    (m ((d : Thread nD τ).loc main_arg4) (ix2 ⟨64 * j.val + r.val, by omega⟩ ⟨8192 + (128 * h.val + v.val), by omega⟩))

theorem out_point (d : Dev nD) (t : Fin cfg0.N) (s : Vec Ideal S16x128x256 .f32) (hs : Carried m d t.val s)
    (n : Fin 4) (r : Fin 64) (h : Fin 32) (v : Fin 128) (i : S256x4096.Idx)
    (h0 : (i 0).val = 64 * n.val + r.val) (h1 : (i 1).val = 128 * h.val + v.val) :
    outBlock (loadsAt m d t s) i = resultAt m d ⟨4 * t.val + n.val, by have := lt32 t; omega⟩ r h v := by
  have ht := lt32 t
  rw [outBlock_at _ n h r v i h0 h1,
    outPay_apply _ (fun c => seqOf m d (pairOf h) c) (4 * t.val) n h (fun c k => (st_load m d t s _ k c).trans (hs _ k c))
      (fun c n => chunk_loads m d t s _ c n) r v]
  have eg : (loadsAt m d t s).gn (ix2 0 v) = m ((d : Thread nD τ).loc main_arg5) (ix1 v) := by
    rw [← blk5 m d t v]
    refine congrArg (iblk m d 5 t : Vec Ideal S1x128 .f32) (funext fun a => Fin.ext ?_)
    match a with
    | ⟨0, _⟩ => show 0 + 1 * 0 = 0; omega
    | ⟨1, _⟩ => show 0 + 1 * v.val = v.val; omega
  have ez : (loadsAt m d t s).z n h (ix2 r v)
      = m ((d : Thread nD τ).loc main_arg4) (ix2 ⟨64 * (4 * t.val + n.val) + r.val, by omega⟩ ⟨8192 + (128 * h.val + v.val), by omega⟩) := by
    rw [show (⟨64 * (4 * t.val + n.val) + r.val, by omega⟩ : Fin 8192) = ⟨256 * t.val + (64 * n.val + r.val), by omega⟩ from
      Fin.ext (by show 64 * (4 * t.val + n.val) + r.val = 256 * t.val + (64 * n.val + r.val); omega)]
    refine Eq.trans ?_ (blk4 m d t ⟨64 * n.val + r.val, by omega⟩ ⟨128 * h.val + v.val, by omega⟩)
    refine congrArg (iblk m d 4 t : Vec Ideal S256x4096 .f32) (funext fun a => Fin.ext ?_)
    match a with
    | ⟨0, _⟩ => show 64 * n.val + 1 * r.val = 64 * n.val + r.val; omega
    | ⟨1, _⟩ => show 128 * h.val + 1 * v.val = 128 * h.val + v.val; omega
  rw [eg, ez]
  rfl

theorem outs_point (d : Dev nD) : ∀ (t : Fin cfg0.N) (n : Fin 4) (r : Fin 64) (h : Fin 32) (v : Fin 128) (i : S256x4096.Idx)
    (_ : (i 0).val = 64 * n.val + r.val) (_ : (i 1).val = 128 * h.val + v.val),
    (outsAt0 m d t.val t.isLt).1 i = resultAt m d ⟨4 * t.val + n.val, by have := lt32 t; omega⟩ r h v
  | ⟨0, ht⟩, n, r, h, v, i, h0, h1 => by
    show (outsAt0 m d 0 ht).1 i = _
    rw [outsAt_zero]
    exact out_point m d ⟨0, ht⟩ _ (carried_zero m d) n r h v i h0 h1
  | ⟨t + 1, ht⟩, n, r, h, v, i, h0, h1 => by
    show (outsAt0 m d (t + 1) ht).1 i = _
    rw [outsAt_succ]
    exact out_point m d ⟨t + 1, ht⟩ _ (carried_outs m d t _) n r h v i h0 h1

/-- The result array read. -/
theorem result_apply (d : Dev nD) (j : Fin 128) (r : Fin 64) (h : Fin 32) (v : Fin 128) (i : S8192x4096.Idx)
    (h0 : (i 0).val = 64 * j.val + r.val) (h1 : (i 1).val = 128 * h.val + v.val) :
    G6 m d i = resultAt m d j r h v := by
  have hp : pt6Of i = j.val / 4 := by
    show 1 * ((i 0).val / 256 - 0) + 1 * ((i 1).val / 4096 - 0) = _
    omega
  have hN : cfg0.N = 32 := N_0
  have hlt : j.val / 4 < cfg0.N := by omega
  unfold G6
  rw [dif_pos (by rw [hp]; exact hlt), fold0_congr m d (pt6Of i) _ (j.val / 4) (by omega) hp, ← outsAt0_sweep m d (j.val / 4) hlt,
    outs_point m d ⟨j.val / 4, hlt⟩ ⟨j.val % 4, by omega⟩ r h v (loc6Of i)
      (by show (i 0).val % 256 = 64 * (j.val % 4) + r.val; omega) (by show (i 1).val % 4096 = _; omega)]
  congr 1
  exact Fin.ext (by show 4 * (j.val / 4) + j.val % 4 = j.val; omega)

end Cert.KernelIdeal.Scan

end
-- ==== Proof.ScanRef.lean ====
/- The reference's loop over the reals: after `j` trips its carried state is, at head `h`, row `k`, column `v`, the state after
   `j` chunks of that column's sequence of chunks of the argument arrays, and its stack of outputs holds the outputs of the
   chunks done. The chunks are the kernel's (`chunkAt`): the reference's stacks are the arguments with the two heads of a pair
   taken apart. -/
module

public import proofs.«01_k».proof.Proof.Gen.ReferenceIdeal.Run
public import proofs.«01_k».proof.Proof.ScanRun
public import Idealize.ShloMosaic.Lib.WordCmp

@[expose] public section

set_option maxRecDepth 16384

noncomputable section

namespace Cert.ReferenceIdeal.Scan

open Idealize.ShloMosaic Idealize.ShloMosaic.TcCoe Idealize.ShloMosaic.Pointwise Idealize.SL.Sem
open Idealize.ShloMosaic.StableHlo
open Cert.ReferenceIdeal Cert.ReferenceIdeal.Gen Cert.ReferenceIdeal.Value
open Cert.KernelIdeal.Scan (Chunk chunkAt states own own64 gated pairOf)

/-! ## One block of a stack -/

/-- The starts the loop's counter gives at trip `j`. -/
def At (j : ℕ) (start : Fin 4 → ℤ) : Prop := ∀ a, start a = ((![j, 0, 0, 0] : Fin 4 → ℕ) a : ℤ)

theorem slices_at (a b : ℕ) (j : Fin 128) : (⟨4, ![128, 32, a, b]⟩ : Shape).Slices ![j.val, 0, 0, 0] (⟨4, ![1, 32, a, b]⟩ : Shape) :=
  ⟨rfl, fun x => by
    fin_cases x
    · show j.val + 1 ≤ 128; omega
    · exact (Nat.zero_add 32).le
    · exact (Nat.zero_add a).le
    · exact (Nat.zero_add b).le⟩

theorem pick_apply {α : Type} (a b : ℕ) (x : (⟨4, ![128, 32, a, b]⟩ : Shape).Idx → α) (start : Fin 4 → ℤ)
    (h : (⟨4, ![128, 32, a, b]⟩ : Shape).Slices (fun _ => 0) (⟨4, ![1, 32, a, b]⟩ : Shape)) (j : Fin 128) (hs : At j.val start)
    (p : Fin 32) (r : Fin a) (c : Fin b) :
    Host.dynamicSlice (⟨4, ![1, 32, a, b]⟩ : Shape) x start h (ix4 0 p r c) = x (ix4 j p r c) := by
  rw [WordCmp.dynamicSlice_eq_extract _ x start h ![j.val, 0, 0, 0] (slices_at a b j) hs]
  refine congrArg x (funext fun y => Fin.ext ?_)
  fin_cases y
  · show j.val + 0 = j.val; omega
  · show 0 + p.val = p.val; omega
  · show 0 + r.val = r.val; omega
  · show 0 + c.val = c.val; omega

theorem put_hit {α : Type} (x : S128x32x64x128.Idx → α) (upd : S1x32x64x128.Idx → α) (start : Fin 4 → ℤ)
    (h : S128x32x64x128.Slices (fun _ => 0) S1x32x64x128) (j : Fin 128) (hs : At j.val start) (p : Fin 32) (r : Fin 64) (c : Fin 128) :
    Host.dynamicUpdateSlice x upd start h (ix4 j p r c) = upd (ix4 0 p r c) := by
  rw [WordCmp.dynamicUpdateSlice_eq_update x upd start h ![j.val, 0, 0, 0] (slices_at 64 128 j) hs]
  unfold updateSlice
  rw [dif_pos (fun a => by
    fin_cases a
    · exact ⟨le_rfl, Nat.lt_succ_self j.val⟩
    · exact ⟨Nat.zero_le _, (Nat.zero_add 32).symm ▸ p.isLt⟩
    · exact ⟨Nat.zero_le _, (Nat.zero_add 64).symm ▸ r.isLt⟩
    · exact ⟨Nat.zero_le _, (Nat.zero_add 128).symm ▸ c.isLt⟩)]
  refine congrArg upd (funext fun y => Fin.ext ?_)
  fin_cases y
  · show j.val - j.val = 0; omega
  · rfl
  · rfl
  · rfl

theorem put_miss {α : Type} (x : S128x32x64x128.Idx → α) (upd : S1x32x64x128.Idx → α) (start : Fin 4 → ℤ)
    (h : S128x32x64x128.Slices (fun _ => 0) S1x32x64x128) (j i : Fin 128) (hs : At j.val start) (hij : i.val < j.val)
    (p : Fin 32) (r : Fin 64) (c : Fin 128) :
    Host.dynamicUpdateSlice x upd start h (ix4 i p r c) = x (ix4 i p r c) := by
  rw [WordCmp.dynamicUpdateSlice_eq_update x upd start h ![j.val, 0, 0, 0] (slices_at 64 128 j) hs]
  unfold updateSlice
  rw [dif_neg (fun hc => by
    have h0 : j.val ≤ i.val := (hc 0).1
    omega)]

theorem word (j : Fin 128) : (BitVec.ofNat 32 j.val).toInt = (j.val : ℤ) :=
  (by decide +kernel : ∀ j : Fin 128, (BitVec.ofNat 32 j.val).toInt = (j.val : ℤ)) j

theorem starts (V : Valuation τ sig (Elt Ideal)) (j : Fin 128) (hj : V (Proc.devRef .tc main_v28_6) = fun _ => BitVec.ofNat 32 j.val) :
    At j.val (fun k => (((![V (Proc.devRef .tc main_v28_6), constantI S_ 32 0#32, constantI S_ 32 0#32, constantI S_ 32 0#32] : Fin 4 → (⟨S_, .i32⟩ : BufTy).Contents (Elt Ideal))) k (Shape.Idx.first h_S_)).toInt) := by
  intro a
  rw [hj]
  fin_cases a
  · exact word j
  · rfl
  · rfl
  · rfl

/-! ## One trip on the carried arrays -/

theorem pick64x128 (X : FVec Ideal S128x32x64x128 .f32) (start : Fin 4 → ℤ) (j : Fin 128) (hs : At j.val start) (p : Fin 32) (r : Fin 64) (c : Fin 128) :
    shapeCast S32x64x128 (Host.dynamicSlice S1x32x64x128 X start sliceFits_S128x32x64x128_S1x32x64x128) shapeCasts_S1x32x64x128_S32x64x128 (ix3 p r c)
      = X (ix4 j p r c) := by
  rw [← pick_apply 64 128 X start sliceFits_S128x32x64x128_S1x32x64x128 j hs p r c]
  generalize Host.dynamicSlice S1x32x64x128 X start _ = Y
  pointwise

theorem pick64x64 (X : FVec Ideal S128x32x64x64 .f32) (start : Fin 4 → ℤ) (j : Fin 128) (hs : At j.val start) (p : Fin 32) (r : Fin 64) (c : Fin 64) :
    shapeCast S32x64x64 (Host.dynamicSlice S1x32x64x64 X start sliceFits_S128x32x64x64_S1x32x64x64) shapeCasts_S1x32x64x64_S32x64x64 (ix3 p r c)
      = X (ix4 j p r c) := by
  rw [← pick_apply 64 64 X start sliceFits_S128x32x64x64_S1x32x64x64 j hs p r c]
  generalize Host.dynamicSlice S1x32x64x64 X start _ = Y
  pointwise

theorem pick128x64 (X : FVec Ideal S128x32x128x64 .f32) (start : Fin 4 → ℤ) (j : Fin 128) (hs : At j.val start) (p : Fin 32) (r : Fin 128) (c : Fin 64) :
    shapeCast S32x128x64 (Host.dynamicSlice S1x32x128x64 X start sliceFits_S128x32x128x64_S1x32x128x64) shapeCasts_S1x32x128x64_S32x128x64 (ix3 p r c)
      = X (ix4 j p r c) := by
  rw [← pick_apply 128 64 X start sliceFits_S128x32x128x64_S1x32x128x64 j hs p r c]
  generalize Host.dynamicSlice S1x32x128x64 X start _ = Y
  pointwise

theorem pick1x128 (X : FVec Ideal S128x32x1x128 .f32) (start : Fin 4 → ℤ) (j : Fin 128) (hs : At j.val start) (p : Fin 32) (c : Fin 128) :
    shapeCast S32x1x128 (Host.dynamicSlice S1x32x1x128 X start sliceFits_S128x32x1x128_S1x32x1x128) shapeCasts_S1x32x1x128_S32x1x128 (ix3 p 0 c)
      = X (ix4 j p 0 c) := by
  rw [← pick_apply 1 128 X start sliceFits_S128x32x1x128_S1x32x1x128 j hs p 0 c]
  generalize Host.dynamicSlice S1x32x1x128 X start _ = Y
  pointwise

theorem vn_shape (U W : FVec Ideal S32x64x128 .f32) (S : FVec Ideal S32x128x128 .f32) (h : Fin 32) (r : Fin 64) (v : Fin 128) :
    subf U (Host.dotGeneral dot_S32x64x128_S32x128x128_S32x64x128_2_1_1_2_0_0 none W S) (ix3 h r v)
      = U (ix3 h r v) - ∑ k : Fin 128, W (ix3 h r k) * S (ix3 h k v) := by
  pointwise

theorem next_shape (S : FVec Ideal S32x128x128 .f32) (G : FVec Ideal S32x1x128 .f32) (K : FVec Ideal S32x128x64 .f32) (X : FVec Ideal S32x64x128 .f32)
    (h : Fin 32) (k v : Fin 128) :
    addf (mulf S (broadcastInDim S32x128x128 ![0, 1, 2] bcast_S32x1x128_S32x128x128_0_1_2 G))
        (Host.dotGeneral dot_S32x128x64_S32x64x128_S32x128x128_2_1_1_2_0_0 none K X) (ix3 h k v)
      = S (ix3 h k v) * G (ix3 h 0 v) + ∑ m : Fin 64, K (ix3 h k m) * X (ix3 h m v) := by
  pointwise

theorem out_shape (Q : FVec Ideal S32x64x128 .f32) (S : FVec Ideal S32x128x128 .f32) (A : FVec Ideal S32x64x64 .f32) (X : FVec Ideal S32x64x128 .f32)
    (h : Fin 32) (r : Fin 64) (v : Fin 128) :
    broadcastInDim S1x32x64x128 ![1, 2, 3] bcast_S32x64x128_S1x32x64x128_1_2_3 (addf
        (Host.dotGeneral dot_S32x64x128_S32x128x128_S32x64x128_2_1_1_2_0_0 none Q S)
        (Host.dotGeneral dot_S32x64x64_S32x64x128_S32x64x128_2_1_1_2_0_0 none A X)) (ix4 0 h r v)
      = ∑ k : Fin 128, Q (ix3 h r k) * S (ix3 h k v) + ∑ m : Fin 64, A (ix3 h r m) * X (ix3 h m v) := by
  pointwise

/-! ## The invariant -/

variable (m : (ℓ : Loc nD τ sig) → Buf (Elt Ideal) ℓ)

/-- The column of a pair that holds head `h`'s column `v`. -/
def colOf (h : Fin 32) (v : Fin 128) : Fin 256 := ⟨128 * (h.val % 2) + v.val, by omega⟩

/-- The sequence of chunks of the launch's arguments at head `h`, column `v`. -/
def seqOf (d : Dev nD) (h : Fin 32) (v : Fin 128) : ℕ → Chunk :=
  chunkAt (m ((d : Thread nD τ).loc main_arg0)) (m ((d : Thread nD τ).loc main_arg1)) (m ((d : Thread nD τ).loc main_arg2))
    (m ((d : Thread nD τ).loc main_arg3)) (pairOf h) (colOf h v)

/-- Chunk `i` read off the stacks the loop carries. -/
def stackChunk (V : Valuation τ sig (Elt Ideal)) (h : Fin 32) (v : Fin 128) (i : Fin 128) : Chunk where
  w r k := (V (Proc.devRef .tc main_v28_3) : FVec Ideal S128x32x64x128 .f32) (ix4 i h r k)
  q r k := (V (Proc.devRef .tc main_v28_0) : FVec Ideal S128x32x64x128 .f32) (ix4 i h r k)
  qk r m := (V (Proc.devRef .tc main_v28_4) : FVec Ideal S128x32x64x64 .f32) (ix4 i h r m)
  ku k m := (V (Proc.devRef .tc main_v28_1) : FVec Ideal S128x32x128x64 .f32) (ix4 i h k m)
  u m := (V (Proc.devRef .tc main_v28_2) : FVec Ideal S128x32x64x128 .f32) (ix4 i h m v)
  g := (V (Proc.devRef .tc main_v28_5) : FVec Ideal S128x32x1x128 .f32) (ix4 i h 0 v)

/-- What the loop carries before trip `j`. -/
structure Inv (C : Fin 32 → Fin 128 → ℕ → Chunk) (j : ℕ) (V : Valuation τ sig (Elt Ideal)) : Prop where
  blocks : ∀ h v (i : Fin 128), stackChunk V h v i = C h v i.val
  ctr : V (Proc.devRef .tc main_v28_6) = fun _ => BitVec.ofNat 32 j
  st : ∀ h k v, (V (Proc.devRef .tc main_v28_7) : FVec Ideal S32x128x128 .f32) (ix3 h k v) = states (C h v) j k
  outs : ∀ (i : Fin 128) h r v, i.val < j →
    (V (Proc.devRef .tc main_v28_8) : FVec Ideal S128x32x64x128 .f32) (ix4 i h r v) = (C h v i.val).out (states (C h v) i.val) r

theorem vn_step (C : Fin 32 → Fin 128 → ℕ → Chunk) (j : Fin 128) (V : Valuation τ sig (Elt Ideal)) (hV : Inv C j.val V) (h : Fin 32) (r : Fin 64) (v : Fin 128) :
    (res_main_while0b_v57 V : FVec Ideal S32x64x128 .f32) (ix3 h r v) = (C h v j.val).vn (states (C h v) j.val) r := by
  unfold res_main_while0b_v57
  refine (vn_shape _ _ _ h r v).trans ?_
  rw [← hV.blocks]
  exact congrArg₂ (fun a b : EReal => a - b) (pick64x128 _ _ j (starts V j hV.ctr) h r v)
    (Finset.sum_congr rfl fun k _ => congrArg₂ (fun a b : EReal => a * b) (pick64x128 _ _ j (starts V j hV.ctr) h r k) (hV.st h k v))

theorem st_step (C : Fin 32 → Fin 128 → ℕ → Chunk) (j : Fin 128) (V : Valuation τ sig (Elt Ideal)) (hV : Inv C j.val V) (h : Fin 32) (k v : Fin 128) :
    (step_main_v28_7 V : FVec Ideal S32x128x128 .f32) (ix3 h k v) = states (C h v) (j.val + 1) k := by
  unfold step_main_v28_7
  refine (next_shape _ _ _ _ h k v).trans ?_
  rw [states]
  conv_rhs => rw [← hV.blocks]
  refine congrArg₂ (fun a b : EReal => a + b)
    (congrArg₂ (fun a b : EReal => a * b) (hV.st h k v) (pick1x128 _ _ j (starts V j hV.ctr) h v))
    (Finset.sum_congr rfl fun m _ => congrArg₂ (fun a b : EReal => a * b) (pick128x64 _ _ j (starts V j hV.ctr) h k m) ?_)
  rw [hV.blocks]
  exact vn_step C j V hV h m v

theorem out_step (C : Fin 32 → Fin 128 → ℕ → Chunk) (j : Fin 128) (V : Valuation τ sig (Elt Ideal)) (hV : Inv C j.val V) (i : Fin 128) (hi : i.val < j.val + 1)
    (h : Fin 32) (r : Fin 64) (v : Fin 128) :
    (step_main_v28_8 V : FVec Ideal S128x32x64x128 .f32) (ix4 i h r v) = (C h v i.val).out (states (C h v) i.val) r := by
  unfold step_main_v28_8
  rcases Nat.lt_or_ge i.val j.val with hij | hij
  · exact (put_miss _ _ _ _ j i (starts V j hV.ctr) hij h r v).trans (hV.outs i h r v hij)
  · obtain rfl : i = j := Fin.ext (by omega)
    refine (put_hit _ _ _ _ i (starts V i hV.ctr) h r v).trans ((out_shape _ _ _ _ h r v).trans ?_)
    conv_rhs => rw [← hV.blocks]
    refine congrArg₂ (fun a b : EReal => a + b)
      (Finset.sum_congr rfl fun k _ => congrArg₂ (fun a b : EReal => a * b) (pick64x128 _ _ i (starts V i hV.ctr) h r k) (hV.st h k v))
      (Finset.sum_congr rfl fun m _ => congrArg₂ (fun a b : EReal => a * b) (pick64x64 _ _ i (starts V i hV.ctr) h r m) ?_)
    rw [hV.blocks]
    exact vn_step C i V hV h m v

theorem ctr_step (j : ℕ) (V : Valuation τ sig (Elt Ideal)) (hV : V (Proc.devRef .tc main_v28_6) = fun _ => BitVec.ofNat 32 j) :
    step_main_v28_6 V = fun _ => BitVec.ofNat 32 (j + 1) := by
  unfold step_main_v28_6
  rw [hV]
  funext i
  show BitVec.ofNat 32 j + 1#32 = BitVec.ofNat 32 (j + 1)
  exact (BitVec.ofNat_add j 1).symm

theorem inv_step (C : Fin 32 → Fin 128 → ℕ → Chunk) (j : Fin 128) (V : Valuation τ sig (Elt Ideal)) (hV : Inv C j.val V) :
    Inv C (j.val + 1) (STEP V) where
  blocks h v i := by
    rw [← hV.blocks]
    unfold stackChunk
    rw [STEP_main_v28_0, STEP_main_v28_1, STEP_main_v28_2, STEP_main_v28_3, STEP_main_v28_4, STEP_main_v28_5]
  ctr := by rw [STEP_main_v28_6]; exact ctr_step j.val V hV.ctr
  st h k v := by rw [STEP_main_v28_7]; exact st_step C j V hV h k v
  outs i h r v hi := by rw [STEP_main_v28_8]; exact out_step C j V hV i hi h r v

theorem inv_iter (C : Fin 32 → Fin 128 → ℕ → Chunk) (V : Valuation τ sig (Elt Ideal)) (hV : Inv C 0 V) :
    ∀ j : ℕ, j ≤ 128 → Inv C j (STEP^[j] V)
  | 0, _ => hV
  | j + 1, h => by
    rw [Function.iterate_succ_apply']
    exact inv_step C ⟨j, h⟩ _ (inv_iter C V hV j (Nat.le_of_succ_le h))

/-! ## The loop's entry -/

theorem entry_q (d : Dev nD) (j : Fin 128) (h : Fin 32) (r : Fin 64) (k : Fin 128) :
    entryContents preI m d (Proc.devRef .tc main_v28_0) (ix4 j h r k)
      = m ((d : Thread nD τ).loc main_arg0) (ix4 ⟨h.val / 2, by omega⟩ j ⟨64 + r.val, by omega⟩ ⟨h.val % 2 * 128 + k.val, by omega⟩) := by
  simp only [entryContents, afterL_cons, afterL_nil]
  after_reads_at
  rfl

theorem entry_w (d : Dev nD) (j : Fin 128) (h : Fin 32) (r : Fin 64) (k : Fin 128) :
    entryContents preI m d (Proc.devRef .tc main_v28_3) (ix4 j h r k)
      = m ((d : Thread nD τ).loc main_arg0) (ix4 ⟨h.val / 2, by omega⟩ j ⟨r.val, by omega⟩ ⟨h.val % 2 * 128 + k.val, by omega⟩) := by
  simp only [entryContents, afterL_cons, afterL_nil]
  after_reads_at
  rfl

theorem entry_qk (d : Dev nD) (j : Fin 128) (h : Fin 32) (r : Fin 64) (k : Fin 64) :
    entryContents preI m d (Proc.devRef .tc main_v28_4) (ix4 j h r k)
      = m ((d : Thread nD τ).loc main_arg1) (ix4 ⟨h.val / 2, by omega⟩ j ⟨r.val, by omega⟩ ⟨h.val % 2 * 64 + k.val, by omega⟩) := by
  simp only [entryContents, afterL_cons, afterL_nil]
  after_reads_at
  rfl

theorem entry_ku (d : Dev nD) (j : Fin 128) (h : Fin 32) (r : Fin 128) (k : Fin 64) :
    entryContents preI m d (Proc.devRef .tc main_v28_1) (ix4 j h r k)
      = m ((d : Thread nD τ).loc main_arg1) (ix4 ⟨h.val / 2, by omega⟩ j ⟨64 + r.val, by omega⟩ ⟨h.val % 2 * 64 + k.val, by omega⟩) := by
  simp only [entryContents, afterL_cons, afterL_nil]
  after_reads_at
  rfl

theorem entry_u (d : Dev nD) (j : Fin 128) (h : Fin 32) (r : Fin 64) (k : Fin 128) :
    entryContents preI m d (Proc.devRef .tc main_v28_2) (ix4 j h r k)
      = m ((d : Thread nD τ).loc main_arg2) (ix3 ⟨h.val / 2, by omega⟩ ⟨j.val * 64 + r.val, by omega⟩ ⟨h.val % 2 * 128 + k.val, by omega⟩) := by
  simp only [entryContents, afterL_cons, afterL_nil]
  after_reads_at
  rfl

theorem entry_g (d : Dev nD) (j : Fin 128) (h : Fin 32) (k : Fin 128) :
    entryContents preI m d (Proc.devRef .tc main_v28_5) (ix4 j h 0 k)
      = m ((d : Thread nD τ).loc main_arg3) (ix4 ⟨h.val / 2, by omega⟩ j 0 ⟨h.val % 2 * 128 + k.val, by omega⟩) := by
  simp only [entryContents, afterL_cons, afterL_nil]
  after_reads_at
  rfl

theorem entry_st (d : Dev nD) (h : Fin 32) (k v : Fin 128) :
    (entryContents preI m d (Proc.devRef .tc main_v28_7) : FVec Ideal S32x128x128 .f32) (ix3 h k v) = (0 : EReal) := by
  have e : broadcastInDim S32x128x128 ![] bcast_S_S32x128x128 (constant (F := Ideal) S_ .f32 0x00000000#32) (ix3 h k v) = (0 : EReal) := by
    pointwise
  simp only [entryContents, afterL_cons, afterL_nil]
  after_reads_at
  exact e

theorem entry_chunk (d : Dev nD) (h : Fin 32) (v i : Fin 128) : stackChunk (entryContents preI m d) h v i = seqOf m d h v i.val := by
  have e : (⟨i.val % 128, by omega⟩ : Fin 128) = i := Fin.ext (Nat.mod_eq_of_lt i.isLt)
  have e2 : ∀ k : Fin 128, (⟨h.val % 2 * 128 + k.val, by omega⟩ : Fin 256) = own (colOf h v) k := fun k =>
    Fin.ext (by show h.val % 2 * 128 + k.val = 128 * ((128 * (h.val % 2) + v.val) / 128) + k.val; omega)
  have e3 : ∀ k : Fin 64, (⟨h.val % 2 * 64 + k.val, by omega⟩ : Fin 128) = own64 (colOf h v) k := fun k =>
    Fin.ext (by show h.val % 2 * 64 + k.val = 64 * ((128 * (h.val % 2) + v.val) / 128) + k.val; omega)
  have e4 : (⟨h.val % 2 * 128 + v.val, by omega⟩ : Fin 256) = colOf h v := Fin.ext (by show h.val % 2 * 128 + v.val = 128 * (h.val % 2) + v.val; omega)
  have e5 : ∀ r : Fin 64, (⟨i.val * 64 + r.val, by omega⟩ : Fin 8192) = ⟨64 * (i.val % 128) + r.val, by omega⟩ := fun r => Fin.ext (by
    show i.val * 64 + r.val = 64 * (i.val % 128) + r.val; omega)
  unfold stackChunk seqOf chunkAt
  congr 1
  · funext r k; rw [entry_w, e, e2]; rfl
  · funext r k; rw [entry_q, e, e2]; rfl
  · funext r k; rw [entry_qk, e, e3]; rfl
  · funext r k; rw [entry_ku, e, e3]; rfl
  · funext r; rw [entry_u, e4, e5]; rfl
  · rw [entry_g, e, e4]; rfl

theorem inv_entry (d : Dev nD) : Inv (seqOf m d) 0 (entryContents preI m d) where
  blocks := entry_chunk m d
  ctr := ctr_entry m d
  st h k v := entry_st m d h k v
  outs i h r v hi := absurd hi (Nat.not_lt_zero _)

/-! ## The result -/

theorem out_apply (V : Valuation τ sig (Elt Ideal)) (r : Fin 8192) (k : Fin 4096) :
    (out_main_v49 V : FVec Ideal S8192x4096 .bf16) (ix2 r k)
      = gated (fun x => (V (Proc.devRef .tc main_v28_8) : FVec Ideal S128x32x64x128 .f32)
            (ix4 ⟨r.val / 64, by omega⟩ ⟨k.val / 128, by omega⟩ ⟨r.val % 64, by omega⟩ x)) ⟨k.val % 128, by omega⟩
          ((V (Proc.devRef .tc main_arg5) : FVec Ideal S128 .f32) (ix1 ⟨k.val % 128, by omega⟩))
          ((V (Proc.devRef .tc main_arg4) : FVec Ideal S8192x12288 .f32) (ix2 r ⟨8192 + k.val, by omega⟩)) := by
  unfold out_main_v49
  pointwise
  rfl

theorem result_apply (d : Dev nD) (r : Fin 8192) (k : Fin 4096) :
    (out_main_v49 (STEP^[128] (entryContents preI m d)) : FVec Ideal S8192x4096 .bf16) (ix2 r k)
      = gated (fun x => (seqOf m d ⟨k.val / 128, by omega⟩ x (r.val / 64)).out (states (seqOf m d ⟨k.val / 128, by omega⟩ x) (r.val / 64)) ⟨r.val % 64, by omega⟩)
          ⟨k.val % 128, by omega⟩ (m ((d : Thread nD τ).loc main_arg5) (ix1 ⟨k.val % 128, by omega⟩))
          (m ((d : Thread nD τ).loc main_arg4) (ix2 r ⟨8192 + k.val, by omega⟩)) := by
  have hI := inv_iter (seqOf m d) _ (inv_entry m d) 128 le_rfl
  rw [out_apply, iter_main_arg5, iter_main_arg4]
  simp only [hI.outs ⟨r.val / 64, by omega⟩ _ _ _ (show r.val / 64 < 128 by omega)]

end Cert.ReferenceIdeal.Scan

end
-- ==== Proof.FfnLastStep.lean ====
/- The body's loads and stores, named: strips of 256 rows, the two 256-column halves of a weight block, the pieces. -/
module

public import proofs.«01_k».proof.Proof.Gen.FfnLastIdeal.Value

@[expose] public section

set_option maxRecDepth 16384

noncomputable section

namespace Cert.FfnLastIdeal.Ffn

open Idealize.ShloMosaic Idealize.ShloMosaic.TcCoe Idealize.ShloMosaic.Tactic
open Idealize.SL Idealize.SL.Sem
open Cert.FfnLastIdeal Cert.FfnLastIdeal.Gen

variable {F : FTy → Type} [FloatOps F]

theorem strip_inb (p : Fin 4) : ∀ a, (![256 * p.val, 0] : Fin 2 → Nat) a + S256x2048.size a ≤ S1024x2048.size a := by
  revert p; decide

theorem half_inb (q : Fin 2) : ∀ a, (![0, 0, 256 * q.val] : Fin 3 → Nat) a + S1x2048x256.size a ≤ S1x2048x512.size a := by
  revert q; decide

/-- The four strips of 256 rows of a block of 1024 rows. -/
abbrev strip (p : Fin 4) : Rect S1024x2048 := Rect.unit ![256 * p.val, 0] S256x2048.size (strip_inb p)

/-- The two halves of 256 columns of a block of 512 columns. -/
abbrev half (q : Fin 2) : Rect S1x2048x512 := Rect.unit ![0, 0, 256 * q.val] S1x2048x256.size (half_inb q)

abbrev whole : Rect S1024x2048 := Rect.unit ![0, 0] S1024x2048.size inb_S1024x2048_S1024x2048_0_0
abbrev wholeRow : Rect S1x2048 := Rect.unit ![0, 0] S1x2048.size inb_S1x2048_S1x2048_0_0
abbrev wholeOut : Rect S1x512x2048 := Rect.unit ![0, 0, 0] S1x512x2048.size inb_S1x512x2048_S1x512x2048_0_0_0

/-- One strip of normalised rows. -/
def normPiece (h : Fin 4 → Vec F S256x2048 .f32) (g : Vec F S1x2048 .f32) (p : Fin 4) : View.Piece (Elt F) S1024x2048 .bf16 :=
  ⟨strip p, k0_pay3 (h p) g⟩

/-- One strip of zeros of the accumulator. -/
def zeroPiece (p : Fin 4) : View.Piece (Elt F) S1024x2048 .f32 := ⟨strip p, k0_pay4⟩

/-- The accumulator with one inner block's product added. -/
def accPiece (xn : Vec F S1024x2048 .bf16) (wg wu : Fin 2 → Vec F S1x2048x256 .f32) (o : Vec F S1024x2048 .f32)
    (wo : Vec F S1x512x2048 .f32) : View.Piece (Elt F) S1024x2048 .f32 :=
  ⟨whole, k0_pay1 (k0_pay23 xn (wg 0) (wu 0) (wg 1) (wu 1)) (k0_pay24 o) wo⟩

def normPieces (h : Fin 4 → Vec F S256x2048 .f32) (g : Vec F S1x2048 .f32) : List (View.Piece (Elt F) S1024x2048 .bf16) :=
  [normPiece h g 3, normPiece h g 2, normPiece h g 1, normPiece h g 0]

def zeroPieces : List (View.Piece (Elt F) S1024x2048 .f32) := [zeroPiece 3, zeroPiece 2, zeroPiece 1, zeroPiece 0]

end Cert.FfnLastIdeal.Ffn

end
-- ==== Proof.FfnLastPieces.lean ====
/- What each case's run leaves, as the pieces named in FfnLastStep.lean: by computation. -/
module

public import proofs.«01_k».proof.Proof.FfnLastStep

@[expose] public section

set_option maxRecDepth 16384

noncomputable section

namespace Cert.FfnLastIdeal.Ffn

open Idealize.ShloMosaic Idealize.ShloMosaic.TcCoe Idealize.ShloMosaic.Tactic
open Idealize.SL Idealize.SL.Sem
open Cert.FfnLastIdeal Cert.FfnLastIdeal.Gen

variable {F : FTy → Type} [FloatOps F]

theorem piecesO_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    (kernelRun0_A c i arg2 harg2 arg3 harg3 arg4 harg4 arg5 harg5 arg6 harg6 arg7 harg7 arg8 harg8 arg9 harg9 hc0 hc1 x0 x1 x2 x3 x4 x5).1
      = accPiece (arg9.view.readCov (normPieces (fun p => (arg3.view.readAt (Elt F) (strip p).toLoadRect (harg3.unread x1))) (arg2.view.readAt (Elt F) (wholeRow).toLoadRect (harg2.unread x0))) whole.toLoadRect) (fun q => (arg4.view.readAt (Elt F) (half q).toLoadRect (harg4.unread x2))) (fun q => (arg5.view.readAt (Elt F) (half q).toLoadRect (harg5.unread x3))) (arg8.view.readCov (zeroPieces (F := F)) whole.toLoadRect) (arg6.view.readAt (Elt F) (wholeOut).toLoadRect (harg6.unread x4)) :: zeroPieces := by
  sl_kernel_rfl

theorem piecesS_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    (kernelRun0_A c i arg2 harg2 arg3 harg3 arg4 harg4 arg5 harg5 arg6 harg6 arg7 harg7 arg8 harg8 arg9 harg9 hc0 hc1 x0 x1 x2 x3 x4 x5).2.1
      = normPieces (fun p => (arg3.view.readAt (Elt F) (strip p).toLoadRect (harg3.unread x1))) (arg2.view.readAt (Elt F) (wholeRow).toLoadRect (harg2.unread x0)) := by
  sl_kernel_rfl

theorem piecesO_B (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    (kernelRun0_B c i arg2 harg2 arg3 harg3 arg4 harg4 arg5 harg5 arg6 harg6 arg7 harg7 arg8 harg8 arg9 harg9 hc0 hc1 x0 x1 x2 x3 x4 x5 xo6 xs0).1
      = [accPiece (arg9.view.readAt (Elt F) (whole).toLoadRect (harg9.unread xs0)) (fun q => (arg4.view.readAt (Elt F) (half q).toLoadRect (harg4.unread x2))) (fun q => (arg5.view.readAt (Elt F) (half q).toLoadRect (harg5.unread x3))) (arg8.view.readAt (Elt F) (whole).toLoadRect (harg8.unread xo6)) (arg6.view.readAt (Elt F) (wholeOut).toLoadRect (harg6.unread x4))] := by
  sl_kernel_rfl

/-- The pieces after `n` strips are finished: each strip reads the accumulator through what is stored so far. -/
def finPieces {sg : RefSig} (arg8 : Memref sg .tc .vmem S1024x2048 .f32) (A : View.Piece (Elt F) S1024x2048 .f32)
    (f : Fin 4 → Vec F S256x2048 .f32 → Vec F S256x2048 .f32) : (n : Nat) → n ≤ 4 → List (View.Piece (Elt F) S1024x2048 .f32)
  | 0, _ => [A]
  | n + 1, hn =>
    ⟨strip ⟨n, hn⟩, f ⟨n, hn⟩ (arg8.view.readCov (finPieces arg8 A f n (Nat.le_of_succ_le hn)) (strip ⟨n, hn⟩).toLoadRect)⟩
      :: finPieces arg8 A f n (Nat.le_of_succ_le hn)

theorem piecesO_C (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    (kernelRun0_C c i arg2 harg2 arg3 harg3 arg4 harg4 arg5 harg5 arg6 harg6 arg7 harg7 arg8 harg8 arg9 harg9 hc0 hc1 x0 x1 x2 x3 x4 x5 xo6 xs0).1
      = finPieces arg8 (accPiece (arg9.view.readAt (Elt F) (whole).toLoadRect (harg9.unread xs0)) (fun q => (arg4.view.readAt (Elt F) (half q).toLoadRect (harg4.unread x2))) (fun q => (arg5.view.readAt (Elt F) (half q).toLoadRect (harg5.unread x3))) (arg8.view.readAt (Elt F) (whole).toLoadRect (harg8.unread xo6)) (arg6.view.readAt (Elt F) (wholeOut).toLoadRect (harg6.unread x4))) (fun p a => k0_pay12 (arg3.view.readAt (Elt F) (strip p).toLoadRect (harg3.unread x1)) a (arg7.view.readAt (Elt F) (wholeRow).toLoadRect (harg7.unread x5))) 4 le_rfl := by
  sl_kernel_rfl

end Cert.FfnLastIdeal.Ffn

end
-- ==== Proof.FfnLastBlock.lean ====
/- What a grid point leaves, as functions of what it reads: the normalised rows, the accumulator, the finished rows. -/
module

public import proofs.«01_k».proof.Proof.FfnLastPieces
public import Idealize.ShloMosaic.Lib.Pointwise

@[expose] public section

set_option maxRecDepth 16384

noncomputable section

namespace Cert.FfnLastIdeal.Ffn

open Idealize.ShloMosaic Idealize.ShloMosaic.TcCoe Idealize.ShloMosaic.Tactic
open Idealize.SL Idealize.SL.Sem
open Cert.FfnLastIdeal Cert.FfnLastIdeal.Gen

variable {F : FTy → Type} [FloatOps F]

/-- Which strip of 256 rows an entry lies in. -/
def stripOf (y : S1024x2048.Idx) : Fin 4 := ⟨(y 0).val / 256, by have h : (y 0).val < 1024 := (y 0).isLt; omega⟩

/-- The entry's place in its strip. -/
def inStrip (y : S1024x2048.Idx) : S256x2048.Idx := ix2 ⟨(y 0).val % 256, Nat.mod_lt _ (by decide)⟩ (y 1)

theorem emb_0 (p : Fin 4) (x : S256x2048.Idx) : ((strip p).emb x 0).val = 256 * p.val + (x 0).val := by
  rw [Rect.emb_apply]; show 256 * p.val + 1 * (x 0).val = _; omega

theorem emb_1 (p : Fin 4) (x : S256x2048.Idx) : ((strip p).emb x 1).val = (x 1).val := by
  rw [Rect.emb_apply]; show 0 + 1 * (x 1).val = _; omega

theorem strip_emb (y : S1024x2048.Idx) : (strip (stripOf y)).emb (inStrip y) = y := by
  funext a
  apply Fin.ext
  match a with
  | 0 => rw [emb_0]; show 256 * ((y 0).val / 256) + (y 0).val % 256 = (y 0).val; omega
  | 1 => rw [emb_1]; rfl

theorem stripOf_emb (p : Fin 4) (x : S256x2048.Idx) : stripOf ((strip p).emb x) = p := by
  have hx : (x 0).val < 256 := (x 0).isLt
  apply Fin.ext
  show ((strip p).emb x 0).val / 256 = p.val
  rw [emb_0]; omega

theorem inStrip_emb (p : Fin 4) (x : S256x2048.Idx) : inStrip ((strip p).emb x) = x := by
  have hx : (x 0).val < 256 := (x 0).isLt
  funext a
  apply Fin.ext
  match a with
  | 0 => show ((strip p).emb x 0).val % 256 = (x 0).val; rw [emb_0]; omega
  | 1 => show ((strip p).emb x 1).val = (x 1).val; rw [emb_1]

theorem mem_strip (y : S1024x2048.Idx) : y ∈ (strip (stripOf y)).set := by
  have := (strip (stripOf y)).idx_mem (inStrip y)
  rwa [show (strip (stripOf y)).idx (inStrip y) = y from strip_emb y] at this

theorem stripOf_of_mem {p : Fin 4} {y : S1024x2048.Idx} (h : y ∈ (strip p).set) : stripOf y = p := by
  obtain ⟨x, rfl⟩ := (strip p).exists_idx_of_mem h
  exact stripOf_emb p x

theorem strips_cover {e : EltTy} (f : Fin 4 → Vec F S256x2048 e) (y : S1024x2048.Idx) :
    ∃ p ∈ ([⟨strip 3, f 3⟩, ⟨strip 2, f 2⟩, ⟨strip 1, f 1⟩, ⟨strip 0, f 0⟩] : List (View.Piece (Elt F) S1024x2048 e)), y ∈ p.1.set := by
  have h := mem_strip y
  have hp : ∀ p : Fin 4, (⟨strip p, f p⟩ : View.Piece (Elt F) S1024x2048 e)
      ∈ ([⟨strip 3, f 3⟩, ⟨strip 2, f 2⟩, ⟨strip 1, f 1⟩, ⟨strip 0, f 0⟩] : List (View.Piece (Elt F) S1024x2048 e)) := by
    intro p
    match p with
    | 0 => simp
    | 1 => simp
    | 2 => simp
    | 3 => simp
  exact ⟨_, hp (stripOf y), h⟩

/-- A block put together of its four strips. -/
def ofStrips {e : EltTy} (f : Fin 4 → Vec F S256x2048 e) : Vec F S1024x2048 e := fun y => f (stripOf y) (inStrip y)

theorem canon_strips {e : EltTy} (f : Fin 4 → Vec F S256x2048 e) :
    View.canon (Val := Elt F) [⟨strip 3, f 3⟩, ⟨strip 2, f 2⟩, ⟨strip 1, f 1⟩, ⟨strip 0, f 0⟩] = ofStrips f := by
  funext y
  have key : ∀ (p : Fin 4) (x : (strip p).shape.Idx), f p x = ofStrips f ((strip p).emb x) := fun p x =>
    (congrArg₂ f (stripOf_emb p x) (inStrip_emb p x)).symm
  refine View.canon_apply_of_pieces (ofStrips f) _ ?_ y ?_
  · intro q hq
    simp only [List.mem_cons, List.not_mem_nil, or_false] at hq
    rcases hq with rfl | rfl | rfl | rfl
    · exact key 3
    · exact key 2
    · exact key 1
    · exact key 0
  · exact strips_cover f y

theorem canon_cons_strip {e : EltTy} (p : Fin 4) (w : Vec F S256x2048 e) (L : List (View.Piece (Elt F) S1024x2048 e)) (y : S1024x2048.Idx)
    (hy : stripOf y = p) : View.canon ((⟨strip p, w⟩ : View.Piece (Elt F) S1024x2048 e) :: L) y = w (inStrip y) := by
  subst hy
  have h := View.canon_cons_emb (Val := Elt F) (strip (stripOf y)) w L (inStrip y)
  rwa [strip_emb] at h

theorem canon_cons_strip_ne {e : EltTy} (p : Fin 4) (w : Vec F S256x2048 e) (L : List (View.Piece (Elt F) S1024x2048 e)) (y : S1024x2048.Idx)
    (hy : stripOf y ≠ p) : View.canon ((⟨strip p, w⟩ : View.Piece (Elt F) S1024x2048 e) :: L) y = View.canon L y :=
  View.canon_cons_of_not_mem (Val := Elt F) (⟨strip p, w⟩ : View.Piece (Elt F) S1024x2048 e) L fun hm => hy (stripOf_of_mem hm)

/-- The rows normalised, strip by strip. -/
def normBlock (X : Vec F S1024x2048 .f32) (g : Vec F S1x2048 .f32) : Vec F S1024x2048 .bf16 :=
  ofStrips fun p => k0_pay3 (View.ld X (strip p)) g

/-- The cleared accumulator. -/
def zeroBlock : Vec F S1024x2048 .f32 := ofStrips fun _ => k0_pay4

/-- The accumulator after one more inner block. -/
def accBlock (xn : Vec F S1024x2048 .bf16) (wg wu : Vec F S1x2048x512 .f32) (o : Vec F S1024x2048 .f32) (wo : Vec F S1x512x2048 .f32) :
    Vec F S1024x2048 .f32 :=
  k0_pay1 (k0_pay23 xn (View.ld wg (half 0)) (View.ld wu (half 0)) (View.ld wg (half 1)) (View.ld wu (half 1))) (k0_pay24 o) wo

/-- The finished rows, strip by strip. -/
def finBlock (X A : Vec F S1024x2048 .f32) (fg : Vec F S1x2048 .f32) : Vec F S1024x2048 .f32 :=
  ofStrips fun p => k0_pay12 (View.ld X (strip p)) (View.ld A (strip p)) fg

theorem hz2 : (![0, 0] : Fin 2 → ℕ) = fun _ => 0 := by funext a; fin_cases a <;> rfl
theorem hz3 : (![0, 0, 0] : Fin 3 → ℕ) = fun _ => 0 := by funext a; fin_cases a <;> rfl

theorem ld_whole {e : EltTy} (X : Vec F S1024x2048 e) : View.ld X whole = X := View.ld_unit_zero hz2 _ _
theorem ld_row {e : EltTy} (X : Vec F S1x2048 e) : View.ld X wholeRow = X := View.ld_unit_zero hz2 _ _
theorem ld_out {e : EltTy} (X : Vec F S1x512x2048 e) : View.ld X wholeOut = X := View.ld_unit_zero hz3 _ _

theorem mem_whole (y : S1024x2048.Idx) : y ∈ whole.set := View.mem_set_unit_zero hz2 _ y

theorem norm_canon (h : Fin 4 → Vec F S256x2048 .f32) (g : Vec F S1x2048 .f32) :
    View.canon (normPieces h g) = ofStrips fun p => k0_pay3 (h p) g := by
  unfold normPieces normPiece
  exact canon_strips (F := F) (e := .bf16) fun p => k0_pay3 (h p) g

theorem norm_cover (h : Fin 4 → Vec F S256x2048 .f32) (g : Vec F S1x2048 .f32) (y : S1024x2048.Idx) : ∃ p ∈ normPieces h g, y ∈ p.1.set := by
  unfold normPieces normPiece
  exact strips_cover (F := F) (e := .bf16) (fun p => k0_pay3 (h p) g) y

theorem zero_canon : View.canon (zeroPieces (F := F)) = zeroBlock := by
  unfold zeroPieces zeroPiece
  exact canon_strips (F := F) (e := .f32) fun _ => k0_pay4

theorem zero_cover (y : S1024x2048.Idx) : ∃ p ∈ zeroPieces (F := F), y ∈ p.1.set := by
  unfold zeroPieces zeroPiece
  exact strips_cover (F := F) (e := .f32) (fun _ => k0_pay4) y

theorem norm_read {sg : RefSig} (arg9 : Memref sg .tc .vmem S1024x2048 .bf16) (h : Fin 4 → Vec F S256x2048 .f32) (g : Vec F S1x2048 .f32) :
    arg9.view.readCov (normPieces h g) whole.toLoadRect = ofStrips fun p => k0_pay3 (h p) g := by
  rw [View.readCov_eq_canon_ld _ _ _ (norm_cover h g), norm_canon, ld_whole]

theorem zero_read {sg : RefSig} (arg8 : Memref sg .tc .vmem S1024x2048 .f32) :
    arg8.view.readCov (zeroPieces (F := F)) whole.toLoadRect = zeroBlock := by
  rw [View.readCov_eq_canon_ld _ _ _ zero_cover, zero_canon, ld_whole]

theorem acc_canon (xn : Vec F S1024x2048 .bf16) (wg wu : Fin 2 → Vec F S1x2048x256 .f32) (o : Vec F S1024x2048 .f32)
    (wo : Vec F S1x512x2048 .f32) (L : List (View.Piece (Elt F) S1024x2048 .f32)) :
    View.canon (accPiece xn wg wu o wo :: L) = k0_pay1 (k0_pay23 xn (wg 0) (wu 0) (wg 1) (wu 1)) (k0_pay24 o) wo := by
  unfold accPiece
  exact View.canon_cons_unit_zero hz2 _ _ _

section Finish

variable {sg : RefSig} (arg8 : Memref sg .tc .vmem S1024x2048 .f32) (v : Vec F S1024x2048 .f32)
  (f : Fin 4 → Vec F S256x2048 .f32 → Vec F S256x2048 .f32)

theorem fin_cover : ∀ (n : Nat) (hn : n ≤ 4) (y : S1024x2048.Idx), ∃ p ∈ finPieces arg8 ⟨whole, v⟩ f n hn, y ∈ p.1.set
  | 0, _, y => ⟨_, List.mem_singleton_self _, mem_whole y⟩
  | n + 1, hn, y => by
    obtain ⟨p, hp, hy⟩ := fin_cover n (Nat.le_of_succ_le hn) y
    exact ⟨p, List.mem_cons_of_mem _ hp, hy⟩

/-- After `n` strips are finished the block holds them finished and the others as accumulated. -/
theorem fin_canon : ∀ (n : Nat) (hn : n ≤ 4) (y : S1024x2048.Idx), View.canon (finPieces arg8 ⟨whole, v⟩ f n hn) y
      = if (stripOf y).val < n then f (stripOf y) (View.ld v (strip (stripOf y))) (inStrip y) else v y
  | 0, _, y => by
    rw [if_neg (Nat.not_lt_zero _)]
    exact congrFun (View.canon_unit_zero hz2 _ _) y
  | n + 1, hn, y => by
    have IH := fin_canon n (Nat.le_of_succ_le hn)
    have e : View.ld (View.canon (finPieces arg8 ⟨whole, v⟩ f n (Nat.le_of_succ_le hn))) (strip ⟨n, hn⟩) = View.ld v (strip ⟨n, hn⟩) := by
      funext x
      refine (IH ((strip ⟨n, hn⟩).emb x)).trans ?_
      rw [if_neg (by rw [stripOf_emb]; exact Nat.lt_irrefl n)]
      rfl
    show View.canon (⟨strip ⟨n, hn⟩, f ⟨n, hn⟩ (arg8.view.readCov (finPieces arg8 ⟨whole, v⟩ f n (Nat.le_of_succ_le hn)) (strip ⟨n, hn⟩).toLoadRect)⟩
      :: finPieces arg8 ⟨whole, v⟩ f n (Nat.le_of_succ_le hn)) y = _
    rw [View.readCov_eq_canon_ld _ _ _ (fin_cover arg8 v f n _), e]
    by_cases hy : stripOf y = ⟨n, hn⟩
    · have hlt : (stripOf y).val < n + 1 := by rw [hy]; exact Nat.lt_succ_self n
      rw [if_pos hlt]
      rw [canon_cons_strip (F := F) (e := .f32) _ _ _ y hy, hy]
    · rw [canon_cons_strip_ne (F := F) (e := .f32) _ _ _ y hy, IH y]
      have hne : (stripOf y).val ≠ n := fun q => hy (Fin.ext q)
      by_cases hlt : (stripOf y).val < n
      · rw [if_pos hlt, if_pos (Nat.lt_succ_of_lt hlt)]
      · rw [if_neg hlt, if_neg (by omega)]

theorem fin_canon_all : View.canon (finPieces arg8 ⟨whole, v⟩ f 4 le_rfl) = ofStrips fun p => f p (View.ld v (strip p)) := by
  funext y
  rw [fin_canon, if_pos (stripOf y).isLt]
  rfl

end Finish

theorem sout_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    sout0_A_0 c i arg2 harg2 arg3 harg3 arg4 harg4 arg5 harg5 arg6 harg6 arg7 harg7 arg8 harg8 arg9 harg9 hc0 hc1 x0 x1 x2 x3 x4 x5 = normBlock x1 x0 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5), piecesS_A]
  rw [norm_canon]; simp only [View.readAt_eq_ld, harg2.read_unread, harg3.read_unread, harg4.read_unread, harg5.read_unread, harg6.read_unread, harg7.read_unread, harg8.read_unread, harg9.read_unread, ld_whole, ld_row, ld_out, norm_read, zero_read]; rfl

theorem out_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    out0_A_6 c i arg2 harg2 arg3 harg3 arg4 harg4 arg5 harg5 arg6 harg6 arg7 harg7 arg8 harg8 arg9 harg9 hc0 hc1 x0 x1 x2 x3 x4 x5 = accBlock (normBlock x1 x0) x2 x3 zeroBlock x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5), piecesO_A]
  rw [acc_canon]; simp only [View.readAt_eq_ld, harg2.read_unread, harg3.read_unread, harg4.read_unread, harg5.read_unread, harg6.read_unread, harg7.read_unread, harg8.read_unread, harg9.read_unread, ld_whole, ld_row, ld_out, norm_read, zero_read]; rfl

theorem out_B (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    out0_B_6 c i arg2 harg2 arg3 harg3 arg4 harg4 arg5 harg5 arg6 harg6 arg7 harg7 arg8 harg8 arg9 harg9 hc0 hc1 x0 x1 x2 x3 x4 x5 xo6 xs0 = accBlock xs0 x2 x3 xo6 x4 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6 xs0), piecesO_B]
  rw [acc_canon]; simp only [View.readAt_eq_ld, harg2.read_unread, harg3.read_unread, harg4.read_unread, harg5.read_unread, harg6.read_unread, harg7.read_unread, harg8.read_unread, harg9.read_unread, ld_whole, ld_row, ld_out, norm_read, zero_read]; rfl

theorem out_C (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    out0_C_6 c i arg2 harg2 arg3 harg3 arg4 harg4 arg5 harg5 arg6 harg6 arg7 harg7 arg8 harg8 arg9 harg9 hc0 hc1 x0 x1 x2 x3 x4 x5 xo6 xs0 = finBlock x1 (accBlock xs0 x2 x3 xo6 x4) x5 := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0), piecesO_C]
  unfold accPiece; rw [fin_canon_all]; simp only [View.readAt_eq_ld, harg2.read_unread, harg3.read_unread, harg4.read_unread, harg5.read_unread, harg6.read_unread, harg7.read_unread, harg8.read_unread, harg9.read_unread, ld_whole, ld_row, ld_out, norm_read, zero_read]; rfl

end Cert.FfnLastIdeal.Ffn

end
-- ==== Proof.Rows.lean ====
/- The mathematics of one row of the block: its normalisation, the gated hidden values, and a long sum taken block by block. -/
module

public import Idealize.ShloMosaic.Lib.Pointwise

@[expose] public section

noncomputable section

namespace Cert.Rows

open Idealize.ShloMosaic

/-- An entry of a row scaled by the row's root mean square and a gain. -/
def rms (x : Fin 2048 → EReal) (k : Fin 2048) (g : EReal) : EReal :=
  x k * Ideal.rsqrt (Ideal.div (∑ j, x j * x j) (Ideal.ofBits .f32 0x45000000#32) + Ideal.ofBits .f32 0x358637BD#32) * g

/-- A row against a column, added to what is there. -/
def plusDot {n : ℕ} (h : EReal) (x w : Fin n → EReal) : EReal := h + ∑ q, x q * w q

/-- A row against a column. -/
def dotOf {n : ℕ} (x w : Fin n → EReal) : EReal := ∑ q, x q * w q

/-- A gated hidden value: the row against the gate's column and against the other. -/
def act (x wg wu : Fin 2048 → EReal) : EReal :=
  (∑ k, x k * wg k) * Ideal.logistic (∑ k, x k * wg k) * ∑ k, x k * wu k

/-- The `f`-th hidden value of a normalised row. -/
def hiddenAt (x : Fin 2048 → EReal) (W : Fin 2048 → Fin 11264 → EReal) (f : Fin 5632) : EReal :=
  act x (fun k => W k ⟨f.val, by omega⟩) (fun k => W k ⟨5632 + f.val, by omega⟩)

/-- One term of the product with the second weight, at any number. -/
def term (x : Fin 2048 → EReal) (W : Fin 2048 → Fin 11264 → EReal) (O : Fin 5632 → EReal) (n : ℕ) : EReal :=
  hiddenAt x W ⟨n % 5632, Nat.mod_lt _ (by decide)⟩ * O ⟨n % 5632, Nat.mod_lt _ (by decide)⟩

/-- The product with the second weight, its first `n` terms. -/
def partSum (x : Fin 2048 → EReal) (W : Fin 2048 → Fin 11264 → EReal) (O : Fin 5632 → EReal) (n : ℕ) : EReal :=
  ∑ f ∈ Finset.range n, term x W O f

theorem partSum_zero (x : Fin 2048 → EReal) (W : Fin 2048 → Fin 11264 → EReal) (O : Fin 5632 → EReal) : partSum x W O 0 = 0 :=
  Finset.sum_range_zero _

/-- One block of 512 more terms. -/
theorem partSum_block (x : Fin 2048 → EReal) (W : Fin 2048 → Fin 11264 → EReal) (O : Fin 5632 → EReal) (j : ℕ) (hj : j < 11) :
    partSum x W O (512 * (j + 1)) = partSum x W O (512 * j)
      + ∑ f : Fin 512, hiddenAt x W ⟨512 * j + f.val, by omega⟩ * O ⟨512 * j + f.val, by omega⟩ := by
  unfold partSum
  rw [show 512 * (j + 1) = 512 * j + 512 from by omega, Finset.sum_range_add, Finset.sum_range (fun f => term x W O (512 * j + f))]
  refine congrArg₂ (fun a b : EReal => a + b) rfl (Finset.sum_congr rfl fun f _ => ?_)
  have e : (⟨(512 * j + f.val) % 5632, Nat.mod_lt _ (by decide)⟩ : Fin 5632) = ⟨512 * j + f.val, by omega⟩ :=
    Fin.ext (Nat.mod_eq_of_lt (by omega))
  unfold term
  rw [e]

theorem partSum_all (x : Fin 2048 → EReal) (W : Fin 2048 → Fin 11264 → EReal) (O : Fin 5632 → EReal) :
    partSum x W O 5632 = ∑ f : Fin 5632, hiddenAt x W f * O f := by
  unfold partSum
  rw [Finset.sum_range]
  refine Finset.sum_congr rfl fun f _ => ?_
  have e : (⟨f.val % 5632, Nat.mod_lt _ (by decide)⟩ : Fin 5632) = f := Fin.ext (Nat.mod_eq_of_lt f.isLt)
  unfold term
  rw [e]

end Cert.Rows

end
-- ==== Proof.FfnLastMath.lean ====
/- What the body's blocks are over the reals, entry by entry. -/
module

public import proofs.«01_k».proof.Proof.FfnLastBlock
public import proofs.«01_k».proof.Proof.Rows

@[expose] public section

set_option maxRecDepth 16384

noncomputable section

namespace Cert.FfnLastIdeal.Ffn

open Idealize.ShloMosaic Idealize.ShloMosaic.TcCoe Idealize.ShloMosaic.Pointwise
open Cert.FfnLastIdeal Cert.FfnLastIdeal.Gen Cert.Rows

theorem pay3_apply (h : FVec Ideal S256x2048 .f32) (g : FVec Ideal S1x2048 .f32) (r : Fin 256) (k : Fin 2048) :
    k0_pay3 (F := Ideal) h g (ix2 r k) = rms (fun j => h (ix2 r j)) k (g (ix2 0 k)) := by
  pointwise [k0_pay3, rms]

theorem pay4_apply (r : Fin 256) (k : Fin 2048) : k0_pay4 (F := Ideal) (ix2 r k) = (0 : EReal) := by
  pointwise [k0_pay4]

theorem pay12_apply (h a : FVec Ideal S256x2048 .f32) (g : FVec Ideal S1x2048 .f32) (r : Fin 256) (k : Fin 2048) :
    k0_pay12 (F := Ideal) h a g (ix2 r k) = rms (fun j => h (ix2 r j) + Ideal.ofBits .f32 0x3F000000#32 * a (ix2 r j)) k (g (ix2 0 k)) := by
  pointwise [k0_pay12, rms]

theorem pay1_apply (v : FVec Ideal S1024x512 .bf16) (o : FVec Ideal S1024x2048 .f32) (w : FVec Ideal S1x512x2048 .f32) (r : Fin 1024) (k : Fin 2048) :
    k0_pay1 (F := Ideal) v (k0_pay24 o) w (ix2 r k) = o (ix2 r k) + ∑ f : Fin 512, v (ix2 r f) * w (ix3 0 f k) := by
  pointwise [k0_pay1, k0_pay24]

theorem pay23_apply (x : FVec Ideal S1024x2048 .bf16) (g0 u0 g1 u1 : FVec Ideal S1x2048x256 .f32) (r : Fin 1024) (f : Fin 512) :
    k0_pay23 (F := Ideal) x g0 u0 g1 u1 (ix2 r f) = if h : f.val < 256
      then act (fun k => x (ix2 r k)) (fun k => g0 (ix3 0 k ⟨f.val, h⟩)) (fun k => u0 (ix3 0 k ⟨f.val, h⟩))
      else act (fun k => x (ix2 r k)) (fun k => g1 (ix3 0 k ⟨f.val - 256, by omega⟩)) (fun k => u1 (ix3 0 k ⟨f.val - 256, by omega⟩)) := by
  pointwise [k0_pay23, act]

theorem inStrip_ix (r : Fin 1024) (k : Fin 2048) : inStrip (ix2 r k) = ix2 ⟨r.val % 256, Nat.mod_lt _ (by decide)⟩ k := rfl

/-- A strip's load at the row's place in it is the block's row. -/
theorem ld_strip (X : Vec Ideal S1024x2048 .f32) (r : Fin 1024) (k j : Fin 2048) :
    View.ld X (strip (stripOf (ix2 r k))) (ix2 ⟨r.val % 256, Nat.mod_lt _ (by decide)⟩ j) = X (ix2 r j) := by
  refine congrArg X (funext fun a => Fin.ext ?_)
  match a with
  | ⟨0, _⟩ => show 256 * (r.val / 256) + 1 * (r.val % 256) = r.val; omega
  | ⟨1, _⟩ => show 0 + 1 * j.val = j.val; omega

theorem norm_apply (X : Vec Ideal S1024x2048 .f32) (g : Vec Ideal S1x2048 .f32) (r : Fin 1024) (k : Fin 2048) :
    normBlock X g (ix2 r k) = rms (fun j => X (ix2 r j)) k (g (ix2 0 k)) := by
  unfold normBlock ofStrips
  rw [inStrip_ix]
  refine (pay3_apply _ g _ k).trans ?_
  exact congrArg (fun x => rms x k (g (ix2 0 k))) (funext fun j => ld_strip X r k j)

theorem zero_apply (r : Fin 1024) (k : Fin 2048) : zeroBlock (F := Ideal) (ix2 r k) = (0 : EReal) :=
  pay4_apply ⟨r.val % 256, Nat.mod_lt _ (by decide)⟩ k

theorem fin_apply (X A : Vec Ideal S1024x2048 .f32) (g : Vec Ideal S1x2048 .f32) (r : Fin 1024) (k : Fin 2048) :
    finBlock X A g (ix2 r k) = rms (fun j => (X (ix2 r j) : EReal) + Ideal.ofBits .f32 0x3F000000#32 * (A (ix2 r j) : EReal)) k (g (ix2 0 k)) := by
  unfold finBlock ofStrips
  rw [inStrip_ix]
  refine (pay12_apply _ _ g _ k).trans ?_
  exact congrArg (fun x => rms x k (g (ix2 0 k))) (funext fun j => congrArg₂ (fun a b : EReal => a + Ideal.ofBits .f32 0x3F000000#32 * b) (ld_strip X r k j) (ld_strip A r k j))

/-- A half of a weight block's columns, entry by entry. -/
theorem ld_half (w : Vec Ideal S1x2048x512 .f32) (q : Fin 2) (k : Fin 2048) (f : Fin 256) (f' : Fin 512) (hf : f'.val = 256 * q.val + f.val) :
    View.ld w (half q) (ix3 0 k f) = w (ix3 0 k f') := by
  refine congrArg w (funext fun a => Fin.ext ?_)
  match a with
  | ⟨0, _⟩ => show 0 + 1 * 0 = 0; omega
  | ⟨1, _⟩ => show 0 + 1 * k.val = k.val; omega
  | ⟨2, _⟩ => show 256 * q.val + 1 * f.val = f'.val; omega

theorem act_apply (x : Vec Ideal S1024x2048 .bf16) (wg wu : Vec Ideal S1x2048x512 .f32) (r : Fin 1024) (f : Fin 512) :
    k0_pay23 (F := Ideal) x (View.ld wg (half 0)) (View.ld wu (half 0)) (View.ld wg (half 1)) (View.ld wu (half 1)) (ix2 r f)
      = act (fun k => x (ix2 r k)) (fun k => wg (ix3 0 k f)) (fun k => wu (ix3 0 k f)) := by
  refine (pay23_apply _ _ _ _ _ r f).trans ?_
  by_cases h : f.val < 256
  · rw [dif_pos h]
    exact congrArg₂ (act fun k => x (ix2 r k)) (funext fun k => ld_half wg 0 k ⟨f.val, h⟩ f (by show f.val = 256 * 0 + f.val; omega))
      (funext fun k => ld_half wu 0 k ⟨f.val, h⟩ f (by show f.val = 256 * 0 + f.val; omega))
  · rw [dif_neg h]
    exact congrArg₂ (act fun k => x (ix2 r k))
      (funext fun k => ld_half wg 1 k ⟨f.val - 256, by omega⟩ f (by show f.val = 256 * 1 + (f.val - 256); omega))
      (funext fun k => ld_half wu 1 k ⟨f.val - 256, by omega⟩ f (by show f.val = 256 * 1 + (f.val - 256); omega))

theorem acc_apply (xn : Vec Ideal S1024x2048 .bf16) (wg wu : Vec Ideal S1x2048x512 .f32) (o : Vec Ideal S1024x2048 .f32)
    (wo : Vec Ideal S1x512x2048 .f32) (r : Fin 1024) (k : Fin 2048) :
    accBlock xn wg wu o wo (ix2 r k) = (o (ix2 r k) : EReal)
      + ∑ f : Fin 512, act (fun j => xn (ix2 r j)) (fun j => wg (ix3 0 j f)) (fun j => wu (ix3 0 j f)) * wo (ix3 0 f k) := by
  unfold accBlock
  refine (pay1_apply _ o wo r k).trans (congrArg₂ (fun a b : EReal => a + b) rfl (Finset.sum_congr rfl fun f _ => ?_))
  exact congrArg (fun a : EReal => a * wo (ix3 0 f k)) (act_apply xn wg wu r f)

end Cert.FfnLastIdeal.Ffn

end
-- ==== Proof.FfnFirstPieces.lean ====
/- The feed-forward call without the final norm: what each case's run leaves, as the pieces of the other call — the same strips,
   the same sums — and, at the last point, its own finish. -/
module

public import proofs.«01_k».proof.Proof.FfnLastBlock
public import proofs.«01_k».proof.Proof.Gen.FfnFirstIdeal.Value

@[expose] public section

set_option maxRecDepth 16384

noncomputable section

namespace Cert.FfnFirstIdeal.Ffn

open Idealize.ShloMosaic Idealize.ShloMosaic.TcCoe Idealize.ShloMosaic.Tactic
open Idealize.SL Idealize.SL.Sem
open Cert.FfnFirstIdeal Cert.FfnFirstIdeal.Gen
open Cert.FfnLastIdeal.Ffn (strip half whole wholeRow wholeOut normPieces zeroPieces accPiece finPieces)

variable {F : FTy → Type} [FloatOps F]

theorem piecesO_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    (kernelRun0_A c i arg2 harg2 arg3 harg3 arg4 harg4 arg5 harg5 arg6 harg6 arg7 harg7 arg8 harg8 arg9 harg9 hc0 hc1 x0 x1 x2 x3 x4 x5).1
      = accPiece (arg9.view.readCov (normPieces (fun p => (arg3.view.readAt (Elt F) (strip p).toLoadRect (harg3.unread x1))) (arg2.view.readAt (Elt F) (wholeRow).toLoadRect (harg2.unread x0))) whole.toLoadRect) (fun q => (arg4.view.readAt (Elt F) (half q).toLoadRect (harg4.unread x2))) (fun q => (arg5.view.readAt (Elt F) (half q).toLoadRect (harg5.unread x3))) (arg8.view.readCov (zeroPieces (F := F)) whole.toLoadRect) (arg6.view.readAt (Elt F) (wholeOut).toLoadRect (harg6.unread x4)) :: zeroPieces := by
  sl_kernel_rfl

theorem piecesS_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    (kernelRun0_A c i arg2 harg2 arg3 harg3 arg4 harg4 arg5 harg5 arg6 harg6 arg7 harg7 arg8 harg8 arg9 harg9 hc0 hc1 x0 x1 x2 x3 x4 x5).2.1
      = normPieces (fun p => (arg3.view.readAt (Elt F) (strip p).toLoadRect (harg3.unread x1))) (arg2.view.readAt (Elt F) (wholeRow).toLoadRect (harg2.unread x0)) := by
  sl_kernel_rfl

theorem piecesO_B (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    (kernelRun0_B c i arg2 harg2 arg3 harg3 arg4 harg4 arg5 harg5 arg6 harg6 arg7 harg7 arg8 harg8 arg9 harg9 hc0 hc1 x0 x1 x2 x3 x4 x5 xo6 xs0).1
      = [accPiece (arg9.view.readAt (Elt F) (whole).toLoadRect (harg9.unread xs0)) (fun q => (arg4.view.readAt (Elt F) (half q).toLoadRect (harg4.unread x2))) (fun q => (arg5.view.readAt (Elt F) (half q).toLoadRect (harg5.unread x3))) (arg8.view.readAt (Elt F) (whole).toLoadRect (harg8.unread xo6)) (arg6.view.readAt (Elt F) (wholeOut).toLoadRect (harg6.unread x4))] := by
  sl_kernel_rfl

theorem piecesO_C (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    (kernelRun0_C c i arg2 harg2 arg3 harg3 arg4 harg4 arg5 harg5 arg6 harg6 arg7 harg7 arg8 harg8 arg9 harg9 hc0 hc1 x0 x1 x2 x3 x4 x5 xo6 xs0).1
      = finPieces arg8 (accPiece (arg9.view.readAt (Elt F) (whole).toLoadRect (harg9.unread xs0)) (fun q => (arg4.view.readAt (Elt F) (half q).toLoadRect (harg4.unread x2))) (fun q => (arg5.view.readAt (Elt F) (half q).toLoadRect (harg5.unread x3))) (arg8.view.readAt (Elt F) (whole).toLoadRect (harg8.unread xo6)) (arg6.view.readAt (Elt F) (wholeOut).toLoadRect (harg6.unread x4))) (fun p a => k0_pay11 (arg3.view.readAt (Elt F) (strip p).toLoadRect (harg3.unread x1)) a) 4 le_rfl := by
  sl_kernel_rfl

end Cert.FfnFirstIdeal.Ffn

end
-- ==== Proof.FfnFirstBlock.lean ====
/- The feed-forward call without the final norm: what a grid point leaves, in the other call's blocks. -/
module

public import proofs.«01_k».proof.Proof.FfnFirstPieces

@[expose] public section

set_option maxRecDepth 16384

noncomputable section

namespace Cert.FfnFirstIdeal.Ffn

open Idealize.ShloMosaic Idealize.ShloMosaic.TcCoe Idealize.ShloMosaic.Tactic
open Idealize.SL Idealize.SL.Sem
open Cert.FfnFirstIdeal Cert.FfnFirstIdeal.Gen
open Cert.FfnLastIdeal.Ffn (strip ofStrips normBlock zeroBlock accBlock accPiece norm_canon acc_canon fin_canon_all norm_read zero_read ld_whole
  ld_row ld_out)

variable {F : FTy → Type} [FloatOps F]

/-- The finished rows, strip by strip: no norm. -/
def finBlock (X A : Vec F S1024x2048 .f32) : Vec F S1024x2048 .f32 :=
  ofStrips fun p => k0_pay11 (View.ld X (strip p)) (View.ld A (strip p))

theorem sout_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    sout0_A_0 c i arg2 harg2 arg3 harg3 arg4 harg4 arg5 harg5 arg6 harg6 arg7 harg7 arg8 harg8 arg9 harg9 hc0 hc1 x0 x1 x2 x3 x4 x5 = normBlock x1 x0 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5), piecesS_A]
  rw [norm_canon]; simp only [View.readAt_eq_ld, harg2.read_unread, harg3.read_unread, harg4.read_unread, harg5.read_unread, harg6.read_unread, harg7.read_unread, harg8.read_unread, harg9.read_unread, ld_whole, ld_row, ld_out, norm_read, zero_read]; rfl

theorem out_A (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) :
    out0_A_6 c i arg2 harg2 arg3 harg3 arg4 harg4 arg5 harg5 arg6 harg6 arg7 harg7 arg8 harg8 arg9 harg9 hc0 hc1 x0 x1 x2 x3 x4 x5 = accBlock (normBlock x1 x0) x2 x3 zeroBlock x4 := by
  unfold out0_A_6
  rw [View.read_writes_eq_canon _ _ _ (cover0_A_6 c i arg2 harg2 arg3 harg3 arg4 harg4 arg5 harg5 arg6 harg6 arg7 harg7 arg8 harg8 arg9 harg9 hc0 hc1 x0 x1 x2 x3 x4 x5), piecesO_A]
  rw [acc_canon]; simp only [View.readAt_eq_ld, harg2.read_unread, harg3.read_unread, harg4.read_unread, harg5.read_unread, harg6.read_unread, harg7.read_unread, harg8.read_unread, harg9.read_unread, ld_whole, ld_row, ld_out, norm_read, zero_read]; rfl

theorem out_B (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : ¬cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    out0_B_6 c i arg2 harg2 arg3 harg3 arg4 harg4 arg5 harg5 arg6 harg6 arg7 harg7 arg8 harg8 arg9 harg9 hc0 hc1 x0 x1 x2 x3 x4 x5 xo6 xs0 = accBlock xs0 x2 x3 xo6 x4 := by
  unfold out0_B_6
  rw [View.read_writes_eq_canon _ _ _ (cover0_B_6 c i arg2 harg2 arg3 harg3 arg4 harg4 arg5 harg5 arg6 harg6 arg7 harg7 arg8 harg8 arg9 harg9 hc0 hc1 x0 x1 x2 x3 x4 x5 xo6 xs0), piecesO_B]
  rw [acc_canon]; simp only [View.readAt_eq_ld, harg2.read_unread, harg3.read_unread, harg4.read_unread, harg5.read_unread, harg6.read_unread, harg7.read_unread, harg8.read_unread, harg9.read_unread, ld_whole, ld_row, ld_out, norm_read, zero_read]; rfl

theorem out_C (c : Dev nD) (i : grid0.Coords) (arg2 : Memref sig .tc .vmem S1x2048 .f32) (harg2 : arg2.IsWhole) (arg3 : Memref sig .tc .vmem S1024x2048 .f32) (harg3 : arg3.IsWhole) (arg4 : Memref sig .tc .vmem S1x2048x512 .f32) (harg4 : arg4.IsWhole) (arg5 : Memref sig .tc .vmem S1x2048x512 .f32) (harg5 : arg5.IsWhole) (arg6 : Memref sig .tc .vmem S1x512x2048 .f32) (harg6 : arg6.IsWhole) (arg7 : Memref sig .tc .vmem S1x2048 .f32) (harg7 : arg7.IsWhole) (arg8 : Memref sig .tc .vmem S1024x2048 .f32) (harg8 : arg8.IsWhole) (arg9 : Memref sig .tc .vmem S1024x2048 .bf16) (harg9 : arg9.IsWhole) (hc0 : ¬cond0_0 i) (hc1 : cond0_1 i)
    (x0 : Vec F S1x2048 .f32) (x1 : Vec F S1024x2048 .f32) (x2 : Vec F S1x2048x512 .f32) (x3 : Vec F S1x2048x512 .f32) (x4 : Vec F S1x512x2048 .f32) (x5 : Vec F S1x2048 .f32) (xo6 : Vec F S1024x2048 .f32) (xs0 : Vec F S1024x2048 .bf16) :
    out0_C_6 c i arg2 harg2 arg3 harg3 arg4 harg4 arg5 harg5 arg6 harg6 arg7 harg7 arg8 harg8 arg9 harg9 hc0 hc1 x0 x1 x2 x3 x4 x5 xo6 xs0 = finBlock x1 (accBlock xs0 x2 x3 xo6 x4) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xo6 xs0), piecesO_C]
  unfold accPiece; rw [fin_canon_all]; simp only [View.readAt_eq_ld, harg2.read_unread, harg3.read_unread, harg4.read_unread, harg5.read_unread, harg6.read_unread, harg7.read_unread, harg8.read_unread, harg9.read_unread, ld_whole, ld_row, ld_out, norm_read, zero_read]; rfl

end Cert.FfnFirstIdeal.Ffn

end
-- ==== Proof.FfnFirstRun.lean ====
/- The feed-forward call without the final norm, its result array over the reals: the same fold over 88 grid points as the call
   with the norm, on the first layer's weights and with its own finish. -/
module

public import proofs.«01_k».proof.Proof.FfnLastMath
public import proofs.«01_k».proof.Proof.FfnFirstBlock
public import Idealize.ShloMosaic.Lib.StableHlo.ReadAt

@[expose] public section

set_option maxRecDepth 16384

noncomputable section

namespace Cert.FfnFirstIdeal.Ffn

open Idealize.ShloMosaic Idealize.ShloMosaic.TcCoe Idealize.ShloMosaic.Pointwise Idealize.SL.Sem
open Cert.FfnFirstIdeal Cert.FfnFirstIdeal.Gen Cert.FfnFirstIdeal.Value Cert.Rows
open Cert.FfnLastIdeal.Ffn (strip ofStrips normBlock zeroBlock accBlock inStrip_ix ld_strip norm_apply zero_apply acc_apply)

variable (m : (ℓ : Loc nD τ sig) → Buf (Elt Ideal) ℓ)

theorem index_facts : ∀ t : Fin cfg0.N,
    (win0_0.index t 0 = 0 ∧ win0_0.index t 1 = 0)
    ∧ (win0_1.index t 0 = t.val / 11 ∧ win0_1.index t 1 = 0)
    ∧ (win0_2.index t 0 = 0 ∧ win0_2.index t 1 = 0 ∧ win0_2.index t 2 = t.val % 11)
    ∧ (win0_3.index t 0 = 0 ∧ win0_3.index t 1 = 0 ∧ win0_3.index t 2 = 11 + t.val % 11)
    ∧ (win0_4.index t 0 = 0 ∧ win0_4.index t 1 = t.val % 11 ∧ win0_4.index t 2 = 0) :=
  (by decide +kernel : ∀ t : Fin grid0.N, _)

theorem lt88 (t : Fin cfg0.N) : t.val < 88 := t.isLt.trans_eq N_0

theorem V_gain (c : Dev nD) (k : Fin 2048) : V m c main_v3 (ix2 0 k) = m ((c : Thread nD τ).loc main_arg1) (ix2 0 k) := by
  unfold V
  after_reads_at

theorem blk0 (c : Dev nD) (t : Fin cfg0.N) (k : Fin 2048) :
    (iblk m c 0 t : Vec Ideal S1x2048 .f32) (ix2 0 k) = m ((c : Thread nD τ).loc main_arg1) (ix2 0 k) := by
  obtain ⟨⟨h0, h1⟩, -⟩ := index_facts t
  rw [← V_gain m c k]
  unfold iblk
  rw [View.read_apply]
  show V m c main_v3 _ = _
  congr 1
  funext a
  apply Fin.ext
  match a with
  | ⟨0, _⟩ => show win0_0.index t 0 * 1 + 1 * 0 = 0; rw [h0]
  | ⟨1, _⟩ => show win0_0.index t 1 * 2048 + 1 * k.val = k.val; rw [h1]; omega

theorem blk1 (c : Dev nD) (t : Fin cfg0.N) (r : Fin 1024) (k : Fin 2048) :
    (iblk m c 1 t : Vec Ideal S1024x2048 .f32) (ix2 r k)
      = m ((c : Thread nD τ).loc main_arg0) (ix2 ⟨1024 * (t.val / 11) + r.val, by have := lt88 t; omega⟩ k) := by
  obtain ⟨-, ⟨h0, h1⟩, -⟩ := index_facts t
  unfold iblk
  rw [View.read_apply]
  show V m c main_arg0 _ = _
  rw [V_main_arg0]
  congr 1
  funext a
  apply Fin.ext
  match a with
  | ⟨0, _⟩ => show win0_1.index t 0 * 1024 + 1 * r.val = 1024 * (t.val / 11) + r.val; rw [h0]; omega
  | ⟨1, _⟩ => show win0_1.index t 1 * 2048 + 1 * k.val = k.val; rw [h1]; omega

theorem blk2 (c : Dev nD) (t : Fin cfg0.N) (k : Fin 2048) (f : Fin 512) :
    (iblk m c 2 t : Vec Ideal S1x2048x512 .f32) (ix3 0 k f)
      = m ((c : Thread nD τ).loc main_arg2) (ix3 0 k ⟨512 * (t.val % 11) + f.val, by omega⟩) := by
  obtain ⟨-, -, ⟨h0, h1, h2⟩, -⟩ := index_facts t
  unfold iblk
  rw [View.read_apply]
  show V m c main_arg2 _ = _
  rw [V_main_arg2]
  congr 1
  funext a
  apply Fin.ext
  match a with
  | ⟨0, _⟩ => show win0_2.index t 0 * 1 + 1 * 0 = 0; rw [h0]
  | ⟨1, _⟩ => show win0_2.index t 1 * 2048 + 1 * k.val = k.val; rw [h1]; omega
  | ⟨2, _⟩ => show win0_2.index t 2 * 512 + 1 * f.val = 512 * (t.val % 11) + f.val; rw [h2]; omega

theorem blk3 (c : Dev nD) (t : Fin cfg0.N) (k : Fin 2048) (f : Fin 512) :
    (iblk m c 3 t : Vec Ideal S1x2048x512 .f32) (ix3 0 k f)
      = m ((c : Thread nD τ).loc main_arg2) (ix3 0 k ⟨5632 + (512 * (t.val % 11) + f.val), by omega⟩) := by
  obtain ⟨-, -, -, ⟨h0, h1, h2⟩, -⟩ := index_facts t
  unfold iblk
  rw [View.read_apply]
  show V m c main_arg2 _ = _
  rw [V_main_arg2]
  congr 1
  funext a
  apply Fin.ext
  match a with
  | ⟨0, _⟩ => show win0_3.index t 0 * 1 + 1 * 0 = 0; rw [h0]
  | ⟨1, _⟩ => show win0_3.index t 1 * 2048 + 1 * k.val = k.val; rw [h1]; omega
  | ⟨2, _⟩ => show win0_3.index t 2 * 512 + 1 * f.val = 5632 + (512 * (t.val % 11) + f.val); rw [h2]; omega

theorem blk4 (c : Dev nD) (t : Fin cfg0.N) (f : Fin 512) (k : Fin 2048) :
    (iblk m c 4 t : Vec Ideal S1x512x2048 .f32) (ix3 0 f k)
      = m ((c : Thread nD τ).loc main_arg3) (ix3 0 ⟨512 * (t.val % 11) + f.val, by omega⟩ k) := by
  obtain ⟨-, -, -, -, h0, h1, h2⟩ := index_facts t
  unfold iblk
  rw [View.read_apply]
  show V m c main_arg3 _ = _
  rw [V_main_arg3]
  congr 1
  funext a
  apply Fin.ext
  match a with
  | ⟨0, _⟩ => show win0_4.index t 0 * 1 + 1 * 0 = 0; rw [h0]
  | ⟨1, _⟩ => show win0_4.index t 1 * 512 + 1 * f.val = 512 * (t.val % 11) + f.val; rw [h1]; omega
  | ⟨2, _⟩ => show win0_4.index t 2 * 2048 + 1 * k.val = k.val; rw [h2]; omega

/-- Row `r` of the residual stream. -/
def rowOf (d : Dev nD) (r : Fin 8192) : Fin 2048 → EReal := fun k => m ((d : Thread nD τ).loc main_arg0) (ix2 r k)

/-- The row, normalised. -/
def normedOf (d : Dev nD) (r : Fin 8192) : Fin 2048 → EReal :=
  fun k => rms (rowOf m d r) k (m ((d : Thread nD τ).loc main_arg1) (ix2 0 k))

def winOf (d : Dev nD) : Fin 2048 → Fin 11264 → EReal := fun k f => m ((d : Thread nD τ).loc main_arg2) (ix3 0 k f)

def woutOf (d : Dev nD) (k : Fin 2048) : Fin 5632 → EReal := fun f => m ((d : Thread nD τ).loc main_arg3) (ix3 0 f k)

/-- Row `r` of row block `i`. -/
abbrev rowAt (t : Fin cfg0.N) (r : Fin 1024) : Fin 8192 := ⟨1024 * (t.val / 11) + r.val, by have := lt88 t; omega⟩

/-- The finished row's entry. -/
def resultAt (d : Dev nD) (r : Fin 8192) (k : Fin 2048) : EReal :=
  rowOf m d r k + Ideal.ofBits .f32 0x3F000000#32 * partSum (normedOf m d r) (winOf m d) (woutOf m d k) 5632

/-- A scratch holding the normalised rows of the point's row block. -/
def Normed (d : Dev nD) (t : Fin cfg0.N) (s : Vec Ideal S1024x2048 .bf16) : Prop :=
  ∀ (r : Fin 1024) (k : Fin 2048), s (ix2 r k) = normedOf m d (rowAt t r) k

/-- An accumulator holding the first `n` terms at every row of the point's row block. -/
def Summed (d : Dev nD) (t : Fin cfg0.N) (n : ℕ) (o : Vec Ideal S1024x2048 .f32) : Prop :=
  ∀ (r : Fin 1024) (k : Fin 2048), o (ix2 r k) = partSum (normedOf m d (rowAt t r)) (winOf m d) (woutOf m d k) n

theorem normed_first (d : Dev nD) (t : Fin cfg0.N) : Normed m d t (normBlock (iblk m d 1 t) (iblk m d 0 t)) := by
  intro r k
  refine (norm_apply _ _ r k).trans ?_
  exact congrArg₂ (fun (x : Fin 2048 → EReal) (g : EReal) => rms x k g) (funext fun j => blk1 m d t r j) (blk0 m d t k)

theorem summed_step (d : Dev nD) (t : Fin cfg0.N) (o : Vec Ideal S1024x2048 .f32) (s : Vec Ideal S1024x2048 .bf16)
    (hs : Normed m d t s) (ho : Summed m d t (512 * (t.val % 11)) o) :
    Summed m d t (512 * (t.val % 11 + 1)) (accBlock s (iblk m d 2 t) (iblk m d 3 t) o (iblk m d 4 t)) := by
  intro r k
  refine (acc_apply s _ _ o _ r k).trans ?_
  rw [partSum_block _ _ _ _ (Nat.mod_lt _ (by decide))]
  refine congrArg₂ (fun a b : EReal => a + b) (ho r k) (Finset.sum_congr rfl fun f _ => ?_)
  refine congrArg₂ (fun a b : EReal => a * b) ?_ (blk4 m d t f k)
  unfold hiddenAt
  have e : (fun j => s (ix2 r j)) = normedOf m d (rowAt t r) := funext fun j => hs r j
  refine (congrArg (fun x => act x _ _) e).trans ?_
  exact congrArg₂ (act (normedOf m d (rowAt t r))) (funext fun j => blk2 m d t j f) (funext fun j => blk3 m d t j f)

theorem pay11_apply (h a : FVec Ideal S256x2048 .f32) (r : Fin 256) (k : Fin 2048) :
    k0_pay11 (F := Ideal) h a (ix2 r k) = h (ix2 r k) + Ideal.ofBits .f32 0x3F000000#32 * a (ix2 r k) := by
  pointwise [k0_pay11]

theorem finished (d : Dev nD) (t : Fin cfg0.N) (A : Vec Ideal S1024x2048 .f32) (hA : Summed m d t 5632 A) (r : Fin 1024) (k : Fin 2048) :
    finBlock (iblk m d 1 t) A (ix2 r k) = resultAt m d (rowAt t r) k := by
  unfold finBlock ofStrips
  rw [inStrip_ix]
  refine (pay11_apply _ _ _ k).trans ?_
  exact congrArg₂ (fun a b : EReal => a + Ideal.ofBits .f32 0x3F000000#32 * b)
    ((ld_strip (iblk m d 1 t : Vec Ideal S1024x2048 .f32) r k k).trans (blk1 m d t r k)) ((ld_strip A r k k).trans (hA r k))

/-- What the output block and the scratch hold after a point. -/
def Holds (d : Dev nD) (t : Fin cfg0.N) (p : Vec Ideal S1024x2048 .f32 × Vec Ideal S1024x2048 .bf16) : Prop :=
  Normed m d t p.2 ∧ (¬ t.val % 11 = 10 → Summed m d t (512 * (t.val % 11 + 1)) p.1)
    ∧ (t.val % 11 = 10 → ∀ r k, p.1 (ix2 r k) = resultAt m d (rowAt t r) k)

theorem holds_first (d : Dev nD) (t : Fin cfg0.N) (p : Vec Ideal S1024x2048 .f32 × Vec Ideal S1024x2048 .bf16) (h0 : t.val % 11 = 0) :
    Holds m d t (stAt0 m d t.val t.isLt p) := by
  have h1 : ¬ t.val % 11 = 10 := by omega
  rw [stAt0_A m d t p h0 h1, out_A, sout_A]
  have hn := normed_first m d t
  refine ⟨hn, fun _ => summed_step m d t zeroBlock _ hn ?_, fun h => absurd h h1⟩
  intro r k
  rw [h0]
  exact (zero_apply r k).trans (partSum_zero _ _ _).symm

theorem holds_next (d : Dev nD) (t : Fin cfg0.N) (p : Vec Ideal S1024x2048 .f32 × Vec Ideal S1024x2048 .bf16) (h0 : ¬ t.val % 11 = 0)
    (hn : Normed m d t p.2) (hs : Summed m d t (512 * (t.val % 11)) p.1) : Holds m d t (stAt0 m d t.val t.isLt p) := by
  have hA := summed_step m d t p.1 p.2 hn hs
  by_cases h1 : t.val % 11 = 10
  · rw [stAt0_C m d t p h0 h1, out_C]
    refine ⟨hn, fun h => absurd h1 h, fun _ r k => finished m d t _ ?_ r k⟩
    rw [h1] at hA
    exact hA
  · rw [stAt0_B m d t p h0 h1, out_B]
    exact ⟨hn, fun _ => hA, fun h => absurd h h1⟩

theorem holds (d : Dev nD) : ∀ (n : ℕ) (h : n < cfg0.N), Holds m d ⟨n, h⟩ (outsAt0 m d n h)
  | 0, h => by
    rw [outsAt0_zero]
    exact holds_first m d ⟨0, h⟩ _ (Nat.zero_mod _)
  | n + 1, h => by
    rw [outsAt0_succ]
    by_cases h0 : (n + 1) % 11 = 0
    · exact holds_first m d ⟨n + 1, h⟩ _ h0
    · obtain ⟨hn, hs, -⟩ := holds d n (Nat.lt_of_succ_lt h)
      have hrow : ∀ r, rowAt ⟨n, Nat.lt_of_succ_lt h⟩ r = rowAt ⟨n + 1, h⟩ r := fun r =>
        Fin.ext (by show 1024 * (n / 11) + r.val = 1024 * ((n + 1) / 11) + r.val; omega)
      have hlast : ¬ n % 11 = 10 := by omega
      have hmod : n % 11 + 1 = (n + 1) % 11 := by omega
      refine holds_next m d ⟨n + 1, h⟩ _ h0 (fun r k => (hn r k).trans (by rw [hrow])) (fun r k => ((hs hlast) r k).trans ?_)
      show partSum _ _ _ (512 * (n % 11 + 1)) = partSum _ _ _ (512 * ((n + 1) % 11))
      rw [hrow, hmod]

/-- The result array read. -/
theorem result_apply (d : Dev nD) (i : S8192x2048.Idx) : G6 m d i = resultAt m d (i 0) (i 1) := by
  have hi0 : (i 0).val < 8192 := (i 0).isLt
  have hi1 : (i 1).val < 2048 := (i 1).isLt
  have hp : pt6Of i = 11 * ((i 0).val / 1024) + 10 := by
    show 11 * (1 * ((i 0).val / 1024 - 0) + 1 * ((i 1).val / 2048 - 0)) + 10 = _
    omega
  have hN : cfg0.N = 88 := N_0
  have hlt : 11 * ((i 0).val / 1024) + 10 < cfg0.N := by omega
  unfold G6
  rw [dif_pos (by rw [hp]; exact hlt), fold0_congr m d (pt6Of i) _ (11 * ((i 0).val / 1024) + 10) (by omega) hp,
    ← outsAt0_sweep m d (11 * ((i 0).val / 1024) + 10) hlt]
  obtain ⟨-, -, hfin⟩ := holds m d _ hlt
  have hl : loc6Of i = ix2 ⟨(i 0).val % 1024, Nat.mod_lt _ (by decide)⟩ (i 1) := by
    funext a
    apply Fin.ext
    match a with
    | ⟨0, _⟩ => rfl
    | ⟨1, _⟩ => show (i 1).val % 2048 = (i 1).val; omega
  rw [hl]
  refine (hfin (by show (11 * ((i 0).val / 1024) + 10) % 11 = 10; omega) _ _).trans ?_
  refine congrArg (fun r => resultAt m d r (i 1)) (Fin.ext ?_)
  show 1024 * ((11 * ((i 0).val / 1024) + 10) / 11) + (i 0).val % 1024 = (i 0).val
  omega

end Cert.FfnFirstIdeal.Ffn

end
-- ==== Proof.FfnFirstRef.lean ====
/- The reference's result over the reals, entry by entry: the same finished row. -/
module

public import proofs.«01_k».proof.Proof.Gen.FfnFirstReferenceIdeal.Run
public import proofs.«01_k».proof.Proof.Rows

@[expose] public section

set_option maxRecDepth 16384

noncomputable section

namespace Cert.FfnFirstReferenceIdeal.Ffn

open Idealize.ShloMosaic Idealize.ShloMosaic.TcCoe Idealize.ShloMosaic.Pointwise Idealize.SL.Sem
open Cert.FfnFirstReferenceIdeal Cert.FfnFirstReferenceIdeal.Gen Cert.FfnFirstReferenceIdeal.Value Cert.Rows

variable (m : (ℓ : Loc nD τ sig) → Buf (Elt Ideal) ℓ)

def rowOf (d : Dev nD) (r : Fin 8192) : Fin 2048 → EReal := fun k => m ((d : Thread nD τ).loc main_arg0) (ix2 r k)

def normedOf (d : Dev nD) (r : Fin 8192) : Fin 2048 → EReal :=
  fun k => rms (rowOf m d r) k (m ((d : Thread nD τ).loc main_arg1) (ix2 0 k))

def winOf (d : Dev nD) : Fin 2048 → Fin 11264 → EReal := fun k f => m ((d : Thread nD τ).loc main_arg2) (ix3 0 k f)

def woutOf (d : Dev nD) (k : Fin 2048) : Fin 5632 → EReal := fun f => m ((d : Thread nD τ).loc main_arg3) (ix3 0 f k)

def resultAt (d : Dev nD) (r : Fin 8192) (k : Fin 2048) : EReal :=
  rowOf m d r k + Ideal.ofBits .f32 0x3F000000#32 * ∑ f : Fin 5632, hiddenAt (normedOf m d r) (winOf m d) f * woutOf m d k f

/-- The reference's run, its result read entry by entry. -/
theorem run_at (ρ : Dev nD → PrngReg) : θ_run defs (onTc (τ := τ) (main (F := Ideal))) ⟨m, fun _ => 0, ρ⟩ fun s => ∀ c : Dev nD,
      (∀ (r : Fin 8192) (k : Fin 2048), s.2.mem ((c : Thread nD τ).loc main_v27) (ix2 r k) = resultAt m c r k)
        ∧ s.2.mem ((c : Thread nD τ).loc main_arg0) = m ((c : Thread nD τ).loc main_arg0)
        ∧ s.2.mem ((c : Thread nD τ).loc main_arg1) = m ((c : Thread nD τ).loc main_arg1)
        ∧ s.2.mem ((c : Thread nD τ).loc main_arg2) = m ((c : Thread nD τ).loc main_arg2)
        ∧ s.2.mem ((c : Thread nD τ).loc main_arg3) = m ((c : Thread nD τ).loc main_arg3) := by
  refine (θ_run defs _ _).mono (fun _ h c => ⟨fun r k => (congrFun (h c).1 _).trans ?_, (h c).2⟩) (Value.run (F := Ideal) m ρ)
  pointwise [resultAt, rowOf, normedOf, winOf, woutOf, hiddenAt, act, rms]
  rfl

end Cert.FfnFirstReferenceIdeal.Ffn

end
-- ==== Proof.FfnLastRun.lean ====
/- The kernel's result array over the reals: the run's fold over the 88 grid points, read. After point `11 i + j` the carried
   scratch holds the normalised rows of row block `i`, and the output block the first `512 (j + 1)` terms of their product with
   the second weight — at the last `j` the finished rows. -/
module

public import proofs.«01_k».proof.Proof.FfnLastMath
public import Idealize.ShloMosaic.Lib.StableHlo.ReadAt

@[expose] public section

set_option maxRecDepth 16384

noncomputable section

namespace Cert.FfnLastIdeal.Ffn

open Idealize.ShloMosaic Idealize.ShloMosaic.TcCoe Idealize.ShloMosaic.Pointwise Idealize.SL.Sem
open Cert.FfnLastIdeal Cert.FfnLastIdeal.Gen Cert.FfnLastIdeal.Value Cert.Rows

variable (m : (ℓ : Loc nD τ sig) → Buf (Elt Ideal) ℓ)

theorem index_facts : ∀ t : Fin cfg0.N,
    (win0_0.index t 0 = 0 ∧ win0_0.index t 1 = 0)
    ∧ (win0_1.index t 0 = t.val / 11 ∧ win0_1.index t 1 = 0)
    ∧ (win0_2.index t 0 = 3 ∧ win0_2.index t 1 = 0 ∧ win0_2.index t 2 = t.val % 11)
    ∧ (win0_3.index t 0 = 3 ∧ win0_3.index t 1 = 0 ∧ win0_3.index t 2 = 11 + t.val % 11)
    ∧ (win0_4.index t 0 = 3 ∧ win0_4.index t 1 = t.val % 11 ∧ win0_4.index t 2 = 0)
    ∧ (win0_5.index t 0 = 0 ∧ win0_5.index t 1 = 0) :=
  (by decide +kernel : ∀ t : Fin grid0.N, _)

theorem lt88 (t : Fin cfg0.N) : t.val < 88 := t.isLt.trans_eq N_0

theorem V_gain (c : Dev nD) (k : Fin 2048) : V m c main_v3 (ix2 0 k) = m ((c : Thread nD τ).loc main_arg1) (ix2 3 k) := by
  unfold V
  after_reads_at

theorem V_last (c : Dev nD) (k : Fin 2048) : V m c main_v2 (ix2 0 k) = m ((c : Thread nD τ).loc main_arg4) (ix1 k) := by
  unfold V
  after_reads_at

theorem blk0 (c : Dev nD) (t : Fin cfg0.N) (k : Fin 2048) :
    (iblk m c 0 t : Vec Ideal S1x2048 .f32) (ix2 0 k) = m ((c : Thread nD τ).loc main_arg1) (ix2 3 k) := by
  obtain ⟨⟨h0, h1⟩, -⟩ := index_facts t
  rw [← V_gain m c k]
  unfold iblk
  rw [View.read_apply]
  show V m c main_v3 _ = _
  congr 1
  funext a
  apply Fin.ext
  match a with
  | ⟨0, _⟩ => show win0_0.index t 0 * 1 + 1 * 0 = 0; rw [h0]
  | ⟨1, _⟩ => show win0_0.index t 1 * 2048 + 1 * k.val = k.val; rw [h1]; omega

theorem blk1 (c : Dev nD) (t : Fin cfg0.N) (r : Fin 1024) (k : Fin 2048) :
    (iblk m c 1 t : Vec Ideal S1024x2048 .f32) (ix2 r k)
      = m ((c : Thread nD τ).loc main_arg0) (ix2 ⟨1024 * (t.val / 11) + r.val, by have := lt88 t; omega⟩ k) := by
  obtain ⟨-, ⟨h0, h1⟩, -⟩ := index_facts t
  unfold iblk
  rw [View.read_apply]
  show V m c main_arg0 _ = _
  rw [V_main_arg0]
  congr 1
  funext a
  apply Fin.ext
  match a with
  | ⟨0, _⟩ => show win0_1.index t 0 * 1024 + 1 * r.val = 1024 * (t.val / 11) + r.val; rw [h0]; omega
  | ⟨1, _⟩ => show win0_1.index t 1 * 2048 + 1 * k.val = k.val; rw [h1]; omega

theorem blk2 (c : Dev nD) (t : Fin cfg0.N) (k : Fin 2048) (f : Fin 512) :
    (iblk m c 2 t : Vec Ideal S1x2048x512 .f32) (ix3 0 k f)
      = m ((c : Thread nD τ).loc main_arg2) (ix3 3 k ⟨512 * (t.val % 11) + f.val, by omega⟩) := by
  obtain ⟨-, -, ⟨h0, h1, h2⟩, -⟩ := index_facts t
  unfold iblk
  rw [View.read_apply]
  show V m c main_arg2 _ = _
  rw [V_main_arg2]
  congr 1
  funext a
  apply Fin.ext
  match a with
  | ⟨0, _⟩ => show win0_2.index t 0 * 1 + 1 * 0 = 3; rw [h0]
  | ⟨1, _⟩ => show win0_2.index t 1 * 2048 + 1 * k.val = k.val; rw [h1]; omega
  | ⟨2, _⟩ => show win0_2.index t 2 * 512 + 1 * f.val = 512 * (t.val % 11) + f.val; rw [h2]; omega

theorem blk3 (c : Dev nD) (t : Fin cfg0.N) (k : Fin 2048) (f : Fin 512) :
    (iblk m c 3 t : Vec Ideal S1x2048x512 .f32) (ix3 0 k f)
      = m ((c : Thread nD τ).loc main_arg2) (ix3 3 k ⟨5632 + (512 * (t.val % 11) + f.val), by omega⟩) := by
  obtain ⟨-, -, -, ⟨h0, h1, h2⟩, -⟩ := index_facts t
  unfold iblk
  rw [View.read_apply]
  show V m c main_arg2 _ = _
  rw [V_main_arg2]
  congr 1
  funext a
  apply Fin.ext
  match a with
  | ⟨0, _⟩ => show win0_3.index t 0 * 1 + 1 * 0 = 3; rw [h0]
  | ⟨1, _⟩ => show win0_3.index t 1 * 2048 + 1 * k.val = k.val; rw [h1]; omega
  | ⟨2, _⟩ => show win0_3.index t 2 * 512 + 1 * f.val = 5632 + (512 * (t.val % 11) + f.val); rw [h2]; omega

theorem blk4 (c : Dev nD) (t : Fin cfg0.N) (f : Fin 512) (k : Fin 2048) :
    (iblk m c 4 t : Vec Ideal S1x512x2048 .f32) (ix3 0 f k)
      = m ((c : Thread nD τ).loc main_arg3) (ix3 3 ⟨512 * (t.val % 11) + f.val, by omega⟩ k) := by
  obtain ⟨-, -, -, -, ⟨h0, h1, h2⟩, -⟩ := index_facts t
  unfold iblk
  rw [View.read_apply]
  show V m c main_arg3 _ = _
  rw [V_main_arg3]
  congr 1
  funext a
  apply Fin.ext
  match a with
  | ⟨0, _⟩ => show win0_4.index t 0 * 1 + 1 * 0 = 3; rw [h0]
  | ⟨1, _⟩ => show win0_4.index t 1 * 512 + 1 * f.val = 512 * (t.val % 11) + f.val; rw [h1]; omega
  | ⟨2, _⟩ => show win0_4.index t 2 * 2048 + 1 * k.val = k.val; rw [h2]; omega

theorem blk5 (c : Dev nD) (t : Fin cfg0.N) (k : Fin 2048) :
    (iblk m c 5 t : Vec Ideal S1x2048 .f32) (ix2 0 k) = m ((c : Thread nD τ).loc main_arg4) (ix1 k) := by
  obtain ⟨-, -, -, -, -, h0, h1⟩ := index_facts t
  rw [← V_last m c k]
  unfold iblk
  rw [View.read_apply]
  show V m c main_v2 _ = _
  congr 1
  funext a
  apply Fin.ext
  match a with
  | ⟨0, _⟩ => show win0_5.index t 0 * 1 + 1 * 0 = 0; rw [h0]
  | ⟨1, _⟩ => show win0_5.index t 1 * 2048 + 1 * k.val = k.val; rw [h1]; omega

/-- Row `r` of the residual stream. -/
def rowOf (d : Dev nD) (r : Fin 8192) : Fin 2048 → EReal := fun k => m ((d : Thread nD τ).loc main_arg0) (ix2 r k)

/-- The row, normalised. -/
def normedOf (d : Dev nD) (r : Fin 8192) : Fin 2048 → EReal :=
  fun k => rms (rowOf m d r) k (m ((d : Thread nD τ).loc main_arg1) (ix2 3 k))

def winOf (d : Dev nD) : Fin 2048 → Fin 11264 → EReal := fun k f => m ((d : Thread nD τ).loc main_arg2) (ix3 3 k f)

def woutOf (d : Dev nD) (k : Fin 2048) : Fin 5632 → EReal := fun f => m ((d : Thread nD τ).loc main_arg3) (ix3 3 f k)

/-- Row `r` of row block `i`. -/
abbrev rowAt (t : Fin cfg0.N) (r : Fin 1024) : Fin 8192 := ⟨1024 * (t.val / 11) + r.val, by have := lt88 t; omega⟩

/-- The finished row's entry. -/
def resultAt (d : Dev nD) (r : Fin 8192) (k : Fin 2048) : EReal :=
  rms (fun j => rowOf m d r j + Ideal.ofBits .f32 0x3F000000#32 * partSum (normedOf m d r) (winOf m d) (woutOf m d j) 5632) k
    (m ((d : Thread nD τ).loc main_arg4) (ix1 k))

/-- A scratch holding the normalised rows of the point's row block. -/
def Normed (d : Dev nD) (t : Fin cfg0.N) (s : Vec Ideal S1024x2048 .bf16) : Prop :=
  ∀ (r : Fin 1024) (k : Fin 2048), s (ix2 r k) = normedOf m d (rowAt t r) k

/-- An accumulator holding the first `n` terms at every row of the point's row block. -/
def Summed (d : Dev nD) (t : Fin cfg0.N) (n : ℕ) (o : Vec Ideal S1024x2048 .f32) : Prop :=
  ∀ (r : Fin 1024) (k : Fin 2048), o (ix2 r k) = partSum (normedOf m d (rowAt t r)) (winOf m d) (woutOf m d k) n

theorem normed_first (d : Dev nD) (t : Fin cfg0.N) : Normed m d t (normBlock (iblk m d 1 t) (iblk m d 0 t)) := by
  intro r k
  refine (norm_apply _ _ r k).trans ?_
  exact congrArg₂ (fun (x : Fin 2048 → EReal) (g : EReal) => rms x k g) (funext fun j => blk1 m d t r j) (blk0 m d t k)

theorem summed_step (d : Dev nD) (t : Fin cfg0.N) (o : Vec Ideal S1024x2048 .f32) (s : Vec Ideal S1024x2048 .bf16)
    (hs : Normed m d t s) (ho : Summed m d t (512 * (t.val % 11)) o) :
    Summed m d t (512 * (t.val % 11 + 1)) (accBlock s (iblk m d 2 t) (iblk m d 3 t) o (iblk m d 4 t)) := by
  intro r k
  refine (acc_apply s _ _ o _ r k).trans ?_
  rw [partSum_block _ _ _ _ (Nat.mod_lt _ (by decide))]
  refine congrArg₂ (fun a b : EReal => a + b) (ho r k) (Finset.sum_congr rfl fun f _ => ?_)
  refine congrArg₂ (fun a b : EReal => a * b) ?_ (blk4 m d t f k)
  unfold hiddenAt
  have e : (fun j => s (ix2 r j)) = normedOf m d (rowAt t r) := funext fun j => hs r j
  refine (congrArg (fun x => act x _ _) e).trans ?_
  exact congrArg₂ (act (normedOf m d (rowAt t r))) (funext fun j => blk2 m d t j f) (funext fun j => blk3 m d t j f)

theorem finished (d : Dev nD) (t : Fin cfg0.N) (A : Vec Ideal S1024x2048 .f32) (hA : Summed m d t 5632 A) (r : Fin 1024) (k : Fin 2048) :
    finBlock (iblk m d 1 t) A (iblk m d 5 t) (ix2 r k) = resultAt m d (rowAt t r) k := by
  refine (fin_apply _ A _ r k).trans ?_
  exact congrArg₂ (fun (x : Fin 2048 → EReal) (g : EReal) => rms x k g)
    (funext fun j => congrArg₂ (fun a b : EReal => a + Ideal.ofBits .f32 0x3F000000#32 * b) (blk1 m d t r j) (hA r j)) (blk5 m d t k)

/-- What the output block and the scratch hold after a point. -/
def Holds (d : Dev nD) (t : Fin cfg0.N) (p : Vec Ideal S1024x2048 .f32 × Vec Ideal S1024x2048 .bf16) : Prop :=
  Normed m d t p.2 ∧ (¬ t.val % 11 = 10 → Summed m d t (512 * (t.val % 11 + 1)) p.1)
    ∧ (t.val % 11 = 10 → ∀ r k, p.1 (ix2 r k) = resultAt m d (rowAt t r) k)

theorem holds_first (d : Dev nD) (t : Fin cfg0.N) (p : Vec Ideal S1024x2048 .f32 × Vec Ideal S1024x2048 .bf16) (h0 : t.val % 11 = 0) :
    Holds m d t (stAt0 m d t.val t.isLt p) := by
  have h1 : ¬ t.val % 11 = 10 := by omega
  rw [stAt0_A m d t p h0 h1, out_A, sout_A]
  have hn := normed_first m d t
  refine ⟨hn, fun _ => summed_step m d t zeroBlock _ hn ?_, fun h => absurd h h1⟩
  intro r k
  rw [h0]
  exact (zero_apply r k).trans (partSum_zero _ _ _).symm

theorem holds_next (d : Dev nD) (t : Fin cfg0.N) (p : Vec Ideal S1024x2048 .f32 × Vec Ideal S1024x2048 .bf16) (h0 : ¬ t.val % 11 = 0)
    (hn : Normed m d t p.2) (hs : Summed m d t (512 * (t.val % 11)) p.1) : Holds m d t (stAt0 m d t.val t.isLt p) := by
  have hA := summed_step m d t p.1 p.2 hn hs
  by_cases h1 : t.val % 11 = 10
  · rw [stAt0_C m d t p h0 h1, out_C]
    refine ⟨hn, fun h => absurd h1 h, fun _ r k => finished m d t _ ?_ r k⟩
    rw [h1] at hA
    exact hA
  · rw [stAt0_B m d t p h0 h1, out_B]
    exact ⟨hn, fun _ => hA, fun h => absurd h h1⟩

theorem holds (d : Dev nD) : ∀ (n : ℕ) (h : n < cfg0.N), Holds m d ⟨n, h⟩ (outsAt0 m d n h)
  | 0, h => by
    rw [outsAt0_zero]
    exact holds_first m d ⟨0, h⟩ _ (Nat.zero_mod _)
  | n + 1, h => by
    rw [outsAt0_succ]
    by_cases h0 : (n + 1) % 11 = 0
    · exact holds_first m d ⟨n + 1, h⟩ _ h0
    · obtain ⟨hn, hs, -⟩ := holds d n (Nat.lt_of_succ_lt h)
      have hrow : ∀ r, rowAt ⟨n, Nat.lt_of_succ_lt h⟩ r = rowAt ⟨n + 1, h⟩ r := fun r =>
        Fin.ext (by show 1024 * (n / 11) + r.val = 1024 * ((n + 1) / 11) + r.val; omega)
      have hlast : ¬ n % 11 = 10 := by omega
      have hmod : n % 11 + 1 = (n + 1) % 11 := by omega
      refine holds_next m d ⟨n + 1, h⟩ _ h0 (fun r k => (hn r k).trans (by rw [hrow])) (fun r k => ((hs hlast) r k).trans ?_)
      show partSum _ _ _ (512 * (n % 11 + 1)) = partSum _ _ _ (512 * ((n + 1) % 11))
      rw [hrow, hmod]

/-- The result array read. -/
theorem result_apply (d : Dev nD) (i : S8192x2048.Idx) : G6 m d i = resultAt m d (i 0) (i 1) := by
  have hi0 : (i 0).val < 8192 := (i 0).isLt
  have hi1 : (i 1).val < 2048 := (i 1).isLt
  have hp : pt6Of i = 11 * ((i 0).val / 1024) + 10 := by
    show 11 * (1 * ((i 0).val / 1024 - 0) + 1 * ((i 1).val / 2048 - 0)) + 10 = _
    omega
  have hN : cfg0.N = 88 := N_0
  have hlt : 11 * ((i 0).val / 1024) + 10 < cfg0.N := by omega
  unfold G6
  rw [dif_pos (by rw [hp]; exact hlt), fold0_congr m d (pt6Of i) _ (11 * ((i 0).val / 1024) + 10) (by omega) hp,
    ← outsAt0_sweep m d (11 * ((i 0).val / 1024) + 10) hlt]
  obtain ⟨-, -, hfin⟩ := holds m d _ hlt
  have hl : loc6Of i = ix2 ⟨(i 0).val % 1024, Nat.mod_lt _ (by decide)⟩ (i 1) := by
    funext a
    apply Fin.ext
    match a with
    | ⟨0, _⟩ => rfl
    | ⟨1, _⟩ => show (i 1).val % 2048 = (i 1).val; omega
  rw [hl]
  refine (hfin (by show (11 * ((i 0).val / 1024) + 10) % 11 = 10; omega) _ _).trans ?_
  refine congrArg (fun r => resultAt m d r (i 1)) (Fin.ext ?_)
  show 1024 * ((11 * ((i 0).val / 1024) + 10) / 11) + (i 0).val % 1024 = (i 0).val
  omega

end Cert.FfnLastIdeal.Ffn

end
-- ==== Proof.FfnLastRef.lean ====
/- The reference's result over the reals, entry by entry: the same finished row. -/
module

public import proofs.«01_k».proof.Proof.Gen.FfnLastReferenceIdeal.Run
public import proofs.«01_k».proof.Proof.Rows

@[expose] public section

set_option maxRecDepth 16384

noncomputable section

namespace Cert.FfnLastReferenceIdeal.Ffn

open Idealize.ShloMosaic Idealize.ShloMosaic.TcCoe Idealize.ShloMosaic.Pointwise
open Cert.FfnLastReferenceIdeal Cert.FfnLastReferenceIdeal.Gen Cert.FfnLastReferenceIdeal.Value Cert.Rows

variable (m : (ℓ : Loc nD τ sig) → Buf (Elt Ideal) ℓ)

def rowOf (d : Dev nD) (r : Fin 8192) : Fin 2048 → EReal := fun k => m ((d : Thread nD τ).loc main_arg0) (ix2 r k)

def normedOf (d : Dev nD) (r : Fin 8192) : Fin 2048 → EReal :=
  fun k => rms (rowOf m d r) k (m ((d : Thread nD τ).loc main_arg1) (ix2 3 k))

def winOf (d : Dev nD) : Fin 2048 → Fin 11264 → EReal := fun k f => m ((d : Thread nD τ).loc main_arg2) (ix3 3 k f)

def woutOf (d : Dev nD) (k : Fin 2048) : Fin 5632 → EReal := fun f => m ((d : Thread nD τ).loc main_arg3) (ix3 3 f k)

def resultAt (d : Dev nD) (r : Fin 8192) (k : Fin 2048) : EReal :=
  rms (fun j => rowOf m d r j + Ideal.ofBits .f32 0x3F000000#32 * ∑ f : Fin 5632, hiddenAt (normedOf m d r) (winOf m d) f * woutOf m d j f) k
    (m ((d : Thread nD τ).loc main_arg4) (ix1 k))

theorem result_apply (d : Dev nD) (r : Fin 8192) (k : Fin 2048) : res_main_v40 m d (ix2 r k) = resultAt m d r k := by
  unfold res_main_v40
  pointwise [resultAt, rowOf, normedOf, winOf, woutOf, hiddenAt, act, rms]
  rfl

end Cert.FfnLastReferenceIdeal.Ffn

end
-- ==== Proof.GdnInBlock.lean ====
/- The recurrent layer's input projection: what a grid point leaves. The first point of a row block normalises the rows into the
   scratch and multiplies them with the last 64 columns; every point multiplies them with its own 512 columns. -/
module

public import proofs.«01_k».proof.Proof.Gen.GdnInIdeal.Value

@[expose] public section

set_option maxRecDepth 16384

noncomputable section

namespace Cert.GdnInIdeal.Proj

open Idealize.ShloMosaic Idealize.ShloMosaic.TcCoe Idealize.ShloMosaic.Tactic
open Idealize.SL Idealize.SL.Sem
open Cert.GdnInIdeal Cert.GdnInIdeal.Gen

variable {F : FTy → Type} [FloatOps F]

abbrev wholeRows : Rect S2048x2048 := Rect.unit (s := S2048x2048) ![0, 0] S2048x2048.size inb_S2048x2048_S2048x2048_0_0
abbrev wholeGain : Rect S1x2048 := Rect.unit (s := S1x2048) ![0, 0] S1x2048.size inb_S1x2048_S1x2048_0_0
abbrev wholeMain : Rect S1x512x2048 := Rect.unit (s := S1x512x2048) ![0, 0, 0] S1x512x2048.size inb_S1x512x2048_S1x512x2048_0_0_0
abbrev wholeFew : Rect S1x64x2048 := Rect.unit (s := S1x64x2048) ![0, 0, 0] S1x64x2048.size inb_S1x64x2048_S1x64x2048_0_0_0
abbrev outMain : Rect S2048x512 := Rect.unit (s := S2048x512) ![0, 0] S2048x512.size inb_S2048x512_S2048x512_0_0
abbrev outTail : Rect S2048x64 := Rect.unit (s := S2048x64) ![0, 0] S2048x64.size inb_S2048x64_S2048x64_0_0

theorem hz2 : (![0, 0] : Fin 2 → ℕ) = fun _ => 0 := by funext a; fin_cases a <;> rfl
theorem hz3 : (![0, 0, 0] : Fin 3 → ℕ) = fun _ => 0 := by funext a; fin_cases a <;> rfl

theorem ld_rows {e : EltTy} (X : Vec F S2048x2048 e) : View.ld X wholeRows = X := View.ld_unit_zero hz2 _ _
theorem ld_gain (X : Vec F S1x2048 .f32) : View.ld X wholeGain = X := View.ld_unit_zero hz2 _ _
theorem ld_main (X : Vec F S1x512x2048 .f32) : View.ld X wholeMain = X := View.ld_unit_zero hz3 _ _
theorem ld_few (X : Vec F S1x64x2048 .f32) : View.ld X wholeFew = X := View.ld_unit_zero hz3 _ _
theorem ld_tail (X : Vec F S2048x64 .f32) : View.ld X outTail = X := View.ld_unit_zero hz2 _ _

theorem norm_read {sg : RefSig} (arg8 : Memref sg .tc .vmem S2048x2048 .bf16) (w : Vec F S2048x2048 .bf16) :
    arg8.view.readCov [(⟨wholeRows, w⟩ : View.Piece (Elt F) S2048x2048 .bf16)] wholeRows.toLoadRect = w := View.readCov_unit_zero _ hz2 _ _

theorem rows_canon (w : Vec F S2048x2048 .bf16) : View.canon [(⟨wholeRows, w⟩ : View.Piece (Elt F) S2048x2048 .bf16)] = w := View.canon_unit_zero hz2 _ _
theorem main_canon (w : Vec F S2048x512 .f32) : View.canon [(⟨outMain, w⟩ : View.Piece (Elt F) S2048x512 .f32)] = w := View.canon_unit_zero hz2 _ _
theorem tail_canon (w : Vec F S2048x64 .f32) : View.canon [(⟨outTail, w⟩ : View.Piece (Elt F) S2048x64 .f32)] = w := View.canon_unit_zero hz2 _ _

theorem piecesS_A (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : cond0_0 i) (hc1 : ¬cond0_1 i)
    (x0 : Vec F S1x2048 .f32) (x1 : Vec F S2048x2048 .f32) (x2 : Vec F S1x512x2048 .f32) (x3 : Vec F S1x64x2048 .f32) :
    (kernelRun0_A c i arg2 harg2 arg3 harg3 arg4 harg4 arg5 harg5 arg6 harg6 arg7 harg7 arg8 harg8 hc0 hc1 x0 x1 x2 x3).2.2.1 = [⟨wholeRows, k0_pay1 (arg3.view.readAt (Elt F) wholeRows.toLoadRect (harg3.unread x1)) (arg2.view.readAt (Elt F) wholeGain.toLoadRect (harg2.unread x0))⟩] := by
  sl_kernel_rfl

theorem piecesM_A (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : cond0_0 i) (hc1 : ¬cond0_1 i)
    (x0 : Vec F S1x2048 .f32) (x1 : Vec F S2048x2048 .f32) (x2 : Vec F S1x512x2048 .f32) (x3 : Vec F S1x64x2048 .f32) :
    (kernelRun0_A c i arg2 harg2 arg3 harg3 arg4 harg4 arg5 harg5 arg6 harg6 arg7 harg7 arg8 harg8 hc0 hc1 x0 x1 x2 x3).1 = [⟨outMain, k0_pay4 (arg8.view.readCov [⟨wholeRows, k0_pay1 (arg3.view.readAt (Elt F) wholeRows.toLoadRect (harg3.unread x1)) (arg2.view.readAt (Elt F) wholeGain.toLoadRect (harg2.unread x0))⟩] wholeRows.toLoadRect) (arg4.view.readAt (Elt F) wholeMain.toLoadRect (harg4.unread x2))⟩] := by
  sl_kernel_rfl

theorem piecesT_A (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : cond0_0 i) (hc1 : ¬cond0_1 i)
    (x0 : Vec F S1x2048 .f32) (x1 : Vec F S2048x2048 .f32) (x2 : Vec F S1x512x2048 .f32) (x3 : Vec F S1x64x2048 .f32) :
    (kernelRun0_A c i arg2 harg2 arg3 harg3 arg4 harg4 arg5 harg5 arg6 harg6 arg7 harg7 arg8 harg8 hc0 hc1 x0 x1 x2 x3).2.1 = [⟨outTail, k0_pay2 (arg8.view.readCov [⟨wholeRows, k0_pay1 (arg3.view.readAt (Elt F) wholeRows.toLoadRect (harg3.unread x1)) (arg2.view.readAt (Elt F) wholeGain.toLoadRect (harg2.unread x0))⟩] wholeRows.toLoadRect) (arg5.view.readAt (Elt F) wholeFew.toLoadRect (harg5.unread x3))⟩] := by
  sl_kernel_rfl

theorem piecesM_B (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : ¬cond0_0 i) (hc1 : cond0_1 i)
    (x0 : Vec F S1x2048 .f32) (x1 : Vec F S2048x2048 .f32) (x2 : Vec F S1x512x2048 .f32) (x3 : Vec F S1x64x2048 .f32) (xo5 : Vec F S2048x64 .f32) (xs0 : Vec F S2048x2048 .bf16) :
    (kernelRun0_B c i arg2 harg2 arg3 harg3 arg4 harg4 arg5 harg5 arg6 harg6 arg7 harg7 arg8 harg8 hc0 hc1 x0 x1 x2 x3 xo5 xs0).1 = [⟨outMain, k0_pay4 (arg8.view.readAt (Elt F) wholeRows.toLoadRect (harg8.unread xs0)) (arg4.view.readAt (Elt F) wholeMain.toLoadRect (harg4.unread x2))⟩] := by
  sl_kernel_rfl

theorem piecesT_B (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : ¬cond0_0 i) (hc1 : cond0_1 i)
    (x0 : Vec F S1x2048 .f32) (x1 : Vec F S2048x2048 .f32) (x2 : Vec F S1x512x2048 .f32) (x3 : Vec F S1x64x2048 .f32) (xo5 : Vec F S2048x64 .f32) (xs0 : Vec F S2048x2048 .bf16) :
    (kernelRun0_B c i arg2 harg2 arg3 harg3 arg4 harg4 arg5 harg5 arg6 harg6 arg7 harg7 arg8 harg8 hc0 hc1 x0 x1 x2 x3 xo5 xs0).2.1 = [⟨outTail, k0_pay3 (arg7.view.readAt (Elt F) outTail.toLoadRect (harg7.unread xo5))⟩] := by
  sl_kernel_rfl

theorem rows_A (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : cond0_0 i) (hc1 : ¬cond0_1 i)
    (x0 : Vec F S1x2048 .f32) (x1 : Vec F S2048x2048 .f32) (x2 : Vec F S1x512x2048 .f32) (x3 : Vec F S1x64x2048 .f32) :
    sout0_A_0 c i arg2 harg2 arg3 harg3 arg4 harg4 arg5 harg5 arg6 harg6 arg7 harg7 arg8 harg8 hc0 hc1 x0 x1 x2 x3 = k0_pay1 x1 x0 := by
  unfold sout0_A_0
  rw [View.read_writes_eq_canon _ _ _ (scover0_A_0 c i arg2 harg2 arg3 harg3 arg4 harg4 arg5 harg5 arg6 harg6 arg7 harg7 arg8 harg8 hc0 hc1 x0 x1 x2 x3), piecesS_A c i arg2 harg2 arg3 harg3 arg4 harg4 arg5 harg5 arg6 harg6 arg7 harg7 arg8 harg8 hc0 hc1 x0 x1 x2 x3, rows_canon]
  simp only [View.readAt_eq_ld, harg2.read_unread, harg3.read_unread, harg4.read_unread, harg5.read_unread, harg7.read_unread, harg8.read_unread, ld_rows, ld_gain, ld_main, ld_few, ld_tail, norm_read]

theorem main_A (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : cond0_0 i) (hc1 : ¬cond0_1 i)
    (x0 : Vec F S1x2048 .f32) (x1 : Vec F S2048x2048 .f32) (x2 : Vec F S1x512x2048 .f32) (x3 : Vec F S1x64x2048 .f32) :
    out0_A_4 c i arg2 harg2 arg3 harg3 arg4 harg4 arg5 harg5 arg6 harg6 arg7 harg7 arg8 harg8 hc0 hc1 x0 x1 x2 x3 = k0_pay4 (k0_pay1 x1 x0) x2 := by
  unfold out0_A_4
  rw [View.read_writes_eq_canon _ _ _ (cover0_A_4 c i arg2 harg2 arg3 harg3 arg4 harg4 arg5 harg5 arg6 harg6 arg7 harg7 arg8 harg8 hc0 hc1 x0 x1 x2 x3), piecesM_A c i arg2 harg2 arg3 harg3 arg4 harg4 arg5 harg5 arg6 harg6 arg7 harg7 arg8 harg8 hc0 hc1 x0 x1 x2 x3, main_canon]
  simp only [View.readAt_eq_ld, harg2.read_unread, harg3.read_unread, harg4.read_unread, harg5.read_unread, harg7.read_unread, harg8.read_unread, ld_rows, ld_gain, ld_main, ld_few, ld_tail, norm_read]

theorem tail_A (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : cond0_0 i) (hc1 : ¬cond0_1 i)
    (x0 : Vec F S1x2048 .f32) (x1 : Vec F S2048x2048 .f32) (x2 : Vec F S1x512x2048 .f32) (x3 : Vec F S1x64x2048 .f32) :
    out0_A_5 c i arg2 harg2 arg3 harg3 arg4 harg4 arg5 harg5 arg6 harg6 arg7 harg7 arg8 harg8 hc0 hc1 x0 x1 x2 x3 = k0_pay2 (k0_pay1 x1 x0) x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3), piecesT_A c i arg2 harg2 arg3 harg3 arg4 harg4 arg5 harg5 arg6 harg6 arg7 harg7 arg8 harg8 hc0 hc1 x0 x1 x2 x3, tail_canon]
  simp only [View.readAt_eq_ld, harg2.read_unread, harg3.read_unread, harg4.read_unread, harg5.read_unread, harg7.read_unread, harg8.read_unread, ld_rows, ld_gain, ld_main, ld_few, ld_tail, norm_read]

theorem main_B (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : ¬cond0_0 i) (hc1 : cond0_1 i)
    (x0 : Vec F S1x2048 .f32) (x1 : Vec F S2048x2048 .f32) (x2 : Vec F S1x512x2048 .f32) (x3 : Vec F S1x64x2048 .f32) (xo5 : Vec F S2048x64 .f32) (xs0 : Vec F S2048x2048 .bf16) :
    out0_B_4 c i arg2 harg2 arg3 harg3 arg4 harg4 arg5 harg5 arg6 harg6 arg7 harg7 arg8 harg8 hc0 hc1 x0 x1 x2 x3 xo5 xs0 = k0_pay4 xs0 x2 := by
  unfold out0_B_4
  rw [View.read_writes_eq_canon _ _ _ (cover0_B_4 c i arg2 harg2 arg3 harg3 arg4 harg4 arg5 harg5 arg6 harg6 arg7 harg7 arg8 harg8 hc0 hc1 x0 x1 x2 x3 xo5 xs0), piecesM_B c i arg2 harg2 arg3 harg3 arg4 harg4 arg5 harg5 arg6 harg6 arg7 harg7 arg8 harg8 hc0 hc1 x0 x1 x2 x3 xo5 xs0, main_canon]
  simp only [View.readAt_eq_ld, harg2.read_unread, harg3.read_unread, harg4.read_unread, harg5.read_unread, harg7.read_unread, harg8.read_unread, ld_rows, ld_gain, ld_main, ld_few, ld_tail, norm_read]

theorem tail_B (c : Dev nD) (i : grid0.Coords) (arg2 : Memref sig .tc .vmem S1x2048 .f32) (harg2 : arg2.IsWhole) (arg3 : Memref sig .tc .vmem S2048x2048 .f32) (harg3 : arg3.IsWhole) (arg4 : Memref sig .tc .vmem S1x512x2048 .f32) (harg4 : arg4.IsWhole) (arg5 : Memref sig .tc .vmem S1x64x2048 .f32) (harg5 : arg5.IsWhole) (arg6 : Memref sig .tc .vmem S2048x512 .f32) (harg6 : arg6.IsWhole) (arg7 : Memref sig .tc .vmem S2048x64 .f32) (harg7 : arg7.IsWhole) (arg8 : Memref sig .tc .vmem S2048x2048 .bf16) (harg8 : arg8.IsWhole) (hc0 : ¬cond0_0 i) (hc1 : cond0_1 i)
    (x0 : Vec F S1x2048 .f32) (x1 : Vec F S2048x2048 .f32) (x2 : Vec F S1x512x2048 .f32) (x3 : Vec F S1x64x2048 .f32) (xo5 : Vec F S2048x64 .f32) (xs0 : Vec F S2048x2048 .bf16) :
    out0_B_5 c i arg2 harg2 arg3 harg3 arg4 harg4 arg5 harg5 arg6 harg6 arg7 harg7 arg8 harg8 hc0 hc1 x0 x1 x2 x3 xo5 xs0 = k0_pay3 xo5 := by
  unfold out0_B_5
  rw [View.read_writes_eq_canon _ _ _ (cover0_B_5 c i arg2 harg2 arg3 harg3 arg4 harg4 arg5 harg5 arg6 harg6 arg7 harg7 arg8 harg8 hc0 hc1 x0 x1 x2 x3 xo5 xs0), piecesT_B c i arg2 harg2 arg3 harg3 arg4 harg4 arg5 harg5 arg6 harg6 arg7 harg7 arg8 harg8 hc0 hc1 x0 x1 x2 x3 xo5 xs0, tail_canon]
  simp only [View.readAt_eq_ld, harg2.read_unread, harg3.read_unread, harg4.read_unread, harg5.read_unread, harg7.read_unread, harg8.read_unread, ld_rows, ld_gain, ld_main, ld_few, ld_tail, norm_read]

end Cert.GdnInIdeal.Proj

end
-- ==== Proof.GdnInRun.lean ====
/- The recurrent layer's input projection over the reals: the normalised rows against every column, block by block. -/
module

public import proofs.«01_k».proof.Proof.GdnInBlock
public import proofs.«01_k».proof.Proof.Rows
public import Idealize.ShloMosaic.Lib.StableHlo.ReadAt

@[expose] public section

set_option maxRecDepth 16384

noncomputable section

namespace Cert.GdnInIdeal.Proj

open Idealize.ShloMosaic Idealize.ShloMosaic.TcCoe Idealize.ShloMosaic.Pointwise Idealize.SL.Sem
open Cert.GdnInIdeal Cert.GdnInIdeal.Gen Cert.GdnInIdeal.Value Cert.Rows

variable (m : (ℓ : Loc nD τ sig) → Buf (Elt Ideal) ℓ)

theorem index_facts : ∀ t : Fin cfg0.N,
    (win0_0.index t 0 = 0 ∧ win0_0.index t 1 = 0)
    ∧ (win0_1.index t 0 = t.val / 24 ∧ win0_1.index t 1 = 0)
    ∧ (win0_2.index t 0 = 0 ∧ win0_2.index t 1 = t.val % 24 ∧ win0_2.index t 2 = 0)
    ∧ (win0_3.index t 0 = 0 ∧ win0_3.index t 1 = 192 ∧ win0_3.index t 2 = 0) :=
  (by decide +kernel : ∀ t : Fin grid0.N, _)

theorem lt96 (t : Fin cfg0.N) : t.val < 96 := t.isLt.trans_eq N_0

theorem V_gain (c : Dev nD) (k : Fin 2048) : V m c main_v3 (ix2 0 k) = m ((c : Thread nD τ).loc main_arg1) (ix2 0 k) := by
  unfold V
  after_reads_at

/-- The weight the region finds: the rows and columns of the layer's weight exchanged. -/
theorem V_weight (c : Dev nD) (l : Fin 2) (k : Fin 12352) (q : Fin 2048) :
    V m c main_v2 (ix3 l k q) = m ((c : Thread nD τ).loc main_arg2) (ix3 l q k) := by
  unfold V
  after_reads_at

/-- Row `r` of the point's row block, column `k` of its columns, column `k` of the last 64. -/
abbrev rowAt (t : Fin cfg0.N) (r : Fin 2048) : Fin 8192 := ⟨2048 * (t.val / 24) + r.val, by have := lt96 t; omega⟩
abbrev colAt (t : Fin cfg0.N) (k : Fin 512) : Fin 12352 := ⟨512 * (t.val % 24) + k.val, by omega⟩
abbrev lastCol (k : Fin 64) : Fin 12352 := ⟨12288 + k.val, by omega⟩

theorem blk0 (c : Dev nD) (t : Fin cfg0.N) (k : Fin 2048) :
    (iblk m c 0 t : Vec Ideal S1x2048 .f32) (ix2 0 k) = m ((c : Thread nD τ).loc main_arg1) (ix2 0 k) := by
  obtain ⟨⟨h0, h1⟩, -⟩ := index_facts t
  rw [← V_gain m c k]
  unfold iblk
  rw [View.read_apply]
  show V m c main_v3 _ = _
  congr 1
  funext a
  apply Fin.ext
  match a with
  | ⟨0, _⟩ => show win0_0.index t 0 * 1 + 1 * 0 = 0; rw [h0]
  | ⟨1, _⟩ => show win0_0.index t 1 * 2048 + 1 * k.val = k.val; rw [h1]; omega

theorem blk1 (c : Dev nD) (t : Fin cfg0.N) (r k : Fin 2048) :
    (iblk m c 1 t : Vec Ideal S2048x2048 .f32) (ix2 r k) = m ((c : Thread nD τ).loc main_arg0) (ix2 (rowAt t r) k) := by
  obtain ⟨-, ⟨h0, h1⟩, -⟩ := index_facts t
  unfold iblk
  rw [View.read_apply]
  show V m c main_arg0 _ = _
  rw [V_main_arg0]
  congr 1
  funext a
  apply Fin.ext
  match a with
  | ⟨0, _⟩ => show win0_1.index t 0 * 2048 + 1 * r.val = 2048 * (t.val / 24) + r.val; rw [h0]; omega
  | ⟨1, _⟩ => show win0_1.index t 1 * 2048 + 1 * k.val = k.val; rw [h1]; omega

theorem blk2 (c : Dev nD) (t : Fin cfg0.N) (k : Fin 512) (q : Fin 2048) :
    (X0_2 m c t : Vec Ideal S1x512x2048 .f32) (ix3 0 k q) = m ((c : Thread nD τ).loc main_arg2) (ix3 0 q (colAt t k)) := by
  obtain ⟨-, -, ⟨h0, h1, h2⟩, -⟩ := index_facts t
  rw [← V_weight m c 0 (colAt t k) q]
  unfold X0_2 Pipeline.Window.fill
  rw [dif_pos (moved0_2 t (ix3 0 k q : S1x512x2048.Idx))]
  unfold iblk
  rw [View.read_apply]
  show V m c main_v2 _ = _
  congr 1
  funext a
  apply Fin.ext
  match a with
  | ⟨0, _⟩ => show win0_2.index t 0 * 1 + 1 * 0 = 0; rw [h0]
  | ⟨1, _⟩ => show win0_2.index t 1 * 512 + 1 * k.val = 512 * (t.val % 24) + k.val; rw [h1]; omega
  | ⟨2, _⟩ => show win0_2.index t 2 * 2048 + 1 * q.val = q.val; rw [h2]; omega

theorem blk3 (c : Dev nD) (t : Fin cfg0.N) (k : Fin 64) (q : Fin 2048) :
    (iblk m c 3 t : Vec Ideal S1x64x2048 .f32) (ix3 0 k q) = m ((c : Thread nD τ).loc main_arg2) (ix3 0 q (lastCol k)) := by
  obtain ⟨-, -, -, h0, h1, h2⟩ := index_facts t
  rw [← V_weight m c 0 (lastCol k) q]
  unfold iblk
  rw [View.read_apply]
  show V m c main_v2 _ = _
  congr 1
  funext a
  apply Fin.ext
  match a with
  | ⟨0, _⟩ => show win0_3.index t 0 * 1 + 1 * 0 = 0; rw [h0]
  | ⟨1, _⟩ => show win0_3.index t 1 * 64 + 1 * k.val = 12288 + k.val; rw [h1]; omega
  | ⟨2, _⟩ => show win0_3.index t 2 * 2048 + 1 * q.val = q.val; rw [h2]; omega

/-- Row `r`, normalised. -/
def normedOf (d : Dev nD) (r : Fin 8192) : Fin 2048 → EReal :=
  fun k => rms (fun j => m ((d : Thread nD τ).loc main_arg0) (ix2 r j)) k (m ((d : Thread nD τ).loc main_arg1) (ix2 0 k))

/-- An entry of the projection: the normalised row against the weight's column. -/
def resultAt (d : Dev nD) (r : Fin 8192) (k : Fin 12352) : EReal :=
  dotOf (normedOf m d r) fun q => m ((d : Thread nD τ).loc main_arg2) (ix3 0 q k)

theorem pay1_apply (h : FVec Ideal S2048x2048 .f32) (g : FVec Ideal S1x2048 .f32) (r k : Fin 2048) :
    k0_pay1 (F := Ideal) h g (ix2 r k) = rms (fun j => h (ix2 r j)) k (g (ix2 0 k)) := by
  pointwise [k0_pay1, rms]

theorem pay2_apply (x : FVec Ideal S2048x2048 .bf16) (w : FVec Ideal S1x64x2048 .f32) (r : Fin 2048) (k : Fin 64) :
    k0_pay2 (F := Ideal) x w (ix2 r k) = dotOf (fun q => x (ix2 r q)) fun q => w (ix3 0 k q) := by
  pointwise [k0_pay2, dotOf]

theorem pay3_apply (x : FVec Ideal S2048x64 .f32) (r : Fin 2048) (k : Fin 64) : k0_pay3 (F := Ideal) x (ix2 r k) = x (ix2 r k) := by
  pointwise [k0_pay3]

theorem pay4_apply (x : FVec Ideal S2048x2048 .bf16) (w : FVec Ideal S1x512x2048 .f32) (r : Fin 2048) (k : Fin 512) :
    k0_pay4 (F := Ideal) x w (ix2 r k) = dotOf (fun q => x (ix2 r q)) fun q => w (ix3 0 k q) := by
  pointwise [k0_pay4, dotOf]

/-- A scratch holding the normalised rows of the point's row block. -/
def Normed (d : Dev nD) (t : Fin cfg0.N) (s : Vec Ideal S2048x2048 .bf16) : Prop :=
  ∀ r k : Fin 2048, s (ix2 r k) = normedOf m d (rowAt t r) k

/-- The two output blocks, holding the point's columns and the last 64, and the scratch. -/
def Holds (d : Dev nD) (t : Fin cfg0.N) (p : Vec Ideal S2048x512 .f32 × Vec Ideal S2048x64 .f32 × Vec Ideal S2048x2048 .bf16) : Prop :=
  (∀ (r : Fin 2048) (k : Fin 512), p.1 (ix2 r k) = resultAt m d (rowAt t r) (colAt t k))
    ∧ (∀ (r : Fin 2048) (k : Fin 64), p.2.1 (ix2 r k) = resultAt m d (rowAt t r) (lastCol k)) ∧ Normed m d t p.2.2

theorem normed_first (d : Dev nD) (t : Fin cfg0.N) : Normed m d t (k0_pay1 (F := Ideal) (iblk m d 1 t) (iblk m d 0 t)) := by
  intro r k
  refine (pay1_apply _ _ r k).trans ?_
  exact congrArg₂ (fun (x : Fin 2048 → EReal) (g : EReal) => rms x k g) (funext fun j => blk1 m d t r j) (blk0 m d t k)

theorem main_step (d : Dev nD) (t : Fin cfg0.N) (s : Vec Ideal S2048x2048 .bf16) (hs : Normed m d t s) (r : Fin 2048) (k : Fin 512) :
    k0_pay4 (F := Ideal) s (X0_2 m d t) (ix2 r k) = resultAt m d (rowAt t r) (colAt t k) :=
  (pay4_apply s _ r k).trans (congrArg₂ dotOf (funext fun q => hs r q) (funext fun q => blk2 m d t k q))

theorem tail_first (d : Dev nD) (t : Fin cfg0.N) (s : Vec Ideal S2048x2048 .bf16) (hs : Normed m d t s) (r : Fin 2048) (k : Fin 64) :
    k0_pay2 (F := Ideal) s (iblk m d 3 t) (ix2 r k) = resultAt m d (rowAt t r) (lastCol k) :=
  (pay2_apply s _ r k).trans (congrArg₂ dotOf (funext fun q => hs r q) (funext fun q => blk3 m d t k q))

theorem holds_first (d : Dev nD) (t : Fin cfg0.N) (p : Vec Ideal S2048x512 .f32 × Vec Ideal S2048x64 .f32 × Vec Ideal S2048x2048 .bf16)
    (h0 : t.val % 24 = 0) : Holds m d t (stAt0 m d t.val t.isLt p) := by
  have h1 : ¬ 1 ≤ t.val % 24 := by omega
  rw [stAt0_A m d t p h0 h1, main_A, tail_A, rows_A]
  have hn := normed_first m d t
  exact ⟨main_step m d t _ hn, tail_first m d t _ hn, hn⟩

theorem holds_next (d : Dev nD) (t : Fin cfg0.N) (p : Vec Ideal S2048x512 .f32 × Vec Ideal S2048x64 .f32 × Vec Ideal S2048x2048 .bf16)
    (h0 : ¬ t.val % 24 = 0) (ht : ∀ (r : Fin 2048) (k : Fin 64), p.2.1 (ix2 r k) = resultAt m d (rowAt t r) (lastCol k))
    (hn : Normed m d t p.2.2) : Holds m d t (stAt0 m d t.val t.isLt p) := by
  have h1 : 1 ≤ t.val % 24 := by omega
  rw [stAt0_B m d t p h0 h1, main_B, tail_B]
  exact ⟨main_step m d t _ hn, fun r k => (pay3_apply _ r k).trans (ht r k), hn⟩

theorem holds (d : Dev nD) : ∀ (n : ℕ) (h : n < cfg0.N), Holds m d ⟨n, h⟩ (outsAt0 m d n h)
  | 0, h => by
    rw [outsAt0_zero]
    exact holds_first m d ⟨0, h⟩ _ (Nat.zero_mod _)
  | n + 1, h => by
    rw [outsAt0_succ]
    by_cases h0 : (n + 1) % 24 = 0
    · exact holds_first m d ⟨n + 1, h⟩ _ h0
    · obtain ⟨-, ht, hn⟩ := holds d n (Nat.lt_of_succ_lt h)
      have hrow : ∀ r, rowAt ⟨n, Nat.lt_of_succ_lt h⟩ r = rowAt ⟨n + 1, h⟩ r := fun r =>
        Fin.ext (by show 2048 * (n / 24) + r.val = 2048 * ((n + 1) / 24) + r.val; omega)
      exact holds_next m d ⟨n + 1, h⟩ _ h0 (fun r k => (ht r k).trans (by rw [hrow])) (fun r k => (hn r k).trans (by rw [hrow]))

/-- The first result read: the first 12288 columns. -/
theorem main_apply (d : Dev nD) (i : S8192x12288.Idx) : G4 m d i = resultAt m d (i 0) ⟨(i 1).val, (i 1).isLt.trans (by decide)⟩ := by
  have hi0 : (i 0).val < 8192 := (i 0).isLt
  have hi1 : (i 1).val < 12288 := (i 1).isLt
  have hp : pt4Of i = 24 * ((i 0).val / 2048) + (i 1).val / 512 := by
    show 24 * ((i 0).val / 2048 - 0) + 1 * ((i 1).val / 512 - 0) = _
    omega
  have hN : cfg0.N = 96 := N_0
  have hlt : 24 * ((i 0).val / 2048) + (i 1).val / 512 < cfg0.N := by omega
  unfold G4
  rw [dif_pos (by rw [hp]; exact hlt), fold0_congr m d (pt4Of i) _ (24 * ((i 0).val / 2048) + (i 1).val / 512) (by omega) hp,
    ← outsAt0_sweep m d (24 * ((i 0).val / 2048) + (i 1).val / 512) hlt]
  obtain ⟨hm, -⟩ := holds m d _ hlt
  have hl : loc4Of i = ix2 ⟨(i 0).val % 2048, Nat.mod_lt _ (by decide)⟩ ⟨(i 1).val % 512, Nat.mod_lt _ (by decide)⟩ := by
    funext a
    apply Fin.ext
    match a with
    | ⟨0, _⟩ => rfl
    | ⟨1, _⟩ => rfl
  rw [hl]
  refine (hm _ _).trans (congrArg₂ (resultAt m d) (Fin.ext ?_) (Fin.ext ?_))
  · show 2048 * ((24 * ((i 0).val / 2048) + (i 1).val / 512) / 24) + (i 0).val % 2048 = (i 0).val
    omega
  · show 512 * ((24 * ((i 0).val / 2048) + (i 1).val / 512) % 24) + (i 1).val % 512 = (i 1).val
    omega

/-- The second result read: the last 64 columns. -/
theorem tail_apply (d : Dev nD) (i : S8192x64.Idx) : G5 m d i = resultAt m d (i 0) (lastCol (i 1)) := by
  have hi0 : (i 0).val < 8192 := (i 0).isLt
  have hi1 : (i 1).val < 64 := (i 1).isLt
  have hp : pt5Of i = 24 * ((i 0).val / 2048) + 23 := by
    show 24 * (1 * ((i 0).val / 2048 - 0) + 1 * ((i 1).val / 64 - 0)) + 23 = _
    omega
  have hN : cfg0.N = 96 := N_0
  have hlt : 24 * ((i 0).val / 2048) + 23 < cfg0.N := by omega
  unfold G5
  rw [dif_pos (by rw [hp]; exact hlt), fold0_congr m d (pt5Of i) _ (24 * ((i 0).val / 2048) + 23) (by omega) hp,
    ← outsAt0_sweep m d (24 * ((i 0).val / 2048) + 23) hlt]
  obtain ⟨-, ht, -⟩ := holds m d _ hlt
  have hl : loc5Of i = ix2 ⟨(i 0).val % 2048, Nat.mod_lt _ (by decide)⟩ (i 1) := by
    funext a
    apply Fin.ext
    match a with
    | ⟨0, _⟩ => rfl
    | ⟨1, _⟩ => show (i 1).val % 64 = (i 1).val; omega
  rw [hl]
  refine (ht _ _).trans (congrArg (fun r => resultAt m d r (lastCol (i 1))) (Fin.ext ?_))
  show 2048 * ((24 * ((i 0).val / 2048) + 23) / 24) + (i 0).val % 2048 = (i 0).val
  omega

end Cert.GdnInIdeal.Proj

end
-- ==== Proof.GdnInRef.lean ====
/- The reference's two results over the reals, entry by entry: the same normalised rows against the same columns. -/
module

public import proofs.«01_k».proof.Proof.Gen.GdnInReferenceIdeal.Run
public import proofs.«01_k».proof.Proof.Rows

@[expose] public section

set_option maxRecDepth 16384

noncomputable section

namespace Cert.GdnInReferenceIdeal.Proj

open Idealize.ShloMosaic Idealize.ShloMosaic.TcCoe Idealize.ShloMosaic.Pointwise Idealize.SL.Sem
open Cert.GdnInReferenceIdeal Cert.GdnInReferenceIdeal.Gen Cert.GdnInReferenceIdeal.Value Cert.Rows

variable (m : (ℓ : Loc nD τ sig) → Buf (Elt Ideal) ℓ)

def normedOf (d : Dev nD) (r : Fin 8192) : Fin 2048 → EReal :=
  fun k => rms (fun j => m ((d : Thread nD τ).loc main_arg0) (ix2 r j)) k (m ((d : Thread nD τ).loc main_arg1) (ix2 0 k))

def resultAt (d : Dev nD) (r : Fin 8192) (k : Fin 12352) : EReal :=
  dotOf (normedOf m d r) fun q => m ((d : Thread nD τ).loc main_arg2) (ix3 0 q k)

/-- The reference's run, its results read entry by entry. -/
theorem run_at (ρ : Dev nD → PrngReg) : θ_run defs (onTc (τ := τ) (main (F := Ideal))) ⟨m, fun _ => 0, ρ⟩ fun s => ∀ c : Dev nD,
      (∀ (r : Fin 8192) (k : Fin 12288), s.2.mem ((c : Thread nD τ).loc main_v18) (ix2 r k) = resultAt m c r ⟨k.val, by omega⟩)
        ∧ (∀ (r : Fin 8192) (k : Fin 64), s.2.mem ((c : Thread nD τ).loc main_v19) (ix2 r k) = resultAt m c r ⟨12288 + k.val, by omega⟩)
        ∧ s.2.mem ((c : Thread nD τ).loc main_arg0) = m ((c : Thread nD τ).loc main_arg0)
        ∧ s.2.mem ((c : Thread nD τ).loc main_arg1) = m ((c : Thread nD τ).loc main_arg1)
        ∧ s.2.mem ((c : Thread nD τ).loc main_arg2) = m ((c : Thread nD τ).loc main_arg2) := by
  refine (θ_run defs _ _).mono (fun _ h c => ⟨fun r k => (congrFun (h c).1 _).trans ?_, fun r k => (congrFun (h c).2.1 _).trans ?_,
    (h c).2.2⟩) (Value.run (F := Ideal) m ρ)
  · pointwise [resultAt, normedOf, dotOf, rms]
  · pointwise [resultAt, normedOf, dotOf, rms]

end Cert.GdnInReferenceIdeal.Proj

end
-- ==== Proof.GdnOutRun.lean ====
/- The recurrent layer's output projection: the gated heads against the weight, added to the residual.
   Each of the 16 grid points writes one block of the result, and no other point writes there. -/
module

public import proofs.«01_k».proof.Proof.Gen.GdnOutIdeal.Value
public import proofs.«01_k».proof.Proof.Rows
public import Idealize.ShloMosaic.Lib.StableHlo.ReadAt

@[expose] public section

set_option maxRecDepth 16384

noncomputable section

namespace Cert.GdnOutIdeal.Proj

open Idealize.ShloMosaic Idealize.ShloMosaic.TcCoe Idealize.ShloMosaic.Pointwise Idealize.SL.Sem
open Cert.GdnOutIdeal Cert.GdnOutIdeal.Gen Cert.GdnOutIdeal.Value Cert.Rows

variable (m : (ℓ : Loc nD τ sig) → Buf (Elt Ideal) ℓ)

theorem index_facts : ∀ t : Fin cfg0.N,
    (win0_0.index t 0 = t.val / 2 ∧ win0_0.index t 1 = 0)
    ∧ (win0_1.index t 0 = 0 ∧ win0_1.index t 1 = 0 ∧ win0_1.index t 2 = t.val % 2)
    ∧ (win0_2.index t 0 = t.val / 2 ∧ win0_2.index t 1 = t.val % 2)
    ∧ (win0_3.index t 0 = t.val / 2 ∧ win0_3.index t 1 = t.val % 2) :=
  (by decide +kernel : ∀ t : Fin grid0.N, _)

theorem lt_points (t : Fin cfg0.N) : t.val < 16 := t.isLt.trans_eq N_0

theorem V_weight (c : Dev nD) (l : Fin 2) (q : Fin 4096) (k : Fin 2048) :
    V m c main_v0 (ix3 l q k) = m ((c : Thread nD τ).loc main_arg1) (ix3 l q k) := by
  unfold V
  after_reads_at

/-- Row `r` of the point's rows, column `k` of its columns. -/
abbrev rowAt (t : Fin cfg0.N) (r : Fin 1024) : Fin 8192 := ⟨1024 * (t.val / 2) + r.val, by have := lt_points t; omega⟩
abbrev colAt (t : Fin cfg0.N) (k : Fin 1024) : Fin 2048 := ⟨1024 * (t.val % 2) + k.val, by omega⟩

theorem blk0 (c : Dev nD) (t : Fin cfg0.N) (r : Fin 1024) (q : Fin 4096) :
    (iblk m c 0 t : Vec Ideal S1024x4096 .bf16) (ix2 r q) = m ((c : Thread nD τ).loc main_arg0) (ix2 (rowAt t r) q) := by
  obtain ⟨⟨h0, h1⟩, -⟩ := index_facts t
  unfold iblk
  rw [View.read_apply]
  show V m c main_arg0 _ = _
  rw [V_main_arg0]
  congr 1
  funext a
  apply Fin.ext
  match a with
  | ⟨0, _⟩ => show win0_0.index t 0 * 1024 + 1 * r.val = 1024 * (t.val / 2) + r.val; rw [h0]; omega
  | ⟨1, _⟩ => show win0_0.index t 1 * 4096 + 1 * q.val = q.val; rw [h1]; omega

theorem blk1 (c : Dev nD) (t : Fin cfg0.N) (q : Fin 4096) (k : Fin 1024) :
    (iblk m c 1 t : Vec Ideal S1x4096x1024 .bf16) (ix3 0 q k) = m ((c : Thread nD τ).loc main_arg1) (ix3 0 q (colAt t k)) := by
  obtain ⟨-, ⟨h0, h1, h2⟩, -⟩ := index_facts t
  rw [← V_weight m c 0 q (colAt t k)]
  unfold iblk
  rw [View.read_apply]
  show V m c main_v0 _ = _
  congr 1
  funext a
  apply Fin.ext
  match a with
  | ⟨0, _⟩ => show win0_1.index t 0 * 1 + 1 * 0 = 0; rw [h0]
  | ⟨1, _⟩ => show win0_1.index t 1 * 4096 + 1 * q.val = q.val; rw [h1]; omega
  | ⟨2, _⟩ => show win0_1.index t 2 * 1024 + 1 * k.val = 1024 * (t.val % 2) + k.val; rw [h2]; omega

theorem blk2 (c : Dev nD) (t : Fin cfg0.N) (r : Fin 1024) (k : Fin 1024) :
    (iblk m c 2 t : Vec Ideal S1024x1024 .f32) (ix2 r k) = m ((c : Thread nD τ).loc main_arg2) (ix2 (rowAt t r) (colAt t k)) := by
  obtain ⟨-, -, ⟨h0, h1⟩, -⟩ := index_facts t
  unfold iblk
  rw [View.read_apply]
  show V m c main_arg2 _ = _
  rw [V_main_arg2]
  congr 1
  funext a
  apply Fin.ext
  match a with
  | ⟨0, _⟩ => show win0_2.index t 0 * 1024 + 1 * r.val = 1024 * (t.val / 2) + r.val; rw [h0]; omega
  | ⟨1, _⟩ => show win0_2.index t 1 * 1024 + 1 * k.val = 1024 * (t.val % 2) + k.val; rw [h1]; omega

/-- An entry of the result: the residual's and the row against the weight's column. -/
def resultAt (d : Dev nD) (r : Fin 8192) (k : Fin 2048) : EReal :=
  plusDot (m ((d : Thread nD τ).loc main_arg2) (ix2 r k)) (fun q : Fin 4096 => m ((d : Thread nD τ).loc main_arg0) (ix2 r q))
    (fun q => m ((d : Thread nD τ).loc main_arg1) (ix3 0 q k))

theorem pay1_apply (h : FVec Ideal S1024x1024 .f32) (x : FVec Ideal S1024x4096 .bf16) (w : FVec Ideal S1x4096x1024 .bf16) (r : Fin 1024) (k : Fin 1024) :
    k0_pay1 (F := Ideal) h x w (ix2 r k) = plusDot (h (ix2 r k)) (fun q => x (ix2 r q)) fun q => w (ix3 0 q k) := by
  pointwise [k0_pay1, plusDot]

theorem hz2 : (![0, 0] : Fin 2 → ℕ) = fun _ => 0 := by funext a; fin_cases a <;> rfl
theorem hz3 : (![0, 0, 0] : Fin 3 → ℕ) = fun _ => 0 := by funext a; fin_cases a <;> rfl

theorem ld_res (X : Vec Ideal S1024x1024 .f32) : View.ld X r0_0 = X := View.ld_unit_zero hz2 _ _
theorem ld_x (X : Vec Ideal S1024x4096 .bf16) : View.ld X r0_1 = X := View.ld_unit_zero hz2 _ _
theorem ld_w (X : Vec Ideal S1x4096x1024 .bf16) : View.ld X r0_2 = X := View.ld_unit_zero hz3 _ _

/-- What a point leaves in its block. -/
theorem out_apply (d : Dev nD) (t : Fin cfg0.N) (r : Fin 1024) (k : Fin 1024) :
    out0_3 (F := Ideal) (iblk m d 0 t) (iblk m d 1 t) (iblk m d 2 t) (ix2 r k) = resultAt m d (rowAt t r) (colAt t k) := by
  unfold out0_3
  rw [View.canon_unit_zero hz2]
  refine (pay1_apply _ _ _ r k).trans ?_
  unfold resultAt plusDot
  exact congrArg₂ (fun a b : EReal => a + b) ((congrFun (ld_res _) _).trans (blk2 m d t r k))
    (Finset.sum_congr rfl fun q _ => congrArg₂ (fun a b : EReal => a * b) ((congrFun (ld_x _) _).trans (blk0 m d t r q)) ((congrFun (ld_w _) _).trans (blk1 m d t q k)))

theorem result_apply (d : Dev nD) (i : S8192x2048.Idx) : (dats m 0 d).arrAt 3 cfg0.N i = resultAt m d (i 0) (i 1) := by
  have hi0 : (i 0).val < 8192 := (i 0).isLt
  have hi1 : (i 1).val < 2048 := (i 1).isLt
  have hN : cfg0.N = 16 := N_0
  obtain ⟨t, ht⟩ : ∃ t : Fin cfg0.N, t.val = 2 * ((i 0).val / 1024) + (i 1).val / 1024 := ⟨⟨2 * ((i 0).val / 1024) + (i 1).val / 1024, by omega⟩, rfl⟩
  have hq : t.val / 2 = (i 0).val / 1024 := by omega
  have hr : t.val % 2 = (i 1).val / 1024 := by omega
  obtain ⟨-, -, -, h0, h1⟩ := index_facts t
  have e : ((cfg0.win 3).blk t).view.emb (ix2 ⟨(i 0).val % 1024, Nat.mod_lt _ (by decide)⟩ ⟨(i 1).val % 1024, Nat.mod_lt _ (by decide)⟩ : S1024x1024.Idx) = i := by
    funext a
    apply Fin.ext
    match a with
    | ⟨0, _⟩ => show win0_3.index t 0 * 1024 + 1 * ((i 0).val % 1024) = (i 0).val; rw [h0, hq]; omega
    | ⟨1, _⟩ => show win0_3.index t 1 * 1024 + 1 * ((i 1).val % 1024) = (i 1).val; rw [h1, hr]; omega
  have hb := congrFun (blocks3 m d t (flush0_3 t)) (ix2 ⟨(i 0).val % 1024, Nat.mod_lt _ (by decide)⟩ ⟨(i 1).val % 1024, Nat.mod_lt _ (by decide)⟩ : S1024x1024.Idx)
  rw [View.read_apply, e, flushed3] at hb
  refine hb.trans ((out_apply m d t _ _).trans ?_)
  exact congrArg₂ (resultAt m d) (Fin.ext (by show 1024 * (t.val / 2) + (i 0).val % 1024 = (i 0).val; rw [hq]; omega))
    (Fin.ext (by show 1024 * (t.val % 2) + (i 1).val % 1024 = (i 1).val; rw [hr]; omega))

end Cert.GdnOutIdeal.Proj

end
-- ==== Proof.GdnOutRef.lean ====
/- The reference's result over the reals, entry by entry. -/
module

public import proofs.«01_k».proof.Proof.Gen.GdnOutReferenceIdeal.Run
public import proofs.«01_k».proof.Proof.Rows

@[expose] public section

set_option maxRecDepth 16384

noncomputable section

namespace Cert.GdnOutReferenceIdeal.Proj

open Idealize.ShloMosaic Idealize.ShloMosaic.TcCoe Idealize.ShloMosaic.Pointwise Idealize.SL.Sem
open Cert.GdnOutReferenceIdeal Cert.GdnOutReferenceIdeal.Gen Cert.GdnOutReferenceIdeal.Value Cert.Rows

variable (m : (ℓ : Loc nD τ sig) → Buf (Elt Ideal) ℓ)

def resultAt (d : Dev nD) (r : Fin 8192) (k : Fin 2048) : EReal :=
  plusDot (m ((d : Thread nD τ).loc main_arg2) (ix2 r k)) (fun q : Fin 4096 => m ((d : Thread nD τ).loc main_arg0) (ix2 r q))
    (fun q => m ((d : Thread nD τ).loc main_arg1) (ix3 0 q k))

/-- The reference's run, its result read entry by entry. -/
theorem run_at (ρ : Dev nD → PrngReg) : θ_run defs (onTc (τ := τ) (main (F := Ideal))) ⟨m, fun _ => 0, ρ⟩ fun s => ∀ c : Dev nD,
      (∀ (r : Fin 8192) (k : Fin 2048), s.2.mem ((c : Thread nD τ).loc main_v4) (ix2 r k) = resultAt m c r k)
        ∧ s.2.mem ((c : Thread nD τ).loc main_arg0) = m ((c : Thread nD τ).loc main_arg0)
        ∧ s.2.mem ((c : Thread nD τ).loc main_arg1) = m ((c : Thread nD τ).loc main_arg1)
        ∧ s.2.mem ((c : Thread nD τ).loc main_arg2) = m ((c : Thread nD τ).loc main_arg2) := by
  refine (θ_run defs _ _).mono (fun _ h c => ⟨fun r k => (congrFun (h c).1 _).trans ?_, (h c).2⟩) (Value.run (F := Ideal) m ρ)
  pointwise [resultAt, plusDot]

end Cert.GdnOutReferenceIdeal.Proj

end
-- ==== Proof.MobaOutRun.lean ====
/- The attention layer's output projection: the attended heads against the weight, added to the residual.
   Each of the 16 grid points writes one block of the result, and no other point writes there. -/
module

public import proofs.«01_k».proof.Proof.Gen.MobaOutIdeal.Value
public import proofs.«01_k».proof.Proof.Rows
public import Idealize.ShloMosaic.Lib.StableHlo.ReadAt

@[expose] public section

set_option maxRecDepth 16384

noncomputable section

namespace Cert.MobaOutIdeal.Proj

open Idealize.ShloMosaic Idealize.ShloMosaic.TcCoe Idealize.ShloMosaic.Pointwise Idealize.SL.Sem
open Cert.MobaOutIdeal Cert.MobaOutIdeal.Gen Cert.MobaOutIdeal.Value Cert.Rows

variable (m : (ℓ : Loc nD τ sig) → Buf (Elt Ideal) ℓ)

theorem index_facts : ∀ t : Fin cfg0.N,
    (win0_0.index t 0 = t.val / 4 ∧ win0_0.index t 1 = 0)
    ∧ (win0_1.index t 0 = 0 ∧ win0_1.index t 1 = 0 ∧ win0_1.index t 2 = t.val % 4)
    ∧ (win0_2.index t 0 = t.val / 4 ∧ win0_2.index t 1 = t.val % 4)
    ∧ (win0_3.index t 0 = t.val / 4 ∧ win0_3.index t 1 = t.val % 4) :=
  (by decide +kernel : ∀ t : Fin grid0.N, _)

theorem lt_points (t : Fin cfg0.N) : t.val < 16 := t.isLt.trans_eq N_0

theorem V_weight (c : Dev nD) (l : Fin 2) (q : Fin 2048) (k : Fin 2048) :
    V m c main_v0 (ix3 l q k) = m ((c : Thread nD τ).loc main_arg1) (ix3 l q k) := by
  unfold V
  after_reads_at

/-- Row `r` of the point's rows, column `k` of its columns. -/
abbrev rowAt (t : Fin cfg0.N) (r : Fin 2048) : Fin 8192 := ⟨2048 * (t.val / 4) + r.val, by have := lt_points t; omega⟩
abbrev colAt (t : Fin cfg0.N) (k : Fin 512) : Fin 2048 := ⟨512 * (t.val % 4) + k.val, by omega⟩

theorem blk0 (c : Dev nD) (t : Fin cfg0.N) (r : Fin 2048) (q : Fin 2048) :
    (iblk m c 0 t : Vec Ideal S2048x2048 .bf16) (ix2 r q) = m ((c : Thread nD τ).loc main_arg0) (ix2 (rowAt t r) q) := by
  obtain ⟨⟨h0, h1⟩, -⟩ := index_facts t
  unfold iblk
  rw [View.read_apply]
  show V m c main_arg0 _ = _
  rw [V_main_arg0]
  congr 1
  funext a
  apply Fin.ext
  match a with
  | ⟨0, _⟩ => show win0_0.index t 0 * 2048 + 1 * r.val = 2048 * (t.val / 4) + r.val; rw [h0]; omega
  | ⟨1, _⟩ => show win0_0.index t 1 * 2048 + 1 * q.val = q.val; rw [h1]; omega

theorem blk1 (c : Dev nD) (t : Fin cfg0.N) (q : Fin 2048) (k : Fin 512) :
    (iblk m c 1 t : Vec Ideal S1x2048x512 .bf16) (ix3 0 q k) = m ((c : Thread nD τ).loc main_arg1) (ix3 0 q (colAt t k)) := by
  obtain ⟨-, ⟨h0, h1, h2⟩, -⟩ := index_facts t
  rw [← V_weight m c 0 q (colAt t k)]
  unfold iblk
  rw [View.read_apply]
  show V m c main_v0 _ = _
  congr 1
  funext a
  apply Fin.ext
  match a with
  | ⟨0, _⟩ => show win0_1.index t 0 * 1 + 1 * 0 = 0; rw [h0]
  | ⟨1, _⟩ => show win0_1.index t 1 * 2048 + 1 * q.val = q.val; rw [h1]; omega
  | ⟨2, _⟩ => show win0_1.index t 2 * 512 + 1 * k.val = 512 * (t.val % 4) + k.val; rw [h2]; omega

theorem blk2 (c : Dev nD) (t : Fin cfg0.N) (r : Fin 2048) (k : Fin 512) :
    (iblk m c 2 t : Vec Ideal S2048x512 .f32) (ix2 r k) = m ((c : Thread nD τ).loc main_arg2) (ix2 (rowAt t r) (colAt t k)) := by
  obtain ⟨-, -, ⟨h0, h1⟩, -⟩ := index_facts t
  unfold iblk
  rw [View.read_apply]
  show V m c main_arg2 _ = _
  rw [V_main_arg2]
  congr 1
  funext a
  apply Fin.ext
  match a with
  | ⟨0, _⟩ => show win0_2.index t 0 * 2048 + 1 * r.val = 2048 * (t.val / 4) + r.val; rw [h0]; omega
  | ⟨1, _⟩ => show win0_2.index t 1 * 512 + 1 * k.val = 512 * (t.val % 4) + k.val; rw [h1]; omega

/-- An entry of the result: the residual's and the row against the weight's column. -/
def resultAt (d : Dev nD) (r : Fin 8192) (k : Fin 2048) : EReal :=
  plusDot (m ((d : Thread nD τ).loc main_arg2) (ix2 r k)) (fun q : Fin 2048 => m ((d : Thread nD τ).loc main_arg0) (ix2 r q))
    (fun q => m ((d : Thread nD τ).loc main_arg1) (ix3 0 q k))

theorem pay1_apply (h : FVec Ideal S2048x512 .f32) (x : FVec Ideal S2048x2048 .bf16) (w : FVec Ideal S1x2048x512 .bf16) (r : Fin 2048) (k : Fin 512) :
    k0_pay1 (F := Ideal) h x w (ix2 r k) = plusDot (h (ix2 r k)) (fun q => x (ix2 r q)) fun q => w (ix3 0 q k) := by
  pointwise [k0_pay1, plusDot]

theorem hz2 : (![0, 0] : Fin 2 → ℕ) = fun _ => 0 := by funext a; fin_cases a <;> rfl
theorem hz3 : (![0, 0, 0] : Fin 3 → ℕ) = fun _ => 0 := by funext a; fin_cases a <;> rfl

theorem ld_res (X : Vec Ideal S2048x512 .f32) : View.ld X r0_0 = X := View.ld_unit_zero hz2 _ _
theorem ld_x (X : Vec Ideal S2048x2048 .bf16) : View.ld X r0_1 = X := View.ld_unit_zero hz2 _ _
theorem ld_w (X : Vec Ideal S1x2048x512 .bf16) : View.ld X r0_2 = X := View.ld_unit_zero hz3 _ _

/-- What a point leaves in its block. -/
theorem out_apply (d : Dev nD) (t : Fin cfg0.N) (r : Fin 2048) (k : Fin 512) :
    out0_3 (F := Ideal) (iblk m d 0 t) (iblk m d 1 t) (iblk m d 2 t) (ix2 r k) = resultAt m d (rowAt t r) (colAt t k) := by
  unfold out0_3
  rw [View.canon_unit_zero hz2]
  refine (pay1_apply _ _ _ r k).trans ?_
  unfold resultAt plusDot
  exact congrArg₂ (fun a b : EReal => a + b) ((congrFun (ld_res _) _).trans (blk2 m d t r k))
    (Finset.sum_congr rfl fun q _ => congrArg₂ (fun a b : EReal => a * b) ((congrFun (ld_x _) _).trans (blk0 m d t r q)) ((congrFun (ld_w _) _).trans (blk1 m d t q k)))

theorem result_apply (d : Dev nD) (i : S8192x2048.Idx) : (dats m 0 d).arrAt 3 cfg0.N i = resultAt m d (i 0) (i 1) := by
  have hi0 : (i 0).val < 8192 := (i 0).isLt
  have hi1 : (i 1).val < 2048 := (i 1).isLt
  have hN : cfg0.N = 16 := N_0
  obtain ⟨t, ht⟩ : ∃ t : Fin cfg0.N, t.val = 4 * ((i 0).val / 2048) + (i 1).val / 512 := ⟨⟨4 * ((i 0).val / 2048) + (i 1).val / 512, by omega⟩, rfl⟩
  have hq : t.val / 4 = (i 0).val / 2048 := by omega
  have hr : t.val % 4 = (i 1).val / 512 := by omega
  obtain ⟨-, -, -, h0, h1⟩ := index_facts t
  have e : ((cfg0.win 3).blk t).view.emb (ix2 ⟨(i 0).val % 2048, Nat.mod_lt _ (by decide)⟩ ⟨(i 1).val % 512, Nat.mod_lt _ (by decide)⟩ : S2048x512.Idx) = i := by
    funext a
    apply Fin.ext
    match a with
    | ⟨0, _⟩ => show win0_3.index t 0 * 2048 + 1 * ((i 0).val % 2048) = (i 0).val; rw [h0, hq]; omega
    | ⟨1, _⟩ => show win0_3.index t 1 * 512 + 1 * ((i 1).val % 512) = (i 1).val; rw [h1, hr]; omega
  have hb := congrFun (blocks3 m d t (flush0_3 t)) (ix2 ⟨(i 0).val % 2048, Nat.mod_lt _ (by decide)⟩ ⟨(i 1).val % 512, Nat.mod_lt _ (by decide)⟩ : S2048x512.Idx)
  rw [View.read_apply, e, flushed3] at hb
  refine hb.trans ((out_apply m d t _ _).trans ?_)
  exact congrArg₂ (resultAt m d) (Fin.ext (by show 2048 * (t.val / 4) + (i 0).val % 2048 = (i 0).val; rw [hq]; omega))
    (Fin.ext (by show 512 * (t.val % 4) + (i 1).val % 512 = (i 1).val; rw [hr]; omega))

end Cert.MobaOutIdeal.Proj

end
-- ==== Proof.MobaOutRef.lean ====
/- The reference's result over the reals, entry by entry. -/
module

public import proofs.«01_k».proof.Proof.Gen.MobaOutReferenceIdeal.Run
public import proofs.«01_k».proof.Proof.Rows

@[expose] public section

set_option maxRecDepth 16384

noncomputable section

namespace Cert.MobaOutReferenceIdeal.Proj

open Idealize.ShloMosaic Idealize.ShloMosaic.TcCoe Idealize.ShloMosaic.Pointwise Idealize.SL.Sem
open Cert.MobaOutReferenceIdeal Cert.MobaOutReferenceIdeal.Gen Cert.MobaOutReferenceIdeal.Value Cert.Rows

variable (m : (ℓ : Loc nD τ sig) → Buf (Elt Ideal) ℓ)

def resultAt (d : Dev nD) (r : Fin 8192) (k : Fin 2048) : EReal :=
  plusDot (m ((d : Thread nD τ).loc main_arg2) (ix2 r k)) (fun q : Fin 2048 => m ((d : Thread nD τ).loc main_arg0) (ix2 r q))
    (fun q => m ((d : Thread nD τ).loc main_arg1) (ix3 0 q k))

/-- The reference's run, its result read entry by entry. -/
theorem run_at (ρ : Dev nD → PrngReg) : θ_run defs (onTc (τ := τ) (main (F := Ideal))) ⟨m, fun _ => 0, ρ⟩ fun s => ∀ c : Dev nD,
      (∀ (r : Fin 8192) (k : Fin 2048), s.2.mem ((c : Thread nD τ).loc main_v4) (ix2 r k) = resultAt m c r k)
        ∧ s.2.mem ((c : Thread nD τ).loc main_arg0) = m ((c : Thread nD τ).loc main_arg0)
        ∧ s.2.mem ((c : Thread nD τ).loc main_arg1) = m ((c : Thread nD τ).loc main_arg1)
        ∧ s.2.mem ((c : Thread nD τ).loc main_arg2) = m ((c : Thread nD τ).loc main_arg2) := by
  refine (θ_run defs _ _).mono (fun _ h c => ⟨fun r k => (congrFun (h c).1 _).trans ?_, (h c).2⟩) (Value.run (F := Ideal) m ρ)
  pointwise [resultAt, plusDot]

end Cert.MobaOutReferenceIdeal.Proj

end
-- ==== Proof.SharedKvRun.lean ====
/- MoBA's shared keys, values and block means: every grid point normalises its 1024 rows, multiplies them with both halves of the
   weight and averages the keys over its four blocks of 256 rows. Each point writes one block of each result. -/
module

public import proofs.«01_k».proof.Proof.Gen.SharedKvIdeal.Value
public import proofs.«01_k».proof.Proof.Rows
public import Idealize.ShloMosaic.Lib.StableHlo.ReadAt
public import Idealize.ShloMosaic.Lib.Pointwise

@[expose] public section

set_option maxRecDepth 16384

noncomputable section

namespace Cert.SharedKvIdeal.Shared

open Idealize.ShloMosaic Idealize.ShloMosaic.TcCoe Idealize.ShloMosaic.Pointwise Idealize.SL.Sem
open Cert.SharedKvIdeal Cert.SharedKvIdeal.Gen Cert.SharedKvIdeal.Value Cert.Rows

variable (m : (ℓ : Loc nD τ sig) → Buf (Elt Ideal) ℓ)

theorem index_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = t.val)
    ∧ (win0_6.index t 0 = t.val ∧ win0_6.index t 1 = 0 ∧ win0_6.index t 2 = 0) :=
  (by decide +kernel : ∀ t : Fin grid0.N, _)

theorem lt8 (t : Fin cfg0.N) : t.val < 8 := t.isLt.trans_eq N_0

theorem V_gain (c : Dev nD) (k : Fin 2048) : V m c main_v5 (ix2 0 k) = m ((c : Thread nD τ).loc main_arg1) (ix1 k) := by
  unfold V
  after_reads_at

theorem V_keys (c : Dev nD) (q : Fin 2048) (k : Fin 512) :
    V m c main_v1 (ix2 q k) = m ((c : Thread nD τ).loc main_arg2) (ix2 q ⟨k.val, by omega⟩) := by
  unfold V
  after_reads_at

theorem V_values (c : Dev nD) (k : Fin 512) (q : Fin 2048) :
    V m c main_v4 (ix2 k q) = m ((c : Thread nD τ).loc main_arg2) (ix2 q ⟨512 + k.val, by omega⟩) := by
  unfold V
  after_reads_at

/-- Row `r` of the point's rows. -/
abbrev rowAt (t : Fin cfg0.N) (r : Fin 1024) : Fin 8192 := ⟨1024 * t.val + r.val, by have := lt8 t; omega⟩

theorem blk0 (c : Dev nD) (t : Fin cfg0.N) (r : Fin 1024) (k : Fin 2048) :
    (iblk m c 0 t : Vec Ideal S1024x2048 .f32) (ix2 r k) = m ((c : Thread nD τ).loc main_arg0) (ix2 (rowAt t r) k) := by
  obtain ⟨⟨h0, h1⟩, -⟩ := index_facts t
  unfold iblk
  rw [View.read_apply]
  show V m c main_arg0 _ = _
  rw [V_main_arg0]
  congr 1
  funext a
  apply Fin.ext
  match a with
  | ⟨0, _⟩ => show win0_0.index t 0 * 1024 + 1 * r.val = 1024 * t.val + r.val; rw [h0]; omega
  | ⟨1, _⟩ => show win0_0.index t 1 * 2048 + 1 * k.val = k.val; rw [h1]; omega

theorem blk1 (c : Dev nD) (t : Fin cfg0.N) (k : Fin 2048) :
    (iblk m c 1 t : Vec Ideal S1x2048 .f32) (ix2 0 k) = m ((c : Thread nD τ).loc main_arg1) (ix1 k) := by
  obtain ⟨-, ⟨h0, h1⟩, -⟩ := index_facts t
  rw [← V_gain m c k]
  unfold iblk
  rw [View.read_apply]
  show V m c main_v5 _ = _
  congr 1
  funext a
  apply Fin.ext
  match a with
  | ⟨0, _⟩ => show win0_1.index t 0 * 1 + 1 * 0 = 0; rw [h0]
  | ⟨1, _⟩ => show win0_1.index t 1 * 2048 + 1 * k.val = k.val; rw [h1]; omega

theorem blk2 (c : Dev nD) (t : Fin cfg0.N) (q : Fin 2048) (k : Fin 512) :
    (iblk m c 2 t : Vec Ideal S2048x512 .bf16) (ix2 q k) = m ((c : Thread nD τ).loc main_arg2) (ix2 q ⟨k.val, by omega⟩) := by
  obtain ⟨-, -, ⟨h0, h1⟩, -⟩ := index_facts t
  rw [← V_keys m c q k]
  unfold iblk
  rw [View.read_apply]
  show V m c main_v1 _ = _
  congr 1
  funext a
  apply Fin.ext
  match a with
  | ⟨0, _⟩ => show win0_2.index t 0 * 2048 + 1 * q.val = q.val; rw [h0]; omega
  | ⟨1, _⟩ => show win0_2.index t 1 * 512 + 1 * k.val = k.val; rw [h1]; omega

theorem blk3 (c : Dev nD) (t : Fin cfg0.N) (k : Fin 512) (q : Fin 2048) :
    (iblk m c 3 t : Vec Ideal S512x2048 .bf16) (ix2 k q) = m ((c : Thread nD τ).loc main_arg2) (ix2 q ⟨512 + k.val, by omega⟩) := by
  obtain ⟨-, -, -, ⟨h0, h1⟩, -⟩ := index_facts t
  rw [← V_values m c k q]
  unfold iblk
  rw [View.read_apply]
  show V m c main_v4 _ = _
  congr 1
  funext a
  apply Fin.ext
  match a with
  | ⟨0, _⟩ => show win0_3.index t 0 * 512 + 1 * k.val = k.val; rw [h0]; omega
  | ⟨1, _⟩ => show win0_3.index t 1 * 2048 + 1 * q.val = q.val; rw [h1]; omega

/-- Row `r`, normalised. -/
def normedOf (d : Dev nD) (r : Fin 8192) : Fin 2048 → EReal :=
  fun k => rms (fun j => m ((d : Thread nD τ).loc main_arg0) (ix2 r j)) k (m ((d : Thread nD τ).loc main_arg1) (ix1 k))

/-- An entry of the keys: the normalised row against a column of the weight's first half. -/
def keyAt (d : Dev nD) (r : Fin 8192) (k : Fin 512) : EReal :=
  dotOf (normedOf m d r) (fun q => m ((d : Thread nD τ).loc main_arg2) (ix2 q ⟨k.val, by omega⟩))

/-- An entry of the values: the normalised row against a column of the weight's second half. -/
def valueAt (d : Dev nD) (r : Fin 8192) (k : Fin 512) : EReal :=
  dotOf (normedOf m d r) (fun q => m ((d : Thread nD τ).loc main_arg2) (ix2 q ⟨512 + k.val, by omega⟩))

/-- The mean of block `b`'s 256 keys. -/
def meanAt (d : Dev nD) (b : Fin 32) (k : Fin 512) : EReal :=
  Ideal.div (∑ i : Fin 256, keyAt m d ⟨b.val * 256 + i.val, by omega⟩ k) (Ideal.ofBits .f32 0x43800000#32)

/-- The same on a block of rows `x`, with gain `g`. -/
abbrev normedIn (x : FVec Ideal S1024x2048 .f32) (g : FVec Ideal S1x2048 .f32) (r : Fin 1024) : Fin 2048 → EReal :=
  fun k => rms (fun j => x (ix2 r j)) k (g (ix2 0 k))

theorem pay6_apply (x : FVec Ideal S1024x2048 .f32) (g : FVec Ideal S1x2048 .f32) (w : FVec Ideal S2048x512 .bf16) (r : Fin 1024) (k : Fin 512) :
    k0_pay6 (F := Ideal) x g w (ix2 r k) = dotOf (normedIn x g r) (fun q => w (ix2 q k)) := by
  pointwise [k0_pay6, k0_pay5, normedIn, dotOf, rms]

theorem pay7_apply (x : FVec Ideal S1024x2048 .f32) (g : FVec Ideal S1x2048 .f32) (w : FVec Ideal S2048x512 .bf16) (r : Fin 1024) (k : Fin 512) :
    k0_pay7 (F := Ideal) x g w (ix2 r k) = dotOf (normedIn x g r) (fun q => w (ix2 q k)) := pay6_apply x g w r k

theorem pay4_apply (x : FVec Ideal S1024x2048 .f32) (g : FVec Ideal S1x2048 .f32) (w : FVec Ideal S512x2048 .bf16) (k : Fin 512) (r : Fin 1024) :
    k0_pay4 (F := Ideal) (k0_pay5 (F := Ideal) x g) w (ix2 k r) = dotOf (fun q => w (ix2 k q)) (normedIn x g r) := by
  pointwise [k0_pay4, k0_pay5, normedIn, dotOf, rms]

/-- A block's mean, from the keys `y` of the point's rows. -/
theorem mean_apply (x : FVec Ideal S1024x2048 .f32) (g : FVec Ideal S1x2048 .f32) (w : FVec Ideal S2048x512 .bf16) (j : Fin 4) (k : Fin 512) :
    E6 (F := Ideal) x g w (ix3 j 0 k)
      = Ideal.div (∑ i : Fin 256, k0_pay6 (F := Ideal) x g w (ix2 ⟨256 * j.val + i.val, by omega⟩ k)) (Ideal.ofBits .f32 0x43800000#32) := by
  refine congrArg (fun a : EReal => Ideal.div a (Ideal.ofBits .f32 0x43800000#32)) ?_
  have hk : ix6_0 (ix3 j 0 k : S4x1x512.Idx) = ix1 k := by
    funext a
    match a with
    | ⟨0, _⟩ => rfl
  rw [hk]
  match j with
  | ⟨0, _⟩ => show multiReduction .add [0] S512 (extractStridedSlice S256x512 ![0, 0] (k0_pay6 (F := Ideal) x g w) slices_S1024x512_o0_0_S256x512) 0x00000000#32 reduces_S256x512_S512 (.inl rfl) rfl (ix1 k) = _; pointwise []
  | ⟨1, _⟩ => show multiReduction .add [0] S512 (extractStridedSlice S256x512 ![256, 0] (k0_pay6 (F := Ideal) x g w) slices_S1024x512_o256_0_S256x512) 0x00000000#32 reduces_S256x512_S512 (.inl rfl) rfl (ix1 k) = _; pointwise []
  | ⟨2, _⟩ => show multiReduction .add [0] S512 (extractStridedSlice S256x512 ![512, 0] (k0_pay6 (F := Ideal) x g w) slices_S1024x512_o512_0_S256x512) 0x00000000#32 reduces_S256x512_S512 (.inl rfl) rfl (ix1 k) = _; pointwise []
  | ⟨3, _⟩ => show multiReduction .add [0] S512 (extractStridedSlice S256x512 ![768, 0] (k0_pay6 (F := Ideal) x g w) slices_S1024x512_o768_0_S256x512) 0x00000000#32 reduces_S256x512_S512 (.inl rfl) rfl (ix1 k) = _; pointwise []

theorem hz2 : (![0, 0] : Fin 2 → ℕ) = fun _ => 0 := by funext a; fin_cases a <;> rfl

theorem ld_x (X : Vec Ideal S1024x2048 .f32) : View.ld X r0_0 = X := View.ld_unit_zero hz2 _ _
theorem ld_g (X : Vec Ideal S1x2048 .f32) : View.ld X r0_1 = X := View.ld_unit_zero hz2 _ _
theorem ld_k (X : Vec Ideal S2048x512 .bf16) : View.ld X r0_2 = X := View.ld_unit_zero hz2 _ _
theorem ld_v (X : Vec Ideal S512x2048 .bf16) : View.ld X r0_8 = X := View.ld_unit_zero hz2 _ _

theorem normed_in (d : Dev nD) (t : Fin cfg0.N) (r : Fin 1024) :
    normedIn (iblk m d 0 t) (iblk m d 1 t) r = normedOf m d (rowAt t r) := by
  funext k
  exact congrArg₂ (fun (x : Fin 2048 → EReal) (g : EReal) => rms x k g) (funext fun j => blk0 m d t r j) (blk1 m d t k)

theorem key_in (d : Dev nD) (t : Fin cfg0.N) (r : Fin 1024) (k : Fin 512) :
    k0_pay6 (F := Ideal) (iblk m d 0 t) (iblk m d 1 t) (iblk m d 2 t) (ix2 r k) = keyAt m d (rowAt t r) k :=
  (pay6_apply _ _ _ r k).trans (congrArg₂ dotOf (normed_in m d t r) (funext fun q => blk2 m d t q k))

/-- What a point leaves in its three blocks. -/
theorem out4_apply (d : Dev nD) (t : Fin cfg0.N) (r : Fin 1024) (k : Fin 512) :
    out0_4 (F := Ideal) (iblk m d 0 t) (iblk m d 1 t) (iblk m d 2 t) (iblk m d 3 t) (ix2 r k) = keyAt m d (rowAt t r) k := by
  unfold out0_4
  rw [View.canon_unit_zero hz2, ld_x, ld_g, ld_k]
  exact key_in m d t r k

theorem out5_apply (d : Dev nD) (t : Fin cfg0.N) (k : Fin 512) (r : Fin 1024) :
    out0_5 (F := Ideal) (iblk m d 0 t) (iblk m d 1 t) (iblk m d 2 t) (iblk m d 3 t) (ix2 k r) = valueAt m d (rowAt t r) k := by
  unfold out0_5
  rw [View.canon_unit_zero hz2, ld_x, ld_g, ld_v]
  refine (pay4_apply _ _ _ k r).trans ?_
  refine (Finset.sum_congr rfl fun q _ => ?_).trans (congrArg₂ dotOf (normed_in m d t r) (funext fun q => blk3 m d t k q))
  exact mul_comm _ _

theorem out6_apply (d : Dev nD) (t : Fin cfg0.N) (j : Fin 4) (k : Fin 512) :
    out0_6 (F := Ideal) (iblk m d 0 t) (iblk m d 1 t) (iblk m d 2 t) (iblk m d 3 t) (ix3 j 0 k)
      = meanAt m d ⟨4 * t.val + j.val, by have := lt8 t; omega⟩ k := by
  unfold out0_6 k0_pay10
  rw [ld_x, ld_g, ld_k]
  refine (canon6_eq _ _ _ _).trans ((mean_apply _ _ _ j k).trans ?_)
  refine congrArg (fun a : EReal => Ideal.div a (Ideal.ofBits .f32 0x43800000#32)) (Finset.sum_congr rfl fun i _ => ?_)
  refine (key_in m d t _ k).trans (congrArg (fun r => keyAt m d r k) (Fin.ext ?_))
  show 1024 * t.val + (256 * j.val + i.val) = (4 * t.val + j.val) * 256 + i.val
  omega

theorem keys_apply (d : Dev nD) (i : S8192x512.Idx) : (dats m 0 d).arrAt 4 cfg0.N i = keyAt m d (i 0) (i 1) := by
  have hi0 : (i 0).val < 8192 := (i 0).isLt
  have hi1 : (i 1).val < 512 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, ⟨h0, h1⟩, -⟩ := index_facts t
  have e : ((cfg0.win 4).blk t).view.emb (ix2 ⟨(i 0).val % 1024, Nat.mod_lt _ (by decide)⟩ ⟨(i 1).val, hi1⟩ : S1024x512.Idx) = i := by
    funext a
    apply Fin.ext
    match a with
    | ⟨0, _⟩ => show win0_4.index t 0 * 1024 + 1 * ((i 0).val % 1024) = (i 0).val; rw [h0, ht]; omega
    | ⟨1, _⟩ => show win0_4.index t 1 * 512 + 1 * (i 1).val = (i 1).val; rw [h1]; omega
  have hb := congrFun (blocks4 m d t (flush0_4 t)) (ix2 ⟨(i 0).val % 1024, Nat.mod_lt _ (by decide)⟩ ⟨(i 1).val, hi1⟩ : S1024x512.Idx)
  rw [View.read_apply, e, flushed4] at hb
  refine hb.trans ((out4_apply m d t _ _).trans ?_)
  exact congrArg (fun r => keyAt m d r (i 1)) (Fin.ext (by show 1024 * t.val + (i 0).val % 1024 = (i 0).val; rw [ht]; omega))

theorem values_apply (d : Dev nD) (i : S512x8192.Idx) : (dats m 0 d).arrAt 5 cfg0.N i = valueAt m d (i 1) (i 0) := by
  have hi0 : (i 0).val < 512 := (i 0).isLt
  have hi1 : (i 1).val < 8192 := (i 1).isLt
  have hN : cfg0.N = 8 := N_0
  obtain ⟨t, ht⟩ : ∃ t : Fin cfg0.N, t.val = (i 1).val / 1024 := ⟨⟨(i 1).val / 1024, by omega⟩, rfl⟩
  obtain ⟨-, -, -, -, -, ⟨h0, h1⟩, -⟩ := index_facts t
  have e : ((cfg0.win 5).blk t).view.emb (ix2 ⟨(i 0).val, hi0⟩ ⟨(i 1).val % 1024, Nat.mod_lt _ (by decide)⟩ : S512x1024.Idx) = i := by
    funext a
    apply Fin.ext
    match a with
    | ⟨0, _⟩ => show win0_5.index t 0 * 512 + 1 * (i 0).val = (i 0).val; rw [h0]; omega
    | ⟨1, _⟩ => show win0_5.index t 1 * 1024 + 1 * ((i 1).val % 1024) = (i 1).val; rw [h1, ht]; omega
  have hb := congrFun (blocks5 m d t (flush0_5 t)) (ix2 ⟨(i 0).val, hi0⟩ ⟨(i 1).val % 1024, Nat.mod_lt _ (by decide)⟩ : S512x1024.Idx)
  rw [View.read_apply, e, flushed5] at hb
  refine hb.trans ((out5_apply m d t _ _).trans ?_)
  exact congrArg (fun r => valueAt m d r (i 0)) (Fin.ext (by show 1024 * t.val + (i 1).val % 1024 = (i 1).val; rw [ht]; omega))

theorem means_apply (d : Dev nD) (i : S32x1x512.Idx) : (dats m 0 d).arrAt 6 cfg0.N i = meanAt m d (i 0) (i 2) := by
  have hi0 : (i 0).val < 32 := (i 0).isLt
  have hi1 : (i 1).val < 1 := (i 1).isLt
  have hi2 : (i 2).val < 512 := (i 2).isLt
  have hN : cfg0.N = 8 := N_0
  obtain ⟨t, ht⟩ : ∃ t : Fin cfg0.N, t.val = (i 0).val / 4 := ⟨⟨(i 0).val / 4, by omega⟩, rfl⟩
  obtain ⟨-, -, -, -, -, -, h0, h1, h2⟩ := index_facts t
  have e : ((cfg0.win 6).blk t).view.emb (ix3 ⟨(i 0).val % 4, Nat.mod_lt _ (by decide)⟩ 0 ⟨(i 2).val, hi2⟩ : S4x1x512.Idx) = i := by
    funext a
    apply Fin.ext
    match a with
    | ⟨0, _⟩ => show win0_6.index t 0 * 4 + 1 * ((i 0).val % 4) = (i 0).val; rw [h0, ht]; omega
    | ⟨1, _⟩ => show win0_6.index t 1 * 1 + 1 * 0 = (i 1).val; rw [h1]; omega
    | ⟨2, _⟩ => show win0_6.index t 2 * 512 + 1 * (i 2).val = (i 2).val; rw [h2]; omega
  have hb := congrFun (blocks6 m d t (flush0_6 t)) (ix3 ⟨(i 0).val % 4, Nat.mod_lt _ (by decide)⟩ 0 ⟨(i 2).val, hi2⟩ : S4x1x512.Idx)
  rw [View.read_apply, e, flushed6] at hb
  refine hb.trans ((out6_apply m d t _ _).trans ?_)
  exact congrArg (fun b => meanAt m d b (i 2)) (Fin.ext (by show 4 * t.val + (i 0).val % 4 = (i 0).val; rw [ht]; omega))

end Cert.SharedKvIdeal.Shared

end
-- ==== Proof.SharedKvRef.lean ====
/- The reference's shared keys, values and block means over the reals, entry by entry. -/
module

public import proofs.«01_k».proof.Proof.Gen.SharedKvReferenceIdeal.Run
public import proofs.«01_k».proof.Proof.Rows

@[expose] public section

set_option maxRecDepth 16384

noncomputable section

namespace Cert.SharedKvReferenceIdeal.Shared

open Idealize.ShloMosaic Idealize.ShloMosaic.TcCoe Idealize.ShloMosaic.Pointwise Idealize.SL.Sem
open Cert.SharedKvReferenceIdeal Cert.SharedKvReferenceIdeal.Gen Cert.SharedKvReferenceIdeal.Value Cert.Rows

variable (m : (ℓ : Loc nD τ sig) → Buf (Elt Ideal) ℓ)

/-- Row `r`, normalised. -/
def normedOf (d : Dev nD) (r : Fin 8192) : Fin 2048 → EReal :=
  fun k => rms (fun j => m ((d : Thread nD τ).loc main_arg0) (ix2 r j)) k (m ((d : Thread nD τ).loc main_arg1) (ix1 k))

/-- An entry of the keys: the normalised row against a column of the weight's first half. -/
def keyAt (d : Dev nD) (r : Fin 8192) (k : Fin 512) : EReal :=
  dotOf (normedOf m d r) (fun q => m ((d : Thread nD τ).loc main_arg2) (ix2 q ⟨k.val, by omega⟩))

/-- An entry of the values: the normalised row against a column of the weight's second half. -/
def valueAt (d : Dev nD) (r : Fin 8192) (k : Fin 512) : EReal :=
  dotOf (normedOf m d r) (fun q => m ((d : Thread nD τ).loc main_arg2) (ix2 q ⟨512 + k.val, by omega⟩))

/-- The mean of block `b`'s 256 keys. -/
def meanAt (d : Dev nD) (b : Fin 32) (k : Fin 512) : EReal :=
  Ideal.div (∑ i : Fin 256, keyAt m d ⟨b.val * 256 + i.val, by omega⟩ k) (Ideal.ofBits .f32 0x43800000#32)

/-- The reference's run, its three results read entry by entry. -/
theorem run_at (ρ : Dev nD → PrngReg) : θ_run defs (onTc (τ := τ) (main (F := Ideal))) ⟨m, fun _ => 0, ρ⟩ fun s => ∀ c : Dev nD,
      (∀ (r : Fin 8192) (k : Fin 512), s.2.mem ((c : Thread nD τ).loc main_v21) (ix2 r k) = keyAt m c r k)
        ∧ (∀ (k : Fin 512) (r : Fin 8192), s.2.mem ((c : Thread nD τ).loc main_v23) (ix2 k r) = valueAt m c r k)
        ∧ (∀ (b : Fin 32) (k : Fin 512), s.2.mem ((c : Thread nD τ).loc main_v20) (ix3 b 0 k) = meanAt m c b k)
        ∧ s.2.mem ((c : Thread nD τ).loc main_arg0) = m ((c : Thread nD τ).loc main_arg0)
        ∧ s.2.mem ((c : Thread nD τ).loc main_arg1) = m ((c : Thread nD τ).loc main_arg1)
        ∧ s.2.mem ((c : Thread nD τ).loc main_arg2) = m ((c : Thread nD τ).loc main_arg2) := by
  refine (θ_run defs _ _).mono (fun _ h c => ⟨fun r k => (congrFun (h c).1 _).trans ?_, fun k r => (congrFun (h c).2.1 _).trans ?_,
    fun b k => (congrFun (h c).2.2.1 _).trans ?_, (h c).2.2.2⟩) (Value.run (F := Ideal) m ρ)
  · pointwise [keyAt, normedOf, dotOf, rms]
  · pointwise [valueAt, normedOf, dotOf, rms]
  · pointwise [meanAt, keyAt, normedOf, dotOf, rms]

end Cert.SharedKvReferenceIdeal.Shared

end
-- ==== Proof.MobaQBlock.lean ====
/- The attention queries' projection: what a grid point leaves. The first point of a row block normalises the rows into the
   scratch; every point multiplies its own 1024 rows of the transposed weight with them and scales the products. -/
module

public import proofs.«01_k».proof.Proof.Gen.MobaQIdeal.Value

@[expose] public section

set_option maxRecDepth 16384

noncomputable section

namespace Cert.MobaQIdeal.Proj

open Idealize.ShloMosaic Idealize.ShloMosaic.TcCoe Idealize.ShloMosaic.Tactic
open Idealize.SL Idealize.SL.Sem
open Cert.MobaQIdeal Cert.MobaQIdeal.Gen

variable {F : FTy → Type} [FloatOps F]

abbrev wholeRows : Rect S2048x2048 := Rect.unit (s := S2048x2048) ![0, 0] S2048x2048.size inb_S2048x2048_S2048x2048_0_0
abbrev wholeGain : Rect S1x2048 := Rect.unit (s := S1x2048) ![0, 0] S1x2048.size inb_S1x2048_S1x2048_0_0
abbrev wholeCols : Rect S1x1024x2048 := Rect.unit (s := S1x1024x2048) ![0, 0, 0] S1x1024x2048.size inb_S1x1024x2048_S1x1024x2048_0_0_0
abbrev wholeOut : Rect S1024x2048 := Rect.unit (s := S1024x2048) ![0, 0] S1024x2048.size inb_S1024x2048_S1024x2048_0_0

theorem hz2 : (![0, 0] : Fin 2 → ℕ) = fun _ => 0 := by funext a; fin_cases a <;> rfl
theorem hz3 : (![0, 0, 0] : Fin 3 → ℕ) = fun _ => 0 := by funext a; fin_cases a <;> rfl

theorem ld_rows {e : EltTy} (X : Vec F S2048x2048 e) : View.ld X wholeRows = X := View.ld_unit_zero hz2 _ _
theorem ld_gain (X : Vec F S1x2048 .f32) : View.ld X wholeGain = X := View.ld_unit_zero hz2 _ _
theorem ld_cols (X : Vec F S1x1024x2048 .bf16) : View.ld X wholeCols = X := View.ld_unit_zero hz3 _ _

theorem norm_read {sg : RefSig} (arg6 : Memref sg .tc .vmem S2048x2048 .bf16) (w : Vec F S2048x2048 .bf16) :
    arg6.view.readCov [(⟨wholeRows, w⟩ : View.Piece (Elt F) S2048x2048 .bf16)] wholeRows.toLoadRect = w := View.readCov_unit_zero _ hz2 _ _

theorem rows_canon (w : Vec F S2048x2048 .bf16) : View.canon [(⟨wholeRows, w⟩ : View.Piece (Elt F) S2048x2048 .bf16)] = w := View.canon_unit_zero hz2 _ _
theorem out_canon (w : Vec F S1024x2048 .bf16) : View.canon [(⟨wholeOut, w⟩ : View.Piece (Elt F) S1024x2048 .bf16)] = w := View.canon_unit_zero hz2 _ _

theorem piecesS_A (c : Dev nD) (i : grid0.Coords) (arg2 : Memref sig .tc .vmem S1x2048 .f32) (harg2 : arg2.IsWhole) (arg3 : Memref sig .tc .vmem S2048x2048 .f32) (harg3 : arg3.IsWhole)
    (arg4 : Memref sig .tc .vmem S1x1024x2048 .bf16) (harg4 : arg4.IsWhole) (arg5 : Memref sig .tc .vmem S1024x2048 .bf16) (harg5 : arg5.IsWhole)
    (arg6 : Memref sig .tc .vmem S2048x2048 .bf16) (harg6 : arg6.IsWhole) (hc0 : cond0_0 i)
    (x0 : Vec F S1x2048 .f32) (x1 : Vec F S2048x2048 .f32) (x2 : Vec F S1x1024x2048 .bf16) :
    (kernelRun0_A c i arg2 harg2 arg3 harg3 arg4 harg4 arg5 harg5 arg6 harg6 hc0 x0 x1 x2).2.1 = [⟨wholeRows, k0_pay1 (arg3.view.readAt (Elt F) wholeRows.toLoadRect (harg3.unread x1)) (arg2.view.readAt (Elt F) wholeGain.toLoadRect (harg2.unread x0))⟩] := by
  sl_kernel_rfl

theorem piecesO_A (c : Dev nD) (i : grid0.Coords) (arg2 : Memref sig .tc .vmem S1x2048 .f32) (harg2 : arg2.IsWhole) (arg3 : Memref sig .tc .vmem S2048x2048 .f32) (harg3 : arg3.IsWhole)
    (arg4 : Memref sig .tc .vmem S1x1024x2048 .bf16) (harg4 : arg4.IsWhole) (arg5 : Memref sig .tc .vmem S1024x2048 .bf16) (harg5 : arg5.IsWhole)
    (arg6 : Memref sig .tc .vmem S2048x2048 .bf16) (harg6 : arg6.IsWhole) (hc0 : cond0_0 i)
    (x0 : Vec F S1x2048 .f32) (x1 : Vec F S2048x2048 .f32) (x2 : Vec F S1x1024x2048 .bf16) :
    (kernelRun0_A c i arg2 harg2 arg3 harg3 arg4 harg4 arg5 harg5 arg6 harg6 hc0 x0 x1 x2).1 = [⟨wholeOut, k0_pay2 (arg4.view.readAt (Elt F) wholeCols.toLoadRect (harg4.unread x2)) (arg6.view.readCov [⟨wholeRows, k0_pay1 (arg3.view.readAt (Elt F) wholeRows.toLoadRect (harg3.unread x1)) (arg2.view.readAt (Elt F) wholeGain.toLoadRect (harg2.unread x0))⟩] wholeRows.toLoadRect)⟩] := by
  sl_kernel_rfl

theorem piecesO_B (c : Dev nD) (i : grid0.Coords) (arg2 : Memref sig .tc .vmem S1x2048 .f32) (harg2 : arg2.IsWhole) (arg3 : Memref sig .tc .vmem S2048x2048 .f32) (harg3 : arg3.IsWhole)
    (arg4 : Memref sig .tc .vmem S1x1024x2048 .bf16) (harg4 : arg4.IsWhole) (arg5 : Memref sig .tc .vmem S1024x2048 .bf16) (harg5 : arg5.IsWhole)
    (arg6 : Memref sig .tc .vmem S2048x2048 .bf16) (harg6 : arg6.IsWhole) (hc0 : ¬cond0_0 i)
    (x0 : Vec F S1x2048 .f32) (x1 : Vec F S2048x2048 .f32) (x2 : Vec F S1x1024x2048 .bf16) (xs0 : Vec F S2048x2048 .bf16) :
    (kernelRun0_B c i arg2 harg2 arg3 harg3 arg4 harg4 arg5 harg5 arg6 harg6 hc0 x0 x1 x2 xs0).1 = [⟨wholeOut, k0_pay2 (arg4.view.readAt (Elt F) wholeCols.toLoadRect (harg4.unread x2)) (arg6.view.readAt (Elt F) wholeRows.toLoadRect (harg6.unread xs0))⟩] := by
  sl_kernel_rfl

theorem rows_A (c : Dev nD) (i : grid0.Coords) (arg2 : Memref sig .tc .vmem S1x2048 .f32) (harg2 : arg2.IsWhole) (arg3 : Memref sig .tc .vmem S2048x2048 .f32) (harg3 : arg3.IsWhole)
    (arg4 : Memref sig .tc .vmem S1x1024x2048 .bf16) (harg4 : arg4.IsWhole) (arg5 : Memref sig .tc .vmem S1024x2048 .bf16) (harg5 : arg5.IsWhole)
    (arg6 : Memref sig .tc .vmem S2048x2048 .bf16) (harg6 : arg6.IsWhole) (hc0 : cond0_0 i)
    (x0 : Vec F S1x2048 .f32) (x1 : Vec F S2048x2048 .f32) (x2 : Vec F S1x1024x2048 .bf16) :
    sout0_A_0 c i arg2 harg2 arg3 harg3 arg4 harg4 arg5 harg5 arg6 harg6 hc0 x0 x1 x2 = k0_pay1 x1 x0 := by
  unfold sout0_A_0
  rw [View.read_writes_eq_canon _ _ _ (scover0_A_0 c i arg2 harg2 arg3 harg3 arg4 harg4 arg5 harg5 arg6 harg6 hc0 x0 x1 x2), piecesS_A c i arg2 harg2 arg3 harg3 arg4 harg4 arg5 harg5 arg6 harg6 hc0 x0 x1 x2, rows_canon]
  simp only [View.readAt_eq_ld, harg2.read_unread, harg3.read_unread, harg4.read_unread, harg6.read_unread, ld_rows, ld_gain, ld_cols, norm_read]

theorem out_A (c : Dev nD) (i : grid0.Coords) (arg2 : Memref sig .tc .vmem S1x2048 .f32) (harg2 : arg2.IsWhole) (arg3 : Memref sig .tc .vmem S2048x2048 .f32) (harg3 : arg3.IsWhole)
    (arg4 : Memref sig .tc .vmem S1x1024x2048 .bf16) (harg4 : arg4.IsWhole) (arg5 : Memref sig .tc .vmem S1024x2048 .bf16) (harg5 : arg5.IsWhole)
    (arg6 : Memref sig .tc .vmem S2048x2048 .bf16) (harg6 : arg6.IsWhole) (hc0 : cond0_0 i)
    (x0 : Vec F S1x2048 .f32) (x1 : Vec F S2048x2048 .f32) (x2 : Vec F S1x1024x2048 .bf16) :
    out0_A_3 c i arg2 harg2 arg3 harg3 arg4 harg4 arg5 harg5 arg6 harg6 hc0 x0 x1 x2 = k0_pay2 x2 (k0_pay1 x1 x0) := by
  unfold out0_A_3
  rw [View.read_writes_eq_canon _ _ _ (cover0_A_3 c i arg2 harg2 arg3 harg3 arg4 harg4 arg5 harg5 arg6 harg6 hc0 x0 x1 x2), piecesO_A c i arg2 harg2 arg3 harg3 arg4 harg4 arg5 harg5 arg6 harg6 hc0 x0 x1 x2, out_canon]
  simp only [View.readAt_eq_ld, harg2.read_unread, harg3.read_unread, harg4.read_unread, harg6.read_unread, ld_rows, ld_gain, ld_cols, norm_read]

theorem out_B (c : Dev nD) (i : grid0.Coords) (arg2 : Memref sig .tc .vmem S1x2048 .f32) (harg2 : arg2.IsWhole) (arg3 : Memref sig .tc .vmem S2048x2048 .f32) (harg3 : arg3.IsWhole)
    (arg4 : Memref sig .tc .vmem S1x1024x2048 .bf16) (harg4 : arg4.IsWhole) (arg5 : Memref sig .tc .vmem S1024x2048 .bf16) (harg5 : arg5.IsWhole)
    (arg6 : Memref sig .tc .vmem S2048x2048 .bf16) (harg6 : arg6.IsWhole) (hc0 : ¬cond0_0 i)
    (x0 : Vec F S1x2048 .f32) (x1 : Vec F S2048x2048 .f32) (x2 : Vec F S1x1024x2048 .bf16) (xs0 : Vec F S2048x2048 .bf16) :
    out0_B_3 c i arg2 harg2 arg3 harg3 arg4 harg4 arg5 harg5 arg6 harg6 hc0 x0 x1 x2 xs0 = k0_pay2 x2 xs0 := by
  unfold out0_B_3
  rw [View.read_writes_eq_canon _ _ _ (cover0_B_3 c i arg2 harg2 arg3 harg3 arg4 harg4 arg5 harg5 arg6 harg6 hc0 x0 x1 x2 xs0), piecesO_B c i arg2 harg2 arg3 harg3 arg4 harg4 arg5 harg5 arg6 harg6 hc0 x0 x1 x2 xs0, out_canon]
  simp only [View.readAt_eq_ld, harg2.read_unread, harg3.read_unread, harg4.read_unread, harg6.read_unread, ld_rows, ld_gain, ld_cols, norm_read]

end Cert.MobaQIdeal.Proj

end
-- ==== Proof.MobaQRun.lean ====
/- The attention queries' projection over the reals: each row of the transposed weight against the normalised rows, scaled. -/
module

public import proofs.«01_k».proof.Proof.MobaQBlock
public import proofs.«01_k».proof.Proof.Rows
public import Idealize.ShloMosaic.Lib.StableHlo.ReadAt

@[expose] public section

set_option maxRecDepth 16384

noncomputable section

namespace Cert.MobaQIdeal.Proj

open Idealize.ShloMosaic Idealize.ShloMosaic.TcCoe Idealize.ShloMosaic.Pointwise Idealize.SL.Sem
open Cert.MobaQIdeal Cert.MobaQIdeal.Gen Cert.MobaQIdeal.Value Cert.Rows

variable (m : (ℓ : Loc nD τ sig) → Buf (Elt Ideal) ℓ)

theorem index_facts : ∀ t : Fin cfg0.N,
    (win0_0.index t 0 = 0 ∧ win0_0.index t 1 = 0)
    ∧ (win0_1.index t 0 = t.val / 2 ∧ win0_1.index t 1 = 0)
    ∧ (win0_2.index t 0 = 0 ∧ win0_2.index t 1 = t.val % 2 ∧ win0_2.index t 2 = 0) :=
  (by decide +kernel : ∀ t : Fin grid0.N, _)

theorem lt8 (t : Fin cfg0.N) : t.val < 8 := t.isLt.trans_eq N_0

theorem V_gain (c : Dev nD) (k : Fin 2048) : V m c main_v4 (ix2 0 k) = m ((c : Thread nD τ).loc main_arg1) (ix2 2 k) := by
  unfold V
  after_reads_at

/-- The weight the region finds: the rows and columns of the layer's weight exchanged. -/
theorem V_weight (c : Dev nD) (l : Fin 2) (k q : Fin 2048) :
    V m c main_v3 (ix3 l k q) = m ((c : Thread nD τ).loc main_arg2) (ix3 l q k) := by
  unfold V
  after_reads_at

/-- Row `r` of the point's row block, column `k` of its columns. -/
abbrev rowAt (t : Fin cfg0.N) (r : Fin 2048) : Fin 8192 := ⟨2048 * (t.val / 2) + r.val, by have := lt8 t; omega⟩
abbrev colAt (t : Fin cfg0.N) (k : Fin 1024) : Fin 2048 := ⟨1024 * (t.val % 2) + k.val, by omega⟩

theorem blk0 (c : Dev nD) (t : Fin cfg0.N) (k : Fin 2048) :
    (iblk m c 0 t : Vec Ideal S1x2048 .f32) (ix2 0 k) = m ((c : Thread nD τ).loc main_arg1) (ix2 2 k) := by
  obtain ⟨⟨h0, h1⟩, -⟩ := index_facts t
  rw [← V_gain m c k]
  unfold iblk
  rw [View.read_apply]
  show V m c main_v4 _ = _
  congr 1
  funext a
  apply Fin.ext
  match a with
  | ⟨0, _⟩ => show win0_0.index t 0 * 1 + 1 * 0 = 0; rw [h0]
  | ⟨1, _⟩ => show win0_0.index t 1 * 2048 + 1 * k.val = k.val; rw [h1]; omega

theorem blk1 (c : Dev nD) (t : Fin cfg0.N) (r k : Fin 2048) :
    (iblk m c 1 t : Vec Ideal S2048x2048 .f32) (ix2 r k) = m ((c : Thread nD τ).loc main_arg0) (ix2 (rowAt t r) k) := by
  obtain ⟨-, ⟨h0, h1⟩, -⟩ := index_facts t
  unfold iblk
  rw [View.read_apply]
  show V m c main_arg0 _ = _
  rw [V_main_arg0]
  congr 1
  funext a
  apply Fin.ext
  match a with
  | ⟨0, _⟩ => show win0_1.index t 0 * 2048 + 1 * r.val = 2048 * (t.val / 2) + r.val; rw [h0]; omega
  | ⟨1, _⟩ => show win0_1.index t 1 * 2048 + 1 * k.val = k.val; rw [h1]; omega

theorem blk2 (c : Dev nD) (t : Fin cfg0.N) (k : Fin 1024) (q : Fin 2048) :
    (iblk m c 2 t : Vec Ideal S1x1024x2048 .bf16) (ix3 0 k q) = m ((c : Thread nD τ).loc main_arg2) (ix3 0 q (colAt t k)) := by
  obtain ⟨-, -, h0, h1, h2⟩ := index_facts t
  rw [← V_weight m c 0 (colAt t k) q]
  unfold iblk
  rw [View.read_apply]
  show V m c main_v3 _ = _
  congr 1
  funext a
  apply Fin.ext
  match a with
  | ⟨0, _⟩ => show win0_2.index t 0 * 1 + 1 * 0 = 0; rw [h0]
  | ⟨1, _⟩ => show win0_2.index t 1 * 1024 + 1 * k.val = 1024 * (t.val % 2) + k.val; rw [h1]; omega
  | ⟨2, _⟩ => show win0_2.index t 2 * 2048 + 1 * q.val = q.val; rw [h2]; omega

/-- Row `r`, normalised. -/
def normedOf (d : Dev nD) (r : Fin 8192) : Fin 2048 → EReal :=
  fun k => rms (fun j => m ((d : Thread nD τ).loc main_arg0) (ix2 r j)) k (m ((d : Thread nD τ).loc main_arg1) (ix2 2 k))

/-- An entry of the queries: the normalised row against the weight's column, scaled. -/
def resultAt (d : Dev nD) (k : Fin 2048) (r : Fin 8192) : EReal :=
  dotOf (normedOf m d r) (fun q => m ((d : Thread nD τ).loc main_arg2) (ix3 0 q k)) * Ideal.ofBits .f32 0x3E0293EE#32

theorem pay1_apply (h : FVec Ideal S2048x2048 .f32) (g : FVec Ideal S1x2048 .f32) (r k : Fin 2048) :
    k0_pay1 (F := Ideal) h g (ix2 r k) = rms (fun j => h (ix2 r j)) k (g (ix2 0 k)) := by
  pointwise [k0_pay1, rms]

theorem pay2_apply (w : FVec Ideal S1x1024x2048 .bf16) (x : FVec Ideal S2048x2048 .bf16) (k : Fin 1024) (r : Fin 2048) :
    k0_pay2 (F := Ideal) w x (ix2 k r) = dotOf (fun q => w (ix3 0 k q)) (fun q => x (ix2 r q)) * Ideal.ofBits .f32 0x3E0293EE#32 := by
  pointwise [k0_pay2, dotOf]

/-- A scratch holding the normalised rows of the point's row block. -/
def Normed (d : Dev nD) (t : Fin cfg0.N) (s : Vec Ideal S2048x2048 .bf16) : Prop :=
  ∀ r k : Fin 2048, s (ix2 r k) = normedOf m d (rowAt t r) k

/-- The output block, holding the point's columns, and the scratch. -/
def Holds (d : Dev nD) (t : Fin cfg0.N) (p : Vec Ideal S1024x2048 .bf16 × Vec Ideal S2048x2048 .bf16) : Prop :=
  (∀ (k : Fin 1024) (r : Fin 2048), p.1 (ix2 k r) = resultAt m d (colAt t k) (rowAt t r)) ∧ Normed m d t p.2

theorem normed_first (d : Dev nD) (t : Fin cfg0.N) : Normed m d t (k0_pay1 (F := Ideal) (iblk m d 1 t) (iblk m d 0 t)) := by
  intro r k
  refine (pay1_apply _ _ r k).trans ?_
  exact congrArg₂ (fun (x : Fin 2048 → EReal) (g : EReal) => rms x k g) (funext fun j => blk1 m d t r j) (blk0 m d t k)

theorem out_step (d : Dev nD) (t : Fin cfg0.N) (s : Vec Ideal S2048x2048 .bf16) (hs : Normed m d t s) (k : Fin 1024) (r : Fin 2048) :
    k0_pay2 (F := Ideal) (iblk m d 2 t) s (ix2 k r) = resultAt m d (colAt t k) (rowAt t r) := by
  refine (pay2_apply _ s k r).trans (congrArg (fun a : EReal => a * Ideal.ofBits .f32 0x3E0293EE#32) ?_)
  exact Finset.sum_congr rfl fun q _ => (congrArg₂ (fun a b : EReal => a * b) (blk2 m d t k q) (hs r q)).trans (mul_comm _ _)

theorem holds_first (d : Dev nD) (t : Fin cfg0.N) (p : Vec Ideal S1024x2048 .bf16 × Vec Ideal S2048x2048 .bf16)
    (h0 : t.val % 2 = 0) : Holds m d t (stAt0 m d t.val t.isLt p) := by
  rw [stAt0_A m d t p h0, out_A, rows_A]
  have hn := normed_first m d t
  exact ⟨out_step m d t _ hn, hn⟩

theorem holds_next (d : Dev nD) (t : Fin cfg0.N) (p : Vec Ideal S1024x2048 .bf16 × Vec Ideal S2048x2048 .bf16)
    (h0 : ¬ t.val % 2 = 0) (hn : Normed m d t p.2) : Holds m d t (stAt0 m d t.val t.isLt p) := by
  rw [stAt0_B m d t p h0, out_B]
  exact ⟨out_step m d t _ hn, hn⟩

theorem holds (d : Dev nD) : ∀ (n : ℕ) (h : n < cfg0.N), Holds m d ⟨n, h⟩ (outsAt0 m d n h)
  | 0, h => by
    rw [outsAt0_zero]
    exact holds_first m d ⟨0, h⟩ _ (Nat.zero_mod _)
  | n + 1, h => by
    rw [outsAt0_succ]
    by_cases h0 : (n + 1) % 2 = 0
    · exact holds_first m d ⟨n + 1, h⟩ _ h0
    · obtain ⟨-, hn⟩ := holds d n (Nat.lt_of_succ_lt h)
      have hrow : ∀ r, rowAt ⟨n, Nat.lt_of_succ_lt h⟩ r = rowAt ⟨n + 1, h⟩ r := fun r =>
        Fin.ext (by show 2048 * (n / 2) + r.val = 2048 * ((n + 1) / 2) + r.val; omega)
      exact holds_next m d ⟨n + 1, h⟩ _ h0 (fun r k => (hn r k).trans (by rw [hrow]))

/-- The result read. -/
theorem result_apply (d : Dev nD) (i : S2048x8192.Idx) : G3 m d i = resultAt m d (i 0) (i 1) := by
  have hi0 : (i 0).val < 2048 := (i 0).isLt
  have hi1 : (i 1).val < 8192 := (i 1).isLt
  have hp : pt3Of i = 2 * ((i 1).val / 2048) + (i 0).val / 1024 := by
    show 1 * ((i 0).val / 1024 - 0) + 2 * ((i 1).val / 2048 - 0) = _
    omega
  have hN : cfg0.N = 8 := N_0
  have hlt : 2 * ((i 1).val / 2048) + (i 0).val / 1024 < cfg0.N := by omega
  unfold G3
  rw [dif_pos (by rw [hp]; exact hlt), fold0_congr m d (pt3Of i) _ (2 * ((i 1).val / 2048) + (i 0).val / 1024) (by omega) hp,
    ← outsAt0_sweep m d (2 * ((i 1).val / 2048) + (i 0).val / 1024) hlt]
  obtain ⟨hm, -⟩ := holds m d _ hlt
  have hl : loc3Of i = ix2 ⟨(i 0).val % 1024, Nat.mod_lt _ (by decide)⟩ ⟨(i 1).val % 2048, Nat.mod_lt _ (by decide)⟩ := by
    funext a
    apply Fin.ext
    match a with
    | ⟨0, _⟩ => rfl
    | ⟨1, _⟩ => rfl
  rw [hl]
  refine (hm _ _).trans (congrArg₂ (resultAt m d) (Fin.ext ?_) (Fin.ext ?_))
  · show 1024 * ((2 * ((i 1).val / 2048) + (i 0).val / 1024) % 2) + (i 0).val % 1024 = (i 0).val
    omega
  · show 2048 * ((2 * ((i 1).val / 2048) + (i 0).val / 1024) / 2) + (i 1).val % 2048 = (i 1).val
    omega

end Cert.MobaQIdeal.Proj

end
-- ==== Proof.MobaQRef.lean ====
/- The reference's queries over the reals, entry by entry. -/
module

public import proofs.«01_k».proof.Proof.Gen.MobaQReferenceIdeal.Run
public import proofs.«01_k».proof.Proof.Rows

@[expose] public section

set_option maxRecDepth 16384

noncomputable section

namespace Cert.MobaQReferenceIdeal.Proj

open Idealize.ShloMosaic Idealize.ShloMosaic.TcCoe Idealize.ShloMosaic.Pointwise Idealize.SL.Sem
open Cert.MobaQReferenceIdeal Cert.MobaQReferenceIdeal.Gen Cert.MobaQReferenceIdeal.Value Cert.Rows

variable (m : (ℓ : Loc nD τ sig) → Buf (Elt Ideal) ℓ)

def normedOf (d : Dev nD) (r : Fin 8192) : Fin 2048 → EReal :=
  fun k => rms (fun j => m ((d : Thread nD τ).loc main_arg0) (ix2 r j)) k (m ((d : Thread nD τ).loc main_arg1) (ix2 2 k))

def resultAt (d : Dev nD) (k : Fin 2048) (r : Fin 8192) : EReal :=
  dotOf (normedOf m d r) (fun q => m ((d : Thread nD τ).loc main_arg2) (ix3 0 q k)) * Ideal.ofBits .f32 0x3E0293EE#32

/-- The reference's run, its result read entry by entry. -/
theorem run_at (ρ : Dev nD → PrngReg) : θ_run defs (onTc (τ := τ) (main (F := Ideal))) ⟨m, fun _ => 0, ρ⟩ fun s => ∀ c : Dev nD,
      (∀ (k : Fin 2048) (r : Fin 8192), s.2.mem ((c : Thread nD τ).loc main_v21) (ix2 k r) = resultAt m c k r)
        ∧ s.2.mem ((c : Thread nD τ).loc main_arg0) = m ((c : Thread nD τ).loc main_arg0)
        ∧ s.2.mem ((c : Thread nD τ).loc main_arg1) = m ((c : Thread nD τ).loc main_arg1)
        ∧ s.2.mem ((c : Thread nD τ).loc main_arg2) = m ((c : Thread nD τ).loc main_arg2) := by
  refine (θ_run defs _ _).mono (fun _ h c => ⟨fun k r => (congrFun (h c).1 _).trans ?_, (h c).2⟩) (Value.run (F := Ideal) m ρ)
  pointwise [resultAt, normedOf, dotOf, rms]

end Cert.MobaQReferenceIdeal.Proj

end
-- ==== Proof.GatesRun.lean ====
/- The recurrent layer's gates: the update strength and the logarithm of the decay, entry by entry.
   Each of the 8 grid points writes one block of each result, and no other point writes there. -/
module

public import proofs.«01_k».proof.Proof.Gen.GatesIdeal.Value
public import Idealize.ShloMosaic.Lib.StableHlo.ReadAt
public import Idealize.ShloMosaic.Lib.Pointwise

@[expose] public section

set_option maxRecDepth 16384

noncomputable section

namespace Cert.GatesIdeal.Gate

open Idealize.ShloMosaic Idealize.ShloMosaic.TcCoe Idealize.ShloMosaic.Pointwise Idealize.SL.Sem
open Cert.GatesIdeal Cert.GatesIdeal.Gen Cert.GatesIdeal.Value

variable (m : (ℓ : Loc nD τ sig) → Buf (Elt Ideal) ℓ)

theorem index_facts : ∀ t : Fin cfg0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) :=
  (by decide +kernel : ∀ t : Fin grid0.N, _)

theorem lt8 (t : Fin cfg0.N) : t.val < 8 := t.isLt.trans_eq N_0

theorem V_log (c : Dev nD) (k : Fin 32) : V m c main_v4 (ix2 0 k) = m ((c : Thread nD τ).loc main_arg1) (ix2 0 k) := by
  unfold V
  after_reads_at

theorem V_bias (c : Dev nD) (k : Fin 32) : V m c main_v5 (ix2 0 k) = m ((c : Thread nD τ).loc main_arg2) (ix2 0 k) := by
  unfold V
  after_reads_at

/-- Row `r` of the point's rows. -/
abbrev rowAt (t : Fin cfg0.N) (r : Fin 1024) : Fin 8192 := ⟨1024 * t.val + r.val, by have := lt8 t; omega⟩

theorem blk0 (c : Dev nD) (t : Fin cfg0.N) (r : Fin 1024) (k : Fin 64) :
    (iblk m c 0 t : Vec Ideal S1024x64 .f32) (ix2 r k) = m ((c : Thread nD τ).loc main_arg0) (ix2 (rowAt t r) k) := by
  obtain ⟨⟨h0, h1⟩, -⟩ := index_facts t
  unfold iblk
  rw [View.read_apply]
  show V m c main_arg0 _ = _
  rw [V_main_arg0]
  congr 1
  funext a
  apply Fin.ext
  match a with
  | ⟨0, _⟩ => show win0_0.index t 0 * 1024 + 1 * r.val = 1024 * t.val + r.val; rw [h0]; omega
  | ⟨1, _⟩ => show win0_0.index t 1 * 64 + 1 * k.val = k.val; rw [h1]; omega

theorem blk1 (c : Dev nD) (t : Fin cfg0.N) (k : Fin 32) :
    (iblk m c 1 t : Vec Ideal S1x32 .f32) (ix2 0 k) = m ((c : Thread nD τ).loc main_arg1) (ix2 0 k) := by
  obtain ⟨-, ⟨h0, h1⟩, -⟩ := index_facts t
  rw [← V_log m c k]
  unfold iblk
  rw [View.read_apply]
  show V m c main_v4 _ = _
  congr 1
  funext a
  apply Fin.ext
  match a with
  | ⟨0, _⟩ => show win0_1.index t 0 * 1 + 1 * 0 = 0; rw [h0]
  | ⟨1, _⟩ => show win0_1.index t 1 * 32 + 1 * k.val = k.val; rw [h1]; omega

theorem blk2 (c : Dev nD) (t : Fin cfg0.N) (k : Fin 32) :
    (iblk m c 2 t : Vec Ideal S1x32 .f32) (ix2 0 k) = m ((c : Thread nD τ).loc main_arg2) (ix2 0 k) := by
  obtain ⟨-, -, ⟨h0, h1⟩, -⟩ := index_facts t
  rw [← V_bias m c k]
  unfold iblk
  rw [View.read_apply]
  show V m c main_v5 _ = _
  congr 1
  funext a
  apply Fin.ext
  match a with
  | ⟨0, _⟩ => show win0_2.index t 0 * 1 + 1 * 0 = 0; rw [h0]
  | ⟨1, _⟩ => show win0_2.index t 1 * 32 + 1 * k.val = k.val; rw [h1]; omega

/-- The update strength of row `r`, head `k`. -/
def strengthAt (d : Dev nD) (r : Fin 8192) (k : Fin 32) : EReal :=
  Ideal.logistic (m ((d : Thread nD τ).loc main_arg0) (ix2 r ⟨k.val, by omega⟩))

/-- The logarithm of the decay: minus the rate times the softened positive part of `x + b`. -/
def logDecay (a x b : EReal) : EReal :=
  (0 - Ideal.exp a) * (max (x + b) 0 + Ideal.log1p (Ideal.exp (0 - FloatOps.absf (F := Ideal) (φ := .f32) (x + b))))

def decayAt (d : Dev nD) (r : Fin 8192) (k : Fin 32) : EReal :=
  logDecay (m ((d : Thread nD τ).loc main_arg1) (ix2 0 k))
    (m ((d : Thread nD τ).loc main_arg0) (ix2 r ⟨32 + k.val, by omega⟩)) (m ((d : Thread nD τ).loc main_arg2) (ix2 0 k))

theorem pay1_apply (x : FVec Ideal S1024x64 .f32) (r : Fin 1024) (k : Fin 32) :
    k0_pay1 (F := Ideal) x (ix2 r k) = Ideal.logistic (x (ix2 r ⟨k.val, by omega⟩)) := by
  pointwise [k0_pay1]

theorem pay2_apply (x : FVec Ideal S1024x64 .f32) (b a : FVec Ideal S1x32 .f32) (r : Fin 1024) (k : Fin 32) :
    k0_pay2 (F := Ideal) x b a (ix2 r k) = logDecay (a (ix2 0 k)) (x (ix2 r ⟨32 + k.val, by omega⟩)) (b (ix2 0 k)) := by
  pointwise [k0_pay2, logDecay]

theorem hz2 : (![0, 0] : Fin 2 → ℕ) = fun _ => 0 := by funext a; fin_cases a <;> rfl

theorem ld_x (X : Vec Ideal S1024x64 .f32) : View.ld X r0_0 = X := View.ld_unit_zero hz2 _ _
theorem ld_head (X : Vec Ideal S1x32 .f32) : View.ld X r0_2 = X := View.ld_unit_zero hz2 _ _

/-- What a point leaves in its two blocks. -/
theorem out3_apply (d : Dev nD) (t : Fin cfg0.N) (r : Fin 1024) (k : Fin 32) :
    out0_3 (F := Ideal) (iblk m d 0 t) (iblk m d 1 t) (iblk m d 2 t) (ix2 r k) = strengthAt m d (rowAt t r) k := by
  unfold out0_3
  rw [View.canon_unit_zero hz2]
  exact (pay1_apply _ r k).trans (congrArg Ideal.logistic ((congrFun (ld_x _) _).trans (blk0 m d t r _)))

theorem out4_apply (d : Dev nD) (t : Fin cfg0.N) (r : Fin 1024) (k : Fin 32) :
    out0_4 (F := Ideal) (iblk m d 0 t) (iblk m d 1 t) (iblk m d 2 t) (ix2 r k) = decayAt m d (rowAt t r) k := by
  unfold out0_4
  rw [View.canon_unit_zero hz2]
  refine (pay2_apply _ _ _ r k).trans ?_
  exact congr (congrArg₂ logDecay ((congrFun (ld_head _) _).trans (blk1 m d t k)) ((congrFun (ld_x _) _).trans (blk0 m d t r _)))
    ((congrFun (ld_head _) _).trans (blk2 m d t k))

theorem strength_apply (d : Dev nD) (i : S8192x32.Idx) : (dats m 0 d).arrAt 3 cfg0.N i = strengthAt m d (i 0) (i 1) := by
  have hi0 : (i 0).val < 8192 := (i 0).isLt
  have hi1 : (i 1).val < 32 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, ⟨h0, h1⟩, -⟩ := index_facts t
  have e : ((cfg0.win 3).blk t).view.emb (ix2 ⟨(i 0).val % 1024, Nat.mod_lt _ (by decide)⟩ ⟨(i 1).val, hi1⟩ : S1024x32.Idx) = i := by
    funext a
    apply Fin.ext
    match a with
    | ⟨0, _⟩ => show win0_3.index t 0 * 1024 + 1 * ((i 0).val % 1024) = (i 0).val; rw [h0, ht]; omega
    | ⟨1, _⟩ => show win0_3.index t 1 * 32 + 1 * (i 1).val = (i 1).val; rw [h1]; omega
  have hb := congrFun (blocks3 m d t (flush0_3 t)) (ix2 ⟨(i 0).val % 1024, Nat.mod_lt _ (by decide)⟩ ⟨(i 1).val, hi1⟩ : S1024x32.Idx)
  rw [View.read_apply, e, flushed3] at hb
  refine hb.trans ((out3_apply m d t _ _).trans ?_)
  exact congrArg (fun r => strengthAt m d r (i 1)) (Fin.ext (by show 1024 * t.val + (i 0).val % 1024 = (i 0).val; rw [ht]; omega))

theorem decay_apply (d : Dev nD) (i : S8192x32.Idx) : (dats m 0 d).arrAt 4 cfg0.N i = decayAt m d (i 0) (i 1) := by
  have hi0 : (i 0).val < 8192 := (i 0).isLt
  have hi1 : (i 1).val < 32 := (i 1).isLt
  have hN : cfg0.N = 8 := N_0
  obtain ⟨t, ht⟩ : ∃ t : Fin cfg0.N, t.val = (i 0).val / 1024 := ⟨⟨(i 0).val / 1024, by omega⟩, rfl⟩
  obtain ⟨-, -, -, -, h0, h1⟩ := index_facts t
  have e : ((cfg0.win 4).blk t).view.emb (ix2 ⟨(i 0).val % 1024, Nat.mod_lt _ (by decide)⟩ ⟨(i 1).val, hi1⟩ : S1024x32.Idx) = i := by
    funext a
    apply Fin.ext
    match a with
    | ⟨0, _⟩ => show win0_4.index t 0 * 1024 + 1 * ((i 0).val % 1024) = (i 0).val; rw [h0, ht]; omega
    | ⟨1, _⟩ => show win0_4.index t 1 * 32 + 1 * (i 1).val = (i 1).val; rw [h1]; omega
  have hb := congrFun (blocks4 m d t (flush0_4 t)) (ix2 ⟨(i 0).val % 1024, Nat.mod_lt _ (by decide)⟩ ⟨(i 1).val, hi1⟩ : S1024x32.Idx)
  rw [View.read_apply, e, flushed4] at hb
  refine hb.trans ((out4_apply m d t _ _).trans ?_)
  exact congrArg (fun r => decayAt m d r (i 1)) (Fin.ext (by show 1024 * t.val + (i 0).val % 1024 = (i 0).val; rw [ht]; omega))

end Cert.GatesIdeal.Gate

end
-- ==== Proof.GatesRef.lean ====
/- The reference's gates over the reals, entry by entry. -/
module

public import proofs.«01_k».proof.Proof.Gen.GatesReferenceIdeal.Run
public import Idealize.ShloMosaic.Lib.Pointwise

@[expose] public section

set_option maxRecDepth 16384

noncomputable section

namespace Cert.GatesReferenceIdeal.Gate

open Idealize.ShloMosaic Idealize.ShloMosaic.TcCoe Idealize.ShloMosaic.Pointwise Idealize.SL.Sem
open Cert.GatesReferenceIdeal Cert.GatesReferenceIdeal.Gen Cert.GatesReferenceIdeal.Value

variable (m : (ℓ : Loc nD τ sig) → Buf (Elt Ideal) ℓ)

def strengthAt (d : Dev nD) (r : Fin 8192) (k : Fin 32) : EReal :=
  Ideal.logistic (m ((d : Thread nD τ).loc main_arg0) (ix2 r ⟨k.val, by omega⟩))

def logDecay (a x b : EReal) : EReal :=
  (0 - Ideal.exp a) * (max (x + b) 0 + Ideal.log1p (Ideal.exp (0 - FloatOps.absf (F := Ideal) (φ := .f32) (x + b))))

def decayAt (d : Dev nD) (r : Fin 8192) (k : Fin 32) : EReal :=
  logDecay (m ((d : Thread nD τ).loc main_arg1) (ix2 0 k))
    (m ((d : Thread nD τ).loc main_arg0) (ix2 r ⟨32 + k.val, by omega⟩)) (m ((d : Thread nD τ).loc main_arg2) (ix2 0 k))

/-- The reference's run, its two results read entry by entry. -/
theorem run_at (ρ : Dev nD → PrngReg) : θ_run defs (onTc (τ := τ) (main (F := Ideal))) ⟨m, fun _ => 0, ρ⟩ fun s => ∀ c : Dev nD,
      (∀ (r : Fin 8192) (k : Fin 32), s.2.mem ((c : Thread nD τ).loc main_v7) (ix2 r k) = strengthAt m c r k)
        ∧ (∀ (r : Fin 8192) (k : Fin 32), s.2.mem ((c : Thread nD τ).loc main_v20) (ix2 r k) = decayAt m c r k)
        ∧ s.2.mem ((c : Thread nD τ).loc main_arg0) = m ((c : Thread nD τ).loc main_arg0)
        ∧ s.2.mem ((c : Thread nD τ).loc main_arg1) = m ((c : Thread nD τ).loc main_arg1)
        ∧ s.2.mem ((c : Thread nD τ).loc main_arg2) = m ((c : Thread nD τ).loc main_arg2) := by
  refine (θ_run defs _ _).mono (fun _ h c => ⟨fun k r => (congrFun (h c).1 _).trans ?_, fun k r => (congrFun (h c).2.1 _).trans ?_,
    (h c).2.2⟩) (Value.run (F := Ideal) m ρ)
  · pointwise [strengthAt, Ideal.logistic]
  · pointwise []
    unfold decayAt logDecay
    rw [if_neg (fun h => h rfl), zero_sub, zero_sub]

end Cert.GatesReferenceIdeal.Gate

end
-- ==== Proof.lean ====
/- The certificate: the frames as generated, each reference's frame from its run, and each kernel's result array beside its
   reference's. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.FfnFirst.Frame
public import proofs.«01_k».proof.Proof.Gen.FfnFirstIdeal.Value
public import proofs.«01_k».proof.Proof.Gen.FfnFirstReferenceIdeal.Run
public import proofs.«01_k».proof.Proof.Gen.FfnLast.Frame
public import proofs.«01_k».proof.Proof.Gen.FfnLastIdeal.Value
public import proofs.«01_k».proof.Proof.Gen.FfnLastReferenceIdeal.Run
public import proofs.«01_k».proof.Proof.Gen.GdnIn.Frame
public import proofs.«01_k».proof.Proof.Gen.GdnInIdeal.Value
public import proofs.«01_k».proof.Proof.Gen.GdnInReferenceIdeal.Run
public import proofs.«01_k».proof.Proof.Gen.GdnOut.Frame
public import proofs.«01_k».proof.Proof.Gen.GdnOutIdeal.Value
public import proofs.«01_k».proof.Proof.Gen.GdnOutReferenceIdeal.Run
public import proofs.«01_k».proof.Proof.Gen.MobaOut.Frame
public import proofs.«01_k».proof.Proof.Gen.MobaOutIdeal.Value
public import proofs.«01_k».proof.Proof.Gen.MobaOutReferenceIdeal.Run
public import proofs.«01_k».proof.Proof.Gen.SharedKv.Frame
public import proofs.«01_k».proof.Proof.Gen.SharedKvIdeal.Value
public import proofs.«01_k».proof.Proof.Gen.SharedKvReferenceIdeal.Run
public import proofs.«01_k».proof.Proof.Gen.MobaQ.Frame
public import proofs.«01_k».proof.Proof.Gen.MobaQIdeal.Value
public import proofs.«01_k».proof.Proof.Gen.MobaQReferenceIdeal.Run
public import proofs.«01_k».proof.Proof.Gen.Gates.Frame
public import proofs.«01_k».proof.Proof.Gen.GatesIdeal.Value
public import proofs.«01_k».proof.Proof.Gen.GatesReferenceIdeal.Run
public import Idealize.ShloMosaic.Adequacy
public import Idealize.ShloMosaic.Init
public import Idealize.ShloMosaic.Lib.Quiescent
public import proofs.«01_k».proof.Proof.ScanRef
public import proofs.«01_k».proof.Proof.FfnFirstRun
public import proofs.«01_k».proof.Proof.FfnFirstRef
public import proofs.«01_k».proof.Proof.FfnLastRun
public import proofs.«01_k».proof.Proof.FfnLastRef
public import proofs.«01_k».proof.Proof.GdnInRun
public import proofs.«01_k».proof.Proof.GdnInRef
public import proofs.«01_k».proof.Proof.GdnOutRun
public import proofs.«01_k».proof.Proof.GdnOutRef
public import proofs.«01_k».proof.Proof.MobaOutRun
public import proofs.«01_k».proof.Proof.MobaOutRef
public import proofs.«01_k».proof.Proof.SharedKvRun
public import proofs.«01_k».proof.Proof.SharedKvRef
public import proofs.«01_k».proof.Proof.MobaQRun
public import proofs.«01_k».proof.Proof.MobaQRef
public import proofs.«01_k».proof.Proof.GatesRun
public import proofs.«01_k».proof.Proof.GatesRef

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5⟩ := hagree c
  rw [(h c).1]
  refine funext fun i => ?_
  have hi0 : (i 0).val < 8192 := (i 0).isLt
  have hi1 : (i 1).val < 4096 := (i 1).isLt
  refine (congrArg _ (eq_ix2 i)).trans ((Cert.ReferenceIdeal.Scan.result_apply m' c (i 0) (i 1)).trans (Eq.symm
    ((Cert.KernelIdeal.Scan.result_apply m c ⟨(i 0).val / 64, by omega⟩ ⟨(i 0).val % 64, by omega⟩ ⟨(i 1).val / 128, by omega⟩
      ⟨(i 1).val % 128, by omega⟩ i (by show _ = 64 * ((i 0).val / 64) + (i 0).val % 64; omega)
      (by show _ = 128 * ((i 1).val / 128) + (i 1).val % 128; omega)).trans ?_)))
  unfold Cert.KernelIdeal.Scan.resultAt Cert.KernelIdeal.Scan.seqOf Cert.ReferenceIdeal.Scan.seqOf
  rw [h0, h1, h2, h3, h4, h5]
  have e : (ix2 ⟨64 * ((i 0).val / 64) + (i 0).val % 64, by omega⟩ ⟨8192 + (128 * ((i 1).val / 128) + (i 1).val % 128), by omega⟩
      : Cert.KernelIdeal.S8192x12288.Idx) = ix2 (i 0) ⟨8192 + (i 1).val, by omega⟩ :=
    congrArg₂ ix2 (Fin.ext (by show 64 * ((i 0).val / 64) + (i 0).val % 64 = (i 0).val; omega))
      (Fin.ext (by show 8192 + (128 * ((i 1).val / 128) + (i 1).val % 128) = 8192 + (i 1).val; omega))
  rw [e]
  rfl

theorem quiescent_FfnFirstReferenceIdeal : quiescent_FfnFirstReferenceIdeal := fun m ρ _ =>
  (θ_run Cert.FfnFirstReferenceIdeal.defs _ _).mono (fun r h => ⟨fun c => (h c).2, sem_eq_zero_of_no_sems (by decide) r.2⟩)
    (Cert.FfnFirstReferenceIdeal.Value.run (F := Ideal) m ρ)

theorem algebraic_FfnFirstIdeal_FfnFirstReferenceIdeal : algebraic_FfnFirstIdeal_FfnFirstReferenceIdeal := by
  intro m ρ m' ρ' _ hagree
  refine ⟨_, Cert.FfnFirstIdeal.Value.run (F := Ideal) m ρ, ?_⟩
  refine (θ_run Cert.FfnFirstReferenceIdeal.defs _ _).mono (fun _ h c => ⟨?_, (h c).2⟩)
    (Cert.FfnFirstReferenceIdeal.Ffn.run_at m' ρ')
  obtain ⟨h0, h1, h2, h3⟩ := hagree c
  refine funext fun i => ?_
  refine (congrArg _ (eq_ix2 i)).trans (((h c).1 (i 0) (i 1)).trans (Eq.symm
    ((Cert.FfnFirstIdeal.Ffn.result_apply m c i).trans ?_)))
  unfold Cert.FfnFirstIdeal.Ffn.resultAt Cert.FfnFirstReferenceIdeal.Ffn.resultAt
  simp only [Cert.Rows.partSum_all]
  unfold Cert.FfnFirstReferenceIdeal.Ffn.normedOf Cert.FfnFirstReferenceIdeal.Ffn.winOf Cert.FfnFirstReferenceIdeal.Ffn.woutOf
    Cert.FfnFirstReferenceIdeal.Ffn.rowOf
  rw [h0, h1, h2, h3]
  rfl

theorem quiescent_FfnLastReferenceIdeal : quiescent_FfnLastReferenceIdeal := fun m ρ _ =>
  (θ_run Cert.FfnLastReferenceIdeal.defs _ _).mono (fun r h => ⟨fun c => (h c).2, sem_eq_zero_of_no_sems (by decide) r.2⟩)
    (Cert.FfnLastReferenceIdeal.Value.run (F := Ideal) m ρ)

theorem algebraic_FfnLastIdeal_FfnLastReferenceIdeal : algebraic_FfnLastIdeal_FfnLastReferenceIdeal := by
  intro m ρ m' ρ' _ hagree
  refine ⟨_, Cert.FfnLastIdeal.Value.run (F := Ideal) m ρ, ?_⟩
  refine (θ_run Cert.FfnLastReferenceIdeal.defs _ _).mono (fun _ h c => ⟨?_, (h c).2⟩)
    (Cert.FfnLastReferenceIdeal.Value.run (F := Ideal) m' ρ')
  obtain ⟨h0, h1, h2, h3, h4⟩ := hagree c
  rw [(h c).1]
  refine funext fun i => ?_
  refine (congrArg _ (eq_ix2 i)).trans ((Cert.FfnLastReferenceIdeal.Ffn.result_apply m' c (i 0) (i 1)).trans (Eq.symm
    ((Cert.FfnLastIdeal.Ffn.result_apply m c i).trans ?_)))
  unfold Cert.FfnLastIdeal.Ffn.resultAt Cert.FfnLastReferenceIdeal.Ffn.resultAt
  simp only [Cert.Rows.partSum_all]
  unfold Cert.FfnLastReferenceIdeal.Ffn.normedOf Cert.FfnLastReferenceIdeal.Ffn.winOf Cert.FfnLastReferenceIdeal.Ffn.woutOf
    Cert.FfnLastReferenceIdeal.Ffn.rowOf
  rw [h0, h1, h2, h3, h4]
  rfl

theorem quiescent_GdnInReferenceIdeal : quiescent_GdnInReferenceIdeal := fun m ρ _ =>
  (θ_run Cert.GdnInReferenceIdeal.defs _ _).mono (fun r h => ⟨fun c => (h c).2.2, sem_eq_zero_of_no_sems (by decide) r.2⟩)
    (Cert.GdnInReferenceIdeal.Value.run (F := Ideal) m ρ)

theorem algebraic_GdnInIdeal_GdnInReferenceIdeal : algebraic_GdnInIdeal_GdnInReferenceIdeal := by
  intro m ρ m' ρ' _ hagree
  refine ⟨_, _, Cert.GdnInIdeal.Value.run (F := Ideal) m ρ, ?_⟩
  refine (θ_run Cert.GdnInReferenceIdeal.defs _ _).mono (fun _ h c => ⟨?_, ?_, (h c).2.2⟩) (Cert.GdnInReferenceIdeal.Proj.run_at m' ρ')
  · obtain ⟨h0, h1, h2⟩ := hagree c
    refine funext fun i => ?_
    refine (congrArg _ (eq_ix2 i)).trans (((h c).1 (i 0) (i 1)).trans (Eq.symm ((Cert.GdnInIdeal.Proj.main_apply m c i).trans ?_)))
    unfold Cert.GdnInIdeal.Proj.resultAt Cert.GdnInReferenceIdeal.Proj.resultAt Cert.GdnInReferenceIdeal.Proj.normedOf
    rw [h0, h1, h2]
    rfl
  · obtain ⟨h0, h1, h2⟩ := hagree c
    refine funext fun i => ?_
    refine (congrArg _ (eq_ix2 i)).trans (((h c).2.1 (i 0) (i 1)).trans (Eq.symm ((Cert.GdnInIdeal.Proj.tail_apply m c i).trans ?_)))
    unfold Cert.GdnInIdeal.Proj.resultAt Cert.GdnInReferenceIdeal.Proj.resultAt Cert.GdnInReferenceIdeal.Proj.normedOf
    rw [h0, h1, h2]
    rfl

theorem quiescent_GdnOutReferenceIdeal : quiescent_GdnOutReferenceIdeal := fun m ρ _ =>
  (θ_run Cert.GdnOutReferenceIdeal.defs _ _).mono (fun r h => ⟨fun c => (h c).2, sem_eq_zero_of_no_sems (by decide) r.2⟩)
    (Cert.GdnOutReferenceIdeal.Value.run (F := Ideal) m ρ)

theorem algebraic_GdnOutIdeal_GdnOutReferenceIdeal : algebraic_GdnOutIdeal_GdnOutReferenceIdeal := by
  intro m ρ m' ρ' _ hagree
  refine ⟨_, Cert.GdnOutIdeal.Value.run_blocks (F := Ideal) m ρ, ?_⟩
  refine (θ_run Cert.GdnOutReferenceIdeal.defs _ _).mono (fun _ h c => ⟨?_, (h c).2⟩) (Cert.GdnOutReferenceIdeal.Proj.run_at m' ρ')
  obtain ⟨h0, h1, h2⟩ := hagree c
  refine funext fun i => ?_
  refine (congrArg _ (eq_ix2 i)).trans (((h c).1 (i 0) (i 1)).trans (Eq.symm ((Cert.GdnOutIdeal.Proj.result_apply m c i).trans ?_)))
  unfold Cert.GdnOutIdeal.Proj.resultAt Cert.GdnOutReferenceIdeal.Proj.resultAt
  rw [h0, h1, h2]

theorem quiescent_MobaOutReferenceIdeal : quiescent_MobaOutReferenceIdeal := fun m ρ _ =>
  (θ_run Cert.MobaOutReferenceIdeal.defs _ _).mono (fun r h => ⟨fun c => (h c).2, sem_eq_zero_of_no_sems (by decide) r.2⟩)
    (Cert.MobaOutReferenceIdeal.Value.run (F := Ideal) m ρ)

theorem algebraic_MobaOutIdeal_MobaOutReferenceIdeal : algebraic_MobaOutIdeal_MobaOutReferenceIdeal := by
  intro m ρ m' ρ' _ hagree
  refine ⟨_, Cert.MobaOutIdeal.Value.run_blocks (F := Ideal) m ρ, ?_⟩
  refine (θ_run Cert.MobaOutReferenceIdeal.defs _ _).mono (fun _ h c => ⟨?_, (h c).2⟩) (Cert.MobaOutReferenceIdeal.Proj.run_at m' ρ')
  obtain ⟨h0, h1, h2⟩ := hagree c
  refine funext fun i => ?_
  refine (congrArg _ (eq_ix2 i)).trans (((h c).1 (i 0) (i 1)).trans (Eq.symm ((Cert.MobaOutIdeal.Proj.result_apply m c i).trans ?_)))
  unfold Cert.MobaOutIdeal.Proj.resultAt Cert.MobaOutReferenceIdeal.Proj.resultAt
  rw [h0, h1, h2]

theorem quiescent_SharedKvReferenceIdeal : quiescent_SharedKvReferenceIdeal := fun m ρ _ =>
  (θ_run Cert.SharedKvReferenceIdeal.defs _ _).mono (fun r h => ⟨fun c => (h c).2.2.2, sem_eq_zero_of_no_sems (by decide) r.2⟩)
    (Cert.SharedKvReferenceIdeal.Value.run (F := Ideal) m ρ)

theorem algebraic_SharedKvIdeal_SharedKvReferenceIdeal : algebraic_SharedKvIdeal_SharedKvReferenceIdeal := by
  intro m ρ m' ρ' _ hagree
  refine ⟨_, _, _, Cert.SharedKvIdeal.Value.run_blocks (F := Ideal) m ρ, ?_⟩
  refine (θ_run Cert.SharedKvReferenceIdeal.defs _ _).mono (fun _ h c => ⟨?_, ?_, ?_, (h c).2.2.2⟩) (Cert.SharedKvReferenceIdeal.Shared.run_at m' ρ')
  · obtain ⟨h0, h1, h2⟩ := hagree c
    refine funext fun i => ?_
    refine (congrArg _ (eq_ix2 i)).trans (((h c).1 (i 0) (i 1)).trans (Eq.symm ((Cert.SharedKvIdeal.Shared.keys_apply m c i).trans ?_)))
    unfold Cert.SharedKvIdeal.Shared.keyAt Cert.SharedKvReferenceIdeal.Shared.keyAt Cert.SharedKvIdeal.Shared.normedOf Cert.SharedKvReferenceIdeal.Shared.normedOf
    rw [h0, h1, h2]
  · obtain ⟨h0, h1, h2⟩ := hagree c
    refine funext fun i => ?_
    refine (congrArg _ (eq_ix2 i)).trans (((h c).2.1 (i 0) (i 1)).trans (Eq.symm ((Cert.SharedKvIdeal.Shared.values_apply m c i).trans ?_)))
    unfold Cert.SharedKvIdeal.Shared.valueAt Cert.SharedKvReferenceIdeal.Shared.valueAt Cert.SharedKvIdeal.Shared.normedOf Cert.SharedKvReferenceIdeal.Shared.normedOf
    rw [h0, h1, h2]
  · obtain ⟨h0, h1, h2⟩ := hagree c
    refine funext fun i => ?_
    have h1i : i 1 = (0 : Fin 1) := Fin.ext (Nat.lt_one_iff.mp (i 1).isLt)
    have e : i = ix3 (i 0) (0 : Fin 1) (i 2) := (eq_ix3 i).trans (congrArg (fun q : Fin 1 => ix3 (i 0) q (i 2)) h1i)
    refine (congrArg _ e).trans (((h c).2.2.1 (i 0) (i 2)).trans (Eq.symm ((Cert.SharedKvIdeal.Shared.means_apply m c i).trans ?_)))
    unfold Cert.SharedKvIdeal.Shared.meanAt Cert.SharedKvReferenceIdeal.Shared.meanAt Cert.SharedKvIdeal.Shared.keyAt Cert.SharedKvReferenceIdeal.Shared.keyAt Cert.SharedKvIdeal.Shared.normedOf Cert.SharedKvReferenceIdeal.Shared.normedOf
    rw [h0, h1, h2]

theorem quiescent_MobaQReferenceIdeal : quiescent_MobaQReferenceIdeal := fun m ρ _ =>
  (θ_run Cert.MobaQReferenceIdeal.defs _ _).mono (fun r h => ⟨fun c => (h c).2, sem_eq_zero_of_no_sems (by decide) r.2⟩)
    (Cert.MobaQReferenceIdeal.Value.run (F := Ideal) m ρ)

theorem algebraic_MobaQIdeal_MobaQReferenceIdeal : algebraic_MobaQIdeal_MobaQReferenceIdeal := by
  intro m ρ m' ρ' _ hagree
  refine ⟨_, Cert.MobaQIdeal.Value.run (F := Ideal) m ρ, ?_⟩
  refine (θ_run Cert.MobaQReferenceIdeal.defs _ _).mono (fun _ h c => ⟨?_, (h c).2⟩) (Cert.MobaQReferenceIdeal.Proj.run_at m' ρ')
  · obtain ⟨h0, h1, h2⟩ := hagree c
    refine funext fun i => ?_
    refine (congrArg _ (eq_ix2 i)).trans (((h c).1 (i 0) (i 1)).trans (Eq.symm ((Cert.MobaQIdeal.Proj.result_apply m c i).trans ?_)))
    unfold Cert.MobaQIdeal.Proj.resultAt Cert.MobaQReferenceIdeal.Proj.resultAt Cert.MobaQIdeal.Proj.normedOf Cert.MobaQReferenceIdeal.Proj.normedOf
    rw [h0, h1, h2]

theorem quiescent_GatesReferenceIdeal : quiescent_GatesReferenceIdeal := fun m ρ _ =>
  (θ_run Cert.GatesReferenceIdeal.defs _ _).mono (fun r h => ⟨fun c => (h c).2.2, sem_eq_zero_of_no_sems (by decide) r.2⟩)
    (Cert.GatesReferenceIdeal.Value.run (F := Ideal) m ρ)

theorem algebraic_GatesIdeal_GatesReferenceIdeal : algebraic_GatesIdeal_GatesReferenceIdeal := by
  intro m ρ m' ρ' _ hagree
  refine ⟨_, _, Cert.GatesIdeal.Value.run_blocks (F := Ideal) m ρ, ?_⟩
  refine (θ_run Cert.GatesReferenceIdeal.defs _ _).mono (fun _ h c => ⟨?_, ?_, (h c).2.2⟩) (Cert.GatesReferenceIdeal.Gate.run_at m' ρ')
  · obtain ⟨h0, -, -⟩ := hagree c
    refine funext fun i => ?_
    refine (congrArg _ (eq_ix2 i)).trans (((h c).1 (i 0) (i 1)).trans (Eq.symm ((Cert.GatesIdeal.Gate.strength_apply m c i).trans ?_)))
    unfold Cert.GatesIdeal.Gate.strengthAt Cert.GatesReferenceIdeal.Gate.strengthAt
    rw [h0]
  · obtain ⟨h0, h1, h2⟩ := hagree c
    refine funext fun i => ?_
    refine (congrArg _ (eq_ix2 i)).trans (((h c).2.1 (i 0) (i 1)).trans (Eq.symm ((Cert.GatesIdeal.Gate.decay_apply m c i).trans ?_)))
    unfold Cert.GatesIdeal.Gate.decayAt Cert.GatesReferenceIdeal.Gate.decayAt
    rw [h0, h1, h2]
    rfl

theorem claim : Cert.Claim := ⟨
  Cert.Kernel.Gen.facts,
  Cert.KernelIdeal.Gen.facts,
  Cert.ReferenceIdeal.Gen.facts,
  Cert.FfnFirst.Gen.facts,
  Cert.FfnFirstIdeal.Gen.facts,
  Cert.FfnFirstReferenceIdeal.Gen.facts,
  Cert.FfnLast.Gen.facts,
  Cert.FfnLastIdeal.Gen.facts,
  Cert.FfnLastReferenceIdeal.Gen.facts,
  Cert.GdnIn.Gen.facts,
  Cert.GdnInIdeal.Gen.facts,
  Cert.GdnInReferenceIdeal.Gen.facts,
  Cert.GdnOut.Gen.facts,
  Cert.GdnOutIdeal.Gen.facts,
  Cert.GdnOutReferenceIdeal.Gen.facts,
  Cert.MobaOut.Gen.facts,
  Cert.MobaOutIdeal.Gen.facts,
  Cert.MobaOutReferenceIdeal.Gen.facts,
  Cert.SharedKv.Gen.facts,
  Cert.SharedKvIdeal.Gen.facts,
  Cert.SharedKvReferenceIdeal.Gen.facts,
  Cert.MobaQ.Gen.facts,
  Cert.MobaQIdeal.Gen.facts,
  Cert.MobaQReferenceIdeal.Gen.facts,
  Cert.Gates.Gen.facts,
  Cert.GatesIdeal.Gen.facts,
  Cert.GatesReferenceIdeal.Gen.facts,
  fun m ρ _ => Cert.Kernel.Gen.frame m ρ,
  fun m ρ _ => Cert.KernelIdeal.Gen.frame m ρ,
  quiescent_ReferenceIdeal,
  fun m ρ _ => Cert.FfnFirst.Gen.frame m ρ,
  fun m ρ _ => Cert.FfnFirstIdeal.Gen.frame m ρ,
  quiescent_FfnFirstReferenceIdeal,
  fun m ρ _ => Cert.FfnLast.Gen.frame m ρ,
  fun m ρ _ => Cert.FfnLastIdeal.Gen.frame m ρ,
  quiescent_FfnLastReferenceIdeal,
  fun m ρ _ => Cert.GdnIn.Gen.frame m ρ,
  fun m ρ _ => Cert.GdnInIdeal.Gen.frame m ρ,
  quiescent_GdnInReferenceIdeal,
  fun m ρ _ => Cert.GdnOut.Gen.frame m ρ,
  fun m ρ _ => Cert.GdnOutIdeal.Gen.frame m ρ,
  quiescent_GdnOutReferenceIdeal,
  fun m ρ _ => Cert.MobaOut.Gen.frame m ρ,
  fun m ρ _ => Cert.MobaOutIdeal.Gen.frame m ρ,
  quiescent_MobaOutReferenceIdeal,
  fun m ρ _ => Cert.SharedKv.Gen.frame m ρ,
  fun m ρ _ => Cert.SharedKvIdeal.Gen.frame m ρ,
  quiescent_SharedKvReferenceIdeal,
  fun m ρ _ => Cert.MobaQ.Gen.frame m ρ,
  fun m ρ _ => Cert.MobaQIdeal.Gen.frame m ρ,
  quiescent_MobaQReferenceIdeal,
  fun m ρ _ => Cert.Gates.Gen.frame m ρ,
  fun m ρ _ => Cert.GatesIdeal.Gen.frame m ρ,
  quiescent_GatesReferenceIdeal,
  (trivial : preserves_Kernel_KernelIdeal),
  algebraic_KernelIdeal_ReferenceIdeal,
  (trivial : preserves_FfnFirst_FfnFirstIdeal),
  algebraic_FfnFirstIdeal_FfnFirstReferenceIdeal,
  (trivial : preserves_FfnLast_FfnLastIdeal),
  algebraic_FfnLastIdeal_FfnLastReferenceIdeal,
  (trivial : preserves_GdnIn_GdnInIdeal),
  algebraic_GdnInIdeal_GdnInReferenceIdeal,
  (trivial : preserves_GdnOut_GdnOutIdeal),
  algebraic_GdnOutIdeal_GdnOutReferenceIdeal,
  (trivial : preserves_MobaOut_MobaOutIdeal),
  algebraic_MobaOutIdeal_MobaOutReferenceIdeal,
  (trivial : preserves_SharedKv_SharedKvIdeal),
  algebraic_SharedKvIdeal_SharedKvReferenceIdeal,
  (trivial : preserves_MobaQ_MobaQIdeal),
  algebraic_MobaQIdeal_MobaQReferenceIdeal,
  (trivial : preserves_Gates_GatesIdeal),
  algebraic_GatesIdeal_GatesReferenceIdeal⟩

end Cert.Proof

end
